-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_a_half : Cert.Pre_a_half.Facts] (m : (ℓ : Loc Cert.Kernel5.nD Cert.Kernel5.τ Cert.Kernel5.sig) → Buf (Elt Bits) ℓ) : Prop :=
  ∀ c : Dev Cert.Kernel5.nD,
    (Cert.Pre_a_half.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))).1 = (fun _ => 1#1)
    ∧ (Cert.Pre_a_half.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))).2 = (fun _ => 1#1)

def Pre_Kernel5Ideal [hPre_a_half : Cert.Pre_a_half.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_a_half.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_a_half.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_a_half [hPre_a_half : Cert.Pre_a_half.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_a_half.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_a_half.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] [hPre_a_half : Cert.Pre_a_half.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_a_half : Cert.Pre_a_half.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_a_half [hReference5Ideal : Cert.Reference5Ideal.Facts] [hPre_a_half : Cert.Pre_a_half.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_a_half m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] [hPre_a_half : Cert.Pre_a_half.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v78) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_a_half : Cert.Pre_a_half.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_a_half := hPre_a_half)
    ∧ quiescent_Kernel5Ideal (hKernel5Ideal := hKernel5Ideal) (hPre_a_half := hPre_a_half)
    ∧ quiescent_Reference5Ideal (hReference5Ideal := hReference5Ideal)
    ∧ quiescent_Reference5Ideal_pre_a_half (hReference5Ideal := hReference5Ideal) (hPre_a_half := hPre_a_half)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_a_half := hPre_a_half)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_a_half.lean ====
abbrev S4096x4096 : Shape := ⟨2, ![4096, 4096]⟩
abbrev S256x4096 : Shape := ⟨2, ![256, 4096]⟩
abbrev S4096x9216 : Shape := ⟨2, ![4096, 9216]⟩
abbrev S256x1024 : Shape := ⟨2, ![256, 1024]⟩
abbrev S_ : Shape := ⟨0, ![]⟩

class Facts : Prop where

variable [Facts]

def fn {F : FTy → Type} [FloatOps F] (main_arg0 : FVec F S4096x4096 .f32) (main_arg1 : FVec F S256x4096 .f32) (main_arg2 : FVec F S4096x9216 .f32) (main_arg3 : FVec F S4096x9216 .f32) (main_arg4 : FVec F S256x1024 .f32) (main_arg5 : IVec S_ 32) : IVec S_ 1 × IVec S_ 1 :=
  let main_c : IVec S_ 32 := constantI S_ 32 0#32
  let main_v0 : IVec S_ 1 := cmpi .sge main_arg5 main_c
  let main_c_0 : IVec S_ 32 := constantI S_ 32 2#32
  let main_v1 : IVec S_ 1 := cmpi .slt main_arg5 main_c_0
  (main_v0, main_v1)
-- ==== Pre_finite.lean ====
abbrev S4096x2048 : Shape := ⟨2, ![4096, 2048]⟩
abbrev S4352x512 : Shape := ⟨2, ![4352, 512]⟩
abbrev S4352x9216 : Shape := ⟨2, ![4352, 9216]⟩
abbrev S4096x4096 : Shape := ⟨2, ![4096, 4096]⟩
abbrev S_ : Shape := ⟨0, ![]⟩

class Facts : Prop where
  slices_S4352x9216_S4352x512_0_2560 : S4352x9216.Slices ![0, 2560] S4352x512
  bcast_S_S4096x2048 : S_.BroadcastsInDim S4096x2048 (![] : Fin 0 → Fin S4096x2048.rank)
  bcast_S_S4352x512 : S_.BroadcastsInDim S4352x512 (![] : Fin 0 → Fin S4352x512.rank)
  slices_S4096x4096_S4096x2048_0_0 : S4096x4096.Slices ![0, 0] S4096x2048

variable [Facts]

def fn {F : FTy → Type} [FloatOps F] (main_arg0 : FVec F S4096x2048 .f32) (main_arg1 : FVec F S4352x512 .f32) (main_arg2 : FVec F S4352x9216 .f32) (main_arg3 : FVec F S4096x4096 .f32) (main_arg4 : FVec F S4352x9216 .bf16) : IVec S4096x2048 1 × IVec S4352x512 1 × IVec S4352x512 1 × IVec S4096x2048 1 :=
  let main_v0 : FVec F S4352x512 .f32 := (extractStridedSlice S4352x512 ![0, 2560] · slices_S4352x9216_S4352x512_0_2560) main_arg2
  let main_v1 : FVec F S4096x2048 .f32 := Host.absf main_arg0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4352x512 .f32 := Host.absf main_arg1
  let main_cst_0 : FVec F S_ .f32 := constant S_ .f32 0x7F800000#32
  let main_v5 : FVec F S4352x512 .f32 := broadcastInDim S4352x512 ![] bcast_S_S4352x512 main_cst_0
  let main_v6 : IVec S4352x512 1 := cmpf .olt main_v4 main_v5
  let main_v7 : FVec F S4352x512 .f32 := Host.absf main_v0
  let main_cst_1 : FVec F S_ .f32 := constant S_ .f32 0x7F800000#32
  let main_v8 : FVec F S4352x512 .f32 := broadcastInDim S4352x512 ![] bcast_S_S4352x512 main_cst_1
  let main_v9 : IVec S4352x512 1 := cmpf .olt main_v7 main_v8
  let main_v10 : FVec F S4096x2048 .f32 := (extractStridedSlice S4096x2048 ![0, 0] · slices_S4096x4096_S4096x2048_0_0) main_arg3
  let main_v11 : FVec F S4096x2048 .f32 := Host.absf main_v10
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  (main_v3, main_v6, main_v9, main_v13)
-- ==== Kernel.lean ====
abbrev S4096x2048 : Shape := ⟨2, ![4096, 2048]⟩
abbrev S4352x512 : Shape := ⟨2, ![4352, 512]⟩
abbrev S4352x9216 : Shape := ⟨2, ![4352, 9216]⟩
abbrev S4096x4096 : Shape := ⟨2, ![4096, 4096]⟩
abbrev S4096x4x4x128 : Shape := ⟨4, ![4096, 4, 4, 128]⟩
abbrev S4352x4x128 : Shape := ⟨3, ![4352, 4, 128]⟩
abbrev S4x4352x4096x4 : Shape := ⟨4, ![4, 4352, 4096, 4]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4096x4x4 : Shape := ⟨3, ![4096, 4, 4]⟩
abbrev S4x4x1x1x4096 : Shape := ⟨5, ![4, 4, 1, 1, 4096]⟩
abbrev S4x1x4x128x4096 : Shape := ⟨5, ![4, 1, 4, 128, 4096]⟩
abbrev S4096x512 : Shape := ⟨2, ![4096, 512]⟩
abbrev S256x128 : Shape := ⟨2, ![256, 128]⟩
abbrev S1x4x1x1x4096 : Shape := ⟨5, ![1, 4, 1, 1, 4096]⟩
abbrev S1x1x4x128x4096 : Shape := ⟨5, ![1, 1, 4, 128, 4096]⟩
abbrev S128x256 : Shape := ⟨2, ![128, 256]⟩
abbrev S4096x128 : Shape := ⟨2, ![4096, 128]⟩
abbrev S256x4096 : Shape := ⟨2, ![256, 4096]⟩
abbrev S1x1x1x1x4096 : Shape := ⟨5, ![1, 1, 1, 1, 4096]⟩
abbrev S1x4096 : Shape := ⟨2, ![1, 4096]⟩
abbrev S1x1x1x128x4096 : Shape := ⟨5, ![1, 1, 1, 128, 4096]⟩
abbrev S128x4096 : Shape := ⟨2, ![128, 4096]⟩

abbrev nBuf : Space → Nat
  | .hbm => 60
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4352x512, .f32⟩
  | .hbm, ⟨2, _⟩ => ⟨S4352x9216, .f32⟩
  | .hbm, ⟨3, _⟩ => ⟨S4096x4096, .f32⟩
  | .hbm, ⟨4, _⟩ => ⟨S4352x9216, .bf16⟩
  | .hbm, ⟨5, _⟩ => ⟨S4352x512, .f32⟩
  | .hbm, ⟨6, _⟩ => ⟨S4096x4x4x128, .f32⟩
  | .hbm, ⟨7, _⟩ => ⟨S4352x4x128, .f32⟩
  | .hbm, ⟨8, _⟩ => ⟨S4352x4x128, .f32⟩
  | .hbm, ⟨9, _⟩ => ⟨S4x4352x4096x4, .f32⟩
  | .hbm, ⟨10, _⟩ => ⟨S4x4x4096x4352, .f32⟩
  | .hbm, ⟨11, _⟩ => ⟨S_, .f32⟩
  | .hbm, ⟨12, _⟩ => ⟨S4x4x4096x4352, .f32⟩
  | .hbm, ⟨13, _⟩ => ⟨S4x4x4096x4352, .f32⟩
  | .hbm, ⟨14, _⟩ => ⟨S_, .f32⟩
  | .hbm, ⟨15, _⟩ => ⟨S4x4x4096, .f32⟩
  | .hbm, ⟨16, _⟩ => ⟨S4x4x4096x1, .f32⟩
  | .hbm, ⟨17, _⟩ => ⟨S4x4x4096x4352, .f32⟩
  | .hbm, ⟨18, _⟩ => ⟨S4x4x4096x4352, .f32⟩
  | .hbm, ⟨19, _⟩ => ⟨S4x4x4096x4352, .f32⟩
  | .hbm, ⟨20, _⟩ => ⟨S_, .f32⟩
  | .hbm, ⟨21, _⟩ => ⟨S4x4x4096, .f32⟩
  | .hbm, ⟨22, _⟩ => ⟨S4x4x4096x1, .f32⟩
  | .hbm, ⟨23, _⟩ => ⟨S4x4x4096x4352, .f32⟩
  | .hbm, ⟨24, _⟩ => ⟨S4x4x4096x4352, .f32⟩
  | .hbm, ⟨25, _⟩ => ⟨S4x4x4096x4352, .f32⟩
  | .hbm, ⟨26, _⟩ => ⟨S4x4x4096x4352, .f32⟩
  | .hbm, ⟨27, _⟩ => ⟨S4x4x4096x4352, .f32⟩
  | .hbm, ⟨28, _⟩ => ⟨S4x128x4x4096, .f32⟩
  | .hbm, ⟨29, _⟩ => ⟨S4096x4x4x128, .f32⟩
  | .hbm, ⟨30, _⟩ => ⟨S4096x4x4x128, .bf16⟩
  | .hbm, ⟨31, _⟩ => ⟨S4x4x4096x1, .f32⟩
  | .hbm, ⟨32, _⟩ => ⟨S4x4x4096x1, .f32⟩
  | .hbm, ⟨33, _⟩ => ⟨S_, .f32⟩
  | .hbm, ⟨34, _⟩ => ⟨S_, .f32⟩
  | .hbm, ⟨35, _⟩ => ⟨S4x4x4096x1, .f32⟩
  | .hbm, ⟨36, _⟩ => ⟨S4x4x4096x1, .f32⟩
  | .hbm, ⟨37, _⟩ => ⟨S4096x2048, .bf16⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x4x4x128, .f32⟩
  | .hbm, ⟨42, _⟩ => ⟨S_, .f32⟩
  | .hbm, ⟨43, _⟩ => ⟨S4096x4x4, .f32⟩
  | .hbm, ⟨44, _⟩ => ⟨S4x4x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S4096x4096, .bf16⟩
  | .hbm, ⟨53, _⟩ => ⟨S4352x512, .bf16⟩
  | .hbm, ⟨54, _⟩ => ⟨S4352x9216, .bf16⟩
  | .hbm, ⟨55, _⟩ => ⟨S4x4x1x1x4096, .f32⟩
  | .hbm, ⟨56, _⟩ => ⟨S4x4x1x1x4096, .f32⟩
  | .hbm, ⟨57, _⟩ => ⟨S4x1x4x128x4096, .f32⟩
  | .hbm, ⟨58, _⟩ => ⟨S4352x512, .f32⟩
  | .hbm, ⟨59, _⟩ => ⟨S4352x9216, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S1x4x1x1x4096, .f32⟩
  | .local _ .vmem, ⟨9, _⟩ => ⟨S1x4x1x1x4096, .f32⟩
  | .local _ .vmem, ⟨10, _⟩ => ⟨S1x4x1x1x4096, .f32⟩
  | .local _ .vmem, ⟨11, _⟩ => ⟨S1x4x1x1x4096, .f32⟩
  | .local _ .vmem, ⟨12, _⟩ => ⟨S1x1x4x128x4096, .f32⟩
  | .local _ .vmem, ⟨13, _⟩ => ⟨S1x1x4x128x4096, .f32⟩
  | .local _ .vmem, ⟨14, _⟩ => ⟨S256x128, .f32⟩
  | .local _ .vmem, ⟨15, _⟩ => ⟨S256x128, .f32⟩
  | .local _ .vmem, ⟨16, _⟩ => ⟨S256x128, .bf16⟩
  | .local _ .vmem, ⟨17, _⟩ => ⟨S256x128, .bf16⟩
  | .local _ .vmem, ⟨18, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 17], ![false, false]⟩

def k0_mult1 : BitVec 32 :=
  let c0_i32_9 : BitVec 32 := 0#32
  let c4096_i32 : BitVec 32 := 4096#32
  let v16 : BitVec 32 := Scalar.muli c0_i32_9 c4096_i32
  v16
def k0_off1 : Fin 2 → Nat :=
  let c0_i32_9 : BitVec 32 := 0#32
  let c4096_i32 : BitVec 32 := 4096#32
  let v16 : BitVec 32 := Scalar.muli c0_i32_9 c4096_i32
  let v17 : BitVec 32 := v16
  let v18 : Index := Scalar.indexCast v17
  let c0_10 : Index := 0#32
  ![v18.toNat, 0]
def k0_off2 : Fin 2 → Nat :=
  let c0_i32_9 : BitVec 32 := 0#32
  let c4096_i32 : BitVec 32 := 4096#32
  let v16 : BitVec 32 := Scalar.muli c0_i32_9 c4096_i32
  let v17 : BitVec 32 := v16
  let v51 : Index := Scalar.indexCast v17
  let c128 : Index := 128#32
  ![v51.toNat, 128]
def k0_off3 : Fin 2 → Nat :=
  let c0_i32_9 : BitVec 32 := 0#32
  let c4096_i32 : BitVec 32 := 4096#32
  let v16 : BitVec 32 := Scalar.muli c0_i32_9 c4096_i32
  let v17 : BitVec 32 := v16
  let v86 : Index := Scalar.indexCast v17
  let c256 : Index := 256#32
  ![v86.toNat, 256]
def k0_off4 : Fin 2 → Nat :=
  let c0_i32_9 : BitVec 32 := 0#32
  let c4096_i32 : BitVec 32 := 4096#32
  let v16 : BitVec 32 := Scalar.muli c0_i32_9 c4096_i32
  let v17 : BitVec 32 := v16
  let v121 : Index := Scalar.indexCast v17
  let c384 : Index := 384#32
  ![v121.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S4096x2048 : Shape := ⟨2, ![4096, 2048]⟩
abbrev S4352x512 : Shape := ⟨2, ![4352, 512]⟩
abbrev S4352x9216 : Shape := ⟨2, ![4352, 9216]⟩
abbrev S4096x4096 : Shape := ⟨2, ![4096, 4096]⟩
abbrev S1x4096x4x4x128 : Shape := ⟨5, ![1, 4096, 4, 4, 128]⟩
abbrev S1x4352x4x128 : Shape := ⟨4, ![1, 4352, 4, 128]⟩
abbrev S1x4x4352x4096x4 : Shape := ⟨5, ![1, 4, 4352, 4096, 4]⟩
abbrev S1x4x4x4096x4352 : Shape := ⟨5, ![1, 4, 4, 4096, 4352]⟩
abbrev S_ : Shape := ⟨0, ![]⟩
abbrev S1x4x4x4096 : Shape := ⟨4, ![1, 4, 4, 4096]⟩
abbrev S1x4x4x4096x1 : Shape := ⟨5, ![1, 4, 4, 4096, 1]⟩
abbrev S1x4x128x4x4096 : Shape := ⟨5, ![1, 4, 128, 4, 4096]⟩
abbrev S1x4x128x4352 : Shape := ⟨4, ![1, 4, 128, 4352]⟩
abbrev S4x4x4096 : Shape := ⟨3, ![4, 4, 4096]⟩
abbrev S1x4x4096x4x128 : Shape := ⟨5, ![1, 4, 4096, 4, 128]⟩
abbrev S1x4x4352x128 : Shape := ⟨4, ![1, 4, 4352, 128]⟩
abbrev S4096x4x4x128 : Shape := ⟨4, ![4096, 4, 4, 128]⟩
abbrev S4x4x128x4096 : Shape := ⟨4, ![4, 4, 128, 4096]⟩
abbrev S4x1x4x128x4096 : Shape := ⟨5, ![4, 1, 4, 128, 4096]⟩
abbrev S4352x2560 : Shape := ⟨2, ![4352, 2560]⟩
abbrev S4352x6144 : Shape := ⟨2, ![4352, 6144]⟩

abbrev nBuf : Space → Nat
  | .hbm => 94
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4352x512, .f32⟩
  | .hbm, ⟨2, _⟩ => ⟨S4352x9216, .f32⟩
  | .hbm, ⟨3, _⟩ => ⟨S4096x4096, .f32⟩
  | .hbm, ⟨4, _⟩ => ⟨S4352x9216, .bf16⟩
  | .hbm, ⟨5, _⟩ => ⟨S4352x512, .f32⟩
  | .hbm, ⟨6, _⟩ => ⟨S1x4096x4x4x128, .f32⟩
  | .hbm, ⟨7, _⟩ => ⟨S1x4352x4x128, .f32⟩
  | .hbm, ⟨8, _⟩ => ⟨S1x4352x4x128, .f32⟩
  | .hbm, ⟨9, _⟩ => ⟨S1x4x4352x4096x4, .f32⟩
  | .hbm, ⟨10, _⟩ => ⟨S1x4x4x4096x4352, .f32⟩
  | .hbm, ⟨11, _⟩ => ⟨S_, .f32⟩
  | .hbm, ⟨12, _⟩ => ⟨S1x4x4x4096x4352, .f32⟩
  | .hbm, ⟨13, _⟩ => ⟨S1x4x4x4096x4352, .f32⟩
  | .hbm, ⟨14, _⟩ => ⟨S_, .f32⟩
  | .hbm, ⟨15, _⟩ => ⟨S1x4x4x4096, .f32⟩
  | .hbm, ⟨16, _⟩ => ⟨S1x4x4x4096x1, .f32⟩
  | .hbm, ⟨17, _⟩ => ⟨S1x4x4x4096x4352, .f32⟩
  | .hbm, ⟨18, _⟩ => ⟨S1x4x4x4096x4352, .i1⟩
  | .hbm, ⟨19, _⟩ => ⟨S1x4x4x4096x4352, .f32⟩
  | .hbm, ⟨20, _⟩ => ⟨S_, .f32⟩
  | .hbm, ⟨21, _⟩ => ⟨S1x4x4x4096, .f32⟩
  | .hbm, ⟨22, _⟩ => ⟨S_, .f32⟩
  | .hbm, ⟨23, _⟩ => ⟨S1x4x4x4096, .f32⟩
  | .hbm, ⟨24, _⟩ => ⟨S1x4x4x4096, .f32⟩
  | .hbm, ⟨25, _⟩ => ⟨S_, .f32⟩
  | .hbm, ⟨26, _⟩ => ⟨S1x4x4x4096, .f32⟩
  | .hbm, ⟨27, _⟩ => ⟨S1x4x4x4096, .i1⟩
  | .hbm, ⟨28, _⟩ => ⟨S_, .f32⟩
  | .hbm, ⟨29, _⟩ => ⟨S1x4x4x4096, .f32⟩
  | .hbm, ⟨30, _⟩ => ⟨S1x4x4x4096, .i1⟩
  | .hbm, ⟨31, _⟩ => ⟨S_, .f32⟩
  | .hbm, ⟨32, _⟩ => ⟨S1x4x4x4096, .f32⟩
  | .hbm, ⟨33, _⟩ => ⟨S_, .f32⟩
  | .hbm, ⟨34, _⟩ => ⟨S1x4x4x4096, .f32⟩
  | .hbm, ⟨35, _⟩ => ⟨S_, .f32⟩
  | .hbm, ⟨36, _⟩ => ⟨S1x4x4x4096, .f32⟩
  | .hbm, ⟨37, _⟩ => ⟨S1x4x4x4096, .f32⟩
  | .hbm, ⟨38, _⟩ => ⟨S1x4x4x4096, .f32⟩
  | .hbm, ⟨39, _⟩ => ⟨S1x4x4x4096x1, .f32⟩
  | .hbm, ⟨40, _⟩ => ⟨S1x4x4x4096x4352, .f32⟩
  | .hbm, ⟨41, _⟩ => ⟨S1x4x4x4096x4352, .f32⟩
  | .hbm, ⟨42, _⟩ => ⟨S1x4x4x4096x4352, .f32⟩
  | .hbm, ⟨43, _⟩ => ⟨S_, .f32⟩
  | .hbm, ⟨44, _⟩ => ⟨S1x4x4x4096, .f32⟩
  | .hbm, ⟨45, _⟩ => ⟨S1x4x4x4096x1, .f32⟩
  | .hbm, ⟨46, _⟩ => ⟨S1x4x4x4096x4352, .f32⟩
  | .hbm, ⟨47, _⟩ => ⟨S1x4x4x4096x4352, .f32⟩
  | .hbm, ⟨48, _⟩ => ⟨S1x4x4x4096x1, .f32⟩
  | .hbm, ⟨49, _⟩ => ⟨S_, .f32⟩
  | .hbm, ⟨50, _⟩ => ⟨S1x4x4x4096x1, .f32⟩
  | .hbm, ⟨51, _⟩ => ⟨S1x4x4x4096x1, .f32⟩
  | .hbm, ⟨52, _⟩ => ⟨S1x4x128x4x4096, .f32⟩
  | .hbm, ⟨53, _⟩ => ⟨S1x4096x4x4x128, .f32⟩
  | .hbm, ⟨54, _⟩ => ⟨S4096x2048, .f32⟩
  | .hbm, ⟨55, _⟩ => ⟨S4096x2048, .f32⟩
  | .hbm, ⟨56, _⟩ => ⟨S1x4096x4x4x128, .f32⟩
  | .hbm, ⟨57, _⟩ => ⟨S1x4x128x4x4096, .f32⟩
  | .hbm, ⟨58, _⟩ => ⟨S1x4x4x4096x4352, .f32⟩
  | .hbm, ⟨59, _⟩ => ⟨S1x4x128x4352, .f32⟩
  | .hbm, ⟨60, _⟩ => ⟨S1x4352x4x128, .f32⟩
  | .hbm, ⟨61, _⟩ => ⟨S1x4x4x4096x4352, .f32⟩
  | .hbm, ⟨62, _⟩ => ⟨S1x4x4x4096x4352, .f32⟩
  | .hbm, ⟨63, _⟩ => ⟨S1x4x4x4096x4352, .f32⟩
  | .hbm, ⟨64, _⟩ => ⟨S_, .f32⟩
  | .hbm, ⟨65, _⟩ => ⟨S1x4x4x4096, .f32⟩
  | .hbm, ⟨66, _⟩ => ⟨S1x4x4x4096x1, .f32⟩
  | .hbm, ⟨67, _⟩ => ⟨S1x4x4x4096x1, .f32⟩
  | .hbm, ⟨68, _⟩ => ⟨S1x4x4x4096x4352, .f32⟩
  | .hbm, ⟨69, _⟩ => ⟨S1x4x4x4096x4352, .f32⟩
  | .hbm, ⟨70, _⟩ => ⟨S_, .f32⟩
  | .hbm, ⟨71, _⟩ => ⟨S4x4x4096, .f32⟩
  | .hbm, ⟨72, _⟩ => ⟨S1x4x4x4096, .f32⟩
  | .hbm, ⟨73, _⟩ => ⟨S1x4x4x4096x4352, .f32⟩
  | .hbm, ⟨74, _⟩ => ⟨S1x4x4x4096x4352, .f32⟩
  | .hbm, ⟨75, _⟩ => ⟨S1x4x4x4096x4352, .f32⟩
  | .hbm, ⟨76, _⟩ => ⟨S_, .f32⟩
  | .hbm, ⟨77, _⟩ => ⟨S1x4x4x4096x4352, .f32⟩
  | .hbm, ⟨78, _⟩ => ⟨S1x4x4x4096x4352, .f32⟩
  | .hbm, ⟨79, _⟩ => ⟨S1x4x4352x4096x4, .f32⟩
  | .hbm, ⟨80, _⟩ => ⟨S1x4x4096x4x128, .f32⟩
  | .hbm, ⟨81, _⟩ => ⟨S1x4096x4x4x128, .f32⟩
  | .hbm, ⟨82, _⟩ => ⟨S1x4x4352x128, .f32⟩
  | .hbm, ⟨83, _⟩ => ⟨S1x4352x4x128, .f32⟩
  | .hbm, ⟨84, _⟩ => ⟨S4352x512, .f32⟩
  | .hbm, ⟨85, _⟩ => ⟨S4352x512, .f32⟩
  | .hbm, ⟨86, _⟩ => ⟨S4096x2048, .f32⟩
  | .hbm, ⟨87, _⟩ => ⟨S4096x4x4x128, .f32⟩
  | .hbm, ⟨88, _⟩ => ⟨S4x4x128x4096, .f32⟩
  | .hbm, ⟨89, _⟩ => ⟨S4x1x4x128x4096, .f32⟩
  | .hbm, ⟨90, _⟩ => ⟨S4352x2560, .bf16⟩
  | .hbm, ⟨91, _⟩ => ⟨S4352x512, .bf16⟩
  | .hbm, ⟨92, _⟩ => ⟨S4352x6144, .bf16⟩
  | .hbm, ⟨93, _⟩ => ⟨S4352x9216, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel2.lean ====
abbrev S4096x4096 : Shape := ⟨2, ![4096, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x4096 : Shape := ⟨2, ![4096, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S4096x4096 : Shape := ⟨2, ![4096, 4096]⟩
abbrev S256x4096 : Shape := ⟨2, ![256, 4096]⟩
abbrev S4096x9216 : Shape := ⟨2, ![4096, 9216]⟩
abbrev S256x1024 : Shape := ⟨2, ![256, 1024]⟩
abbrev S_ : Shape := ⟨0, ![]⟩
abbrev S256x9216 : Shape := ⟨2, ![256, 9216]⟩
abbrev S4352x9216 : Shape := ⟨2, ![4352, 9216]⟩
abbrev S4352x4096 : Shape := ⟨2, ![4352, 4096]⟩
abbrev S1 : Shape := ⟨1, ![1]⟩
abbrev S2048x9216 : Shape := ⟨2, ![2048, 9216]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 14
  | .vmem => 6
  | .smem => 1
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4096x9216, .f32⟩
  | .hbm, ⟨4, _⟩ => ⟨S256x1024, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S256x9216, .f32⟩
  | .hbm, ⟨9, _⟩ => ⟨S4352x9216, .f32⟩
  | .hbm, ⟨10, _⟩ => ⟨S4352x9216, .bf16⟩
  | .hbm, ⟨11, _⟩ => ⟨S4352x4096, .f32⟩
  | .hbm, ⟨12, _⟩ => ⟨S4352x4096, .bf16⟩
  | .hbm, ⟨13, _⟩ => ⟨S2048x9216, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .smem, ⟨0, _⟩ => ⟨S1, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v6 : Ref sig .tc := ⟨.hbm, 13, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x4096 : Shape := ⟨2, ![4096, 4096]⟩
abbrev S256x4096 : Shape := ⟨2, ![256, 4096]⟩
abbrev S4096x9216 : Shape := ⟨2, ![4096, 9216]⟩
abbrev S256x1024 : Shape := ⟨2, ![256, 1024]⟩
abbrev S_ : Shape := ⟨0, ![]⟩
abbrev S4096x1024 : Shape := ⟨2, ![4096, 1024]⟩
abbrev S1024x4096 : Shape := ⟨2, ![1024, 4096]⟩
abbrev S9216x4096 : Shape := ⟨2, ![9216, 4096]⟩
abbrev S2048x9216 : Shape := ⟨2, ![2048, 9216]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4096x9216, .f32⟩
  | .hbm, ⟨4, _⟩ => ⟨S256x1024, .f32⟩
  | .hbm, ⟨5, _⟩ => ⟨S_, .i32⟩
  | .hbm, ⟨6, _⟩ => ⟨S4096x9216, .f32⟩
  | .hbm, ⟨7, _⟩ => ⟨S4096x1024, .f32⟩
  | .hbm, ⟨8, _⟩ => ⟨S256x1024, .f32⟩
  | .hbm, ⟨9, _⟩ => ⟨S1024x4096, .f32⟩
  | .hbm, ⟨10, _⟩ => ⟨S4096x1024, .f32⟩
  | .hbm, ⟨11, _⟩ => ⟨S256x4096, .f32⟩
  | .hbm, ⟨12, _⟩ => ⟨S_, .f32⟩
  | .hbm, ⟨13, _⟩ => ⟨S4096x9216, .f32⟩
  | .hbm, ⟨14, _⟩ => ⟨S9216x4096, .f32⟩
  | .hbm, ⟨15, _⟩ => ⟨S4096x9216, .f32⟩
  | .hbm, ⟨16, _⟩ => ⟨S4096x9216, .f32⟩
  | .hbm, ⟨17, _⟩ => ⟨S4096x4096, .f32⟩
  | .hbm, ⟨18, _⟩ => ⟨S4096x9216, .bf16⟩
  | .hbm, ⟨19, _⟩ => ⟨S_, .i32⟩
  | .hbm, ⟨20, _⟩ => ⟨S_, .i1⟩
  | .hbm, ⟨21, _⟩ => ⟨S2048x9216, .bf16⟩
  | .hbm, ⟨22, _⟩ => ⟨S2048x9216, .bf16⟩
  | .hbm, ⟨23, _⟩ => ⟨S2048x9216, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel6.lean ====
abbrev S4096x4096 : Shape := ⟨2, ![4096, 4096]⟩
abbrev S256x4096 : Shape := ⟨2, ![256, 4096]⟩
abbrev S4096x9216 : Shape := ⟨2, ![4096, 9216]⟩
abbrev S256x1024 : Shape := ⟨2, ![256, 1024]⟩
abbrev S4 : Shape := ⟨1, ![4]⟩
abbrev S_ : Shape := ⟨0, ![]⟩
abbrev S256x9216 : Shape := ⟨2, ![256, 9216]⟩
abbrev S4352x9216 : Shape := ⟨2, ![4352, 9216]⟩
abbrev S4096x2304 : Shape := ⟨2, ![4096, 2304]⟩
abbrev S4352x4096 : Shape := ⟨2, ![4352, 4096]⟩
abbrev S544x2304 : Shape := ⟨2, ![544, 2304]⟩
abbrev S1 : Shape := ⟨1, ![1]⟩
abbrev S512x2304 : Shape := ⟨2, ![512, 2304]⟩
abbrev S544x512 : Shape := ⟨2, ![544, 512]⟩

abbrev nBuf : Space → Nat
  | .hbm => 19
  | .vmem => 18
  | .smem => 1
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4096x9216, .f32⟩
  | .hbm, ⟨4, _⟩ => ⟨S256x1024, .f32⟩
  | .hbm, ⟨5, _⟩ => ⟨S_, .i32⟩
  | .hbm, ⟨6, _⟩ => ⟨S_, .f32⟩
  | .hbm, ⟨7, _⟩ => ⟨S256x9216, .f32⟩
  | .hbm, ⟨8, _⟩ => ⟨S4352x9216, .f32⟩
  | .hbm, ⟨9, _⟩ => ⟨S4352x9216, .bf16⟩
  | .hbm, ⟨10, _⟩ => ⟨S4096x2304, .f32⟩
  | .hbm, ⟨11, _⟩ => ⟨S4096x2304, .bf16⟩
  | .hbm, ⟨12, _⟩ => ⟨S4096x2304, .f32⟩
  | .hbm, ⟨13, _⟩ => ⟨S4096x2304, .bf16⟩
  | .hbm, ⟨14, _⟩ => ⟨S4096x2304, .f32⟩
  | .hbm, ⟨15, _⟩ => ⟨S4096x2304, .bf16⟩
  | .hbm, ⟨16, _⟩ => ⟨S4096x2304, .f32⟩
  | .hbm, ⟨17, _⟩ => ⟨S4096x2304, .bf16⟩
  | .hbm, ⟨18, _⟩ => ⟨S4352x4096, .bf16⟩
  | .local _ .vmem, ⟨0, _⟩ => ⟨S544x2304, .bf16⟩
  | .local _ .vmem, ⟨1, _⟩ => ⟨S544x2304, .bf16⟩
  | .local _ .vmem, ⟨2, _⟩ => ⟨S544x2304, .bf16⟩
  | .local _ .vmem, ⟨3, _⟩ => ⟨S544x2304, .bf16⟩
  | .local _ .vmem, ⟨4, _⟩ => ⟨S544x2304, .bf16⟩
  | .local _ .vmem, ⟨5, _⟩ => ⟨S544x2304, .bf16⟩
  | .local _ .vmem, ⟨6, _⟩ => ⟨S544x2304, .bf16⟩
  | .local _ .vmem, ⟨7, _⟩ => ⟨S544x2304, .bf16⟩
  | .local _ .vmem, ⟨8, _⟩ => ⟨S512x2304, .bf16⟩
  | .local _ .vmem, ⟨9, _⟩ => ⟨S512x2304, .bf16⟩
  | .local _ .vmem, ⟨10, _⟩ => ⟨S512x2304, .bf16⟩
  | .local _ .vmem, ⟨11, _⟩ => ⟨S512x2304, .bf16⟩
  | .local _ .vmem, ⟨12, _⟩ => ⟨S512x2304, .bf16⟩
  | .local _ .vmem, ⟨13, _⟩ => ⟨S512x2304, .bf16⟩
  | .local _ .vmem, ⟨14, _⟩ => ⟨S512x2304, .bf16⟩
  | .local _ .vmem, ⟨15, _⟩ => ⟨S512x2304, .bf16⟩
  | .local _ .vmem, ⟨16, _⟩ => ⟨S544x512, .bf16⟩
  | .local _ .vmem, ⟨17, _⟩ => ⟨S544x512, .bf16⟩
  | .local _ .smem, ⟨0, _⟩ => ⟨S4, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c_0 : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![arg0.toNat, v0.toNat]

def cc0_transform_1 (inb_S4_S1_1 : ∀ a, (![1] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![arg0.toNat, v0.toNat]

def cc0_transform_2 (inb_S4_S1_2 : ∀ a, (![2] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![arg0.toNat, v0.toNat]

def cc0_transform_3 (inb_S4_S1_3 : ∀ a, (![3] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S544x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4096x4096 : Shape := ⟨2, ![4096, 4096]⟩
abbrev S256x4096 : Shape := ⟨2, ![256, 4096]⟩
abbrev S4096x9216 : Shape := ⟨2, ![4096, 9216]⟩
abbrev S256x1024 : Shape := ⟨2, ![256, 1024]⟩
abbrev S4096x1024 : Shape := ⟨2, ![4096, 1024]⟩
abbrev S1024x4096 : Shape := ⟨2, ![1024, 4096]⟩
abbrev S_ : Shape := ⟨0, ![]⟩
abbrev S9216x4096 : Shape := ⟨2, ![9216, 4096]⟩
abbrev S4352x4096 : Shape := ⟨2, ![4352, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4096x9216, .f32⟩
  | .hbm, ⟨4, _⟩ => ⟨S256x1024, .f32⟩
  | .hbm, ⟨5, _⟩ => ⟨S4096x9216, .f32⟩
  | .hbm, ⟨6, _⟩ => ⟨S4096x1024, .f32⟩
  | .hbm, ⟨7, _⟩ => ⟨S256x1024, .f32⟩
  | .hbm, ⟨8, _⟩ => ⟨S1024x4096, .f32⟩
  | .hbm, ⟨9, _⟩ => ⟨S4096x1024, .f32⟩
  | .hbm, ⟨10, _⟩ => ⟨S256x4096, .f32⟩
  | .hbm, ⟨11, _⟩ => ⟨S_, .f32⟩
  | .hbm, ⟨12, _⟩ => ⟨S4096x9216, .f32⟩
  | .hbm, ⟨13, _⟩ => ⟨S9216x4096, .f32⟩
  | .hbm, ⟨14, _⟩ => ⟨S4096x9216, .f32⟩
  | .hbm, ⟨15, _⟩ => ⟨S4096x9216, .f32⟩
  | .hbm, ⟨16, _⟩ => ⟨S4096x4096, .f32⟩
  | .hbm, ⟨17, _⟩ => ⟨S4352x4096, .f32⟩
  | .hbm, ⟨18, _⟩ => ⟨S4352x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel7.lean ====
abbrev S4096x4096 : Shape := ⟨2, ![4096, 4096]⟩
abbrev S256x4096 : Shape := ⟨2, ![256, 4096]⟩
abbrev S4096x9216 : Shape := ⟨2, ![4096, 9216]⟩
abbrev S4352x9216 : Shape := ⟨2, ![4352, 9216]⟩
abbrev S2 : Shape := ⟨1, ![2]⟩
abbrev S4352x4096 : Shape := ⟨2, ![4352, 4096]⟩
abbrev S4096x2304 : Shape := ⟨2, ![4096, 2304]⟩
abbrev S544x4096 : Shape := ⟨2, ![544, 4096]⟩
abbrev S4096x768 : Shape := ⟨2, ![4096, 768]⟩
abbrev S544x768 : Shape := ⟨2, ![544, 768]⟩
abbrev S1 : Shape := ⟨1, ![1]⟩

abbrev nBuf : Space → Nat
  | .hbm => 12
  | .vmem => 8
  | .smem => 1
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4352x9216, .f32⟩
  | .hbm, ⟨4, _⟩ => ⟨S4352x4096, .f32⟩
  | .hbm, ⟨5, _⟩ => ⟨S4352x4096, .bf16⟩
  | .hbm, ⟨6, _⟩ => ⟨S4096x2304, .f32⟩
  | .hbm, ⟨7, _⟩ => ⟨S4096x2304, .bf16⟩
  | .hbm, ⟨8, _⟩ => ⟨S4096x2304, .f32⟩
  | .hbm, ⟨9, _⟩ => ⟨S4096x2304, .bf16⟩
  | .hbm, ⟨10, _⟩ => ⟨S4352x9216, .bf16⟩
  | .hbm, ⟨11, _⟩ => ⟨S4352x9216, .bf16⟩
  | .local _ .vmem, ⟨0, _⟩ => ⟨S544x4096, .bf16⟩
  | .local _ .vmem, ⟨1, _⟩ => ⟨S544x4096, .bf16⟩
  | .local _ .vmem, ⟨2, _⟩ => ⟨S4096x768, .bf16⟩
  | .local _ .vmem, ⟨3, _⟩ => ⟨S4096x768, .bf16⟩
  | .local _ .vmem, ⟨4, _⟩ => ⟨S4096x768, .bf16⟩
  | .local _ .vmem, ⟨5, _⟩ => ⟨S4096x768, .bf16⟩
  | .local _ .vmem, ⟨6, _⟩ => ⟨S544x768, .bf16⟩
  | .local _ .vmem, ⟨7, _⟩ => ⟨S544x768, .bf16⟩
  | .local _ .smem, ⟨0, _⟩ => ⟨S2, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 3], ![false, false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg2 c0_i32
  let c0_i32_0 : BitVec 32 := 0#32
  let c0_i32_1 : BitVec 32 := 0#32
  ![c0_i32_0.toNat, v1.toNat]

def cc0_transform_4 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S2) ![v0.toNat] S1.size (k0_off1_inb i)) numel1_S1
  let c3_i32 : BitVec 32 := 3#32
  let v2 : BitVec 32 := Scalar.muli v1 c3_i32
  let v3 : BitVec 32 := Scalar.addi v2 arg2
  let c0_i32 : BitVec 32 := 0#32
  ![arg1.toNat, v3.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S544x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S4096x4096 : Shape := ⟨2, ![4096, 4096]⟩
abbrev S256x4096 : Shape := ⟨2, ![256, 4096]⟩
abbrev S4096x9216 : Shape := ⟨2, ![4096, 9216]⟩
abbrev S4352x9216 : Shape := ⟨2, ![4352, 9216]⟩
abbrev S4352x4096 : Shape := ⟨2, ![4352, 4096]⟩
abbrev S4096x4608 : Shape := ⟨2, ![4096, 4608]⟩
abbrev S4352x4608 : Shape := ⟨2, ![4352, 4608]⟩
abbrev S4352x2304 : Shape := ⟨2, ![4352, 2304]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4352x9216, .f32⟩
  | .hbm, ⟨4, _⟩ => ⟨S4352x4096, .f32⟩
  | .hbm, ⟨5, _⟩ => ⟨S4096x4608, .f32⟩
  | .hbm, ⟨6, _⟩ => ⟨S4352x4608, .f32⟩
  | .hbm, ⟨7, _⟩ => ⟨S4352x4608, .bf16⟩
  | .hbm, ⟨8, _⟩ => ⟨S4352x9216, .bf16⟩
  | .hbm, ⟨9, _⟩ => ⟨S4352x2304, .bf16⟩
  | .hbm, ⟨10, _⟩ => ⟨S4352x2304, .bf16⟩
  | .hbm, ⟨11, _⟩ => ⟨S4352x9216, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4096x4096 : Shape := ⟨2, ![4096, 4096]⟩
abbrev S256x4096 : Shape := ⟨2, ![256, 4096]⟩
abbrev S4096x9216 : Shape := ⟨2, ![4096, 9216]⟩
abbrev S4352x9216 : Shape := ⟨2, ![4352, 9216]⟩
abbrev S1 : Shape := ⟨1, ![1]⟩
abbrev S4352x4096 : Shape := ⟨2, ![4352, 4096]⟩
abbrev S4096x2304 : Shape := ⟨2, ![4096, 2304]⟩
abbrev S544x4096 : Shape := ⟨2, ![544, 4096]⟩
abbrev S4096x768 : Shape := ⟨2, ![4096, 768]⟩
abbrev S544x768 : Shape := ⟨2, ![544, 768]⟩

abbrev nBuf : Space → Nat
  | .hbm => 10
  | .vmem => 6
  | .smem => 1
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4352x9216, .f32⟩
  | .hbm, ⟨4, _⟩ => ⟨S4352x4096, .f32⟩
  | .hbm, ⟨5, _⟩ => ⟨S4352x4096, .bf16⟩
  | .hbm, ⟨6, _⟩ => ⟨S4096x2304, .f32⟩
  | .hbm, ⟨7, _⟩ => ⟨S4096x2304, .bf16⟩
  | .hbm, ⟨8, _⟩ => ⟨S4352x9216, .bf16⟩
  | .hbm, ⟨9, _⟩ => ⟨S4352x9216, .bf16⟩
  | .local _ .vmem, ⟨0, _⟩ => ⟨S544x4096, .bf16⟩
  | .local _ .vmem, ⟨1, _⟩ => ⟨S544x4096, .bf16⟩
  | .local _ .vmem, ⟨2, _⟩ => ⟨S4096x768, .bf16⟩
  | .local _ .vmem, ⟨3, _⟩ => ⟨S4096x768, .bf16⟩
  | .local _ .vmem, ⟨4, _⟩ => ⟨S544x768, .bf16⟩
  | .local _ .vmem, ⟨5, _⟩ => ⟨S544x768, .bf16⟩
  | .local _ .smem, ⟨0, _⟩ => ⟨S1, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 3], ![false, false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let c0_i32_2 : BitVec 32 := 0#32
  ![c0_i32_1.toNat, v1.toNat]

def cc0_transform_3 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S1) ![v0.toNat] S1.size (k0_off1_inb i)) numel1_S1
  let c3_i32 : BitVec 32 := 3#32
  let v2 : BitVec 32 := Scalar.muli v1 c3_i32
  let v3 : BitVec 32 := Scalar.addi v2 arg2
  let c0_i32 : BitVec 32 := 0#32
  ![arg1.toNat, v3.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S544x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference8Ideal.lean ====
abbrev S4096x4096 : Shape := ⟨2, ![4096, 4096]⟩
abbrev S256x4096 : Shape := ⟨2, ![256, 4096]⟩
abbrev S4096x9216 : Shape := ⟨2, ![4096, 9216]⟩
abbrev S4352x9216 : Shape := ⟨2, ![4352, 9216]⟩
abbrev S4352x4096 : Shape := ⟨2, ![4352, 4096]⟩
abbrev S4096x2304 : Shape := ⟨2, ![4096, 2304]⟩
abbrev S4352x2304 : Shape := ⟨2, ![4352, 2304]⟩
abbrev S4352x6912 : Shape := ⟨2, ![4352, 6912]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S4096x9216, .f32⟩
  | .hbm, ⟨3, _⟩ => ⟨S4352x9216, .f32⟩
  | .hbm, ⟨4, _⟩ => ⟨S4352x4096, .f32⟩
  | .hbm, ⟨5, _⟩ => ⟨S4096x2304, .f32⟩
  | .hbm, ⟨6, _⟩ => ⟨S4352x2304, .f32⟩
  | .hbm, ⟨7, _⟩ => ⟨S4352x2304, .bf16⟩
  | .hbm, ⟨8, _⟩ => ⟨S4352x9216, .bf16⟩
  | .hbm, ⟨9, _⟩ => ⟨S4352x6912, .bf16⟩
  | .hbm, ⟨10, _⟩ => ⟨S4352x9216, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S4096x2048 : Shape := ⟨2, ![4096, 2048]⟩
abbrev S4096x4096 : Shape := ⟨2, ![4096, 4096]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x4096, .bf16⟩
  | .hbm, ⟨4, _⟩ => ⟨S4x512x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x2048 : Shape := ⟨2, ![4096, 2048]⟩
abbrev S4096x4096 : Shape := ⟨2, ![4096, 4096]⟩
abbrev S4096x512 : Shape := ⟨2, ![4096, 512]⟩
abbrev S_ : Shape := ⟨0, ![]⟩
abbrev S512x512 : Shape := ⟨2, ![512, 512]⟩
abbrev S1x512x512 : Shape := ⟨3, ![1, 512, 512]⟩
abbrev S4x512x512 : Shape := ⟨3, ![4, 512, 512]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x512, .f32⟩
  | .hbm, ⟨3, _⟩ => ⟨S_, .f32⟩
  | .hbm, ⟨4, _⟩ => ⟨S512x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S4096x512, .f32⟩
  | .hbm, ⟨10, _⟩ => ⟨S_, .f32⟩
  | .hbm, ⟨11, _⟩ => ⟨S512x512, .f32⟩
  | .hbm, ⟨12, _⟩ => ⟨S4096x512, .f32⟩
  | .hbm, ⟨13, _⟩ => ⟨S4096x512, .f32⟩
  | .hbm, ⟨14, _⟩ => ⟨S512x512, .f32⟩
  | .hbm, ⟨15, _⟩ => ⟨S512x512, .f32⟩
  | .hbm, ⟨16, _⟩ => ⟨S4096x512, .f32⟩
  | .hbm, ⟨17, _⟩ => ⟨S_, .f32⟩
  | .hbm, ⟨18, _⟩ => ⟨S512x512, .f32⟩
  | .hbm, ⟨19, _⟩ => ⟨S4096x512, .f32⟩
  | .hbm, ⟨20, _⟩ => ⟨S4096x512, .f32⟩
  | .hbm, ⟨21, _⟩ => ⟨S512x512, .f32⟩
  | .hbm, ⟨22, _⟩ => ⟨S512x512, .f32⟩
  | .hbm, ⟨23, _⟩ => ⟨S4096x512, .f32⟩
  | .hbm, ⟨24, _⟩ => ⟨S_, .f32⟩
  | .hbm, ⟨25, _⟩ => ⟨S512x512, .f32⟩
  | .hbm, ⟨26, _⟩ => ⟨S4096x512, .f32⟩
  | .hbm, ⟨27, _⟩ => ⟨S4096x512, .f32⟩
  | .hbm, ⟨28, _⟩ => ⟨S512x512, .f32⟩
  | .hbm, ⟨29, _⟩ => ⟨S512x512, .f32⟩
  | .hbm, ⟨30, _⟩ => ⟨S1x512x512, .f32⟩
  | .hbm, ⟨31, _⟩ => ⟨S1x512x512, .f32⟩
  | .hbm, ⟨32, _⟩ => ⟨S1x512x512, .f32⟩
  | .hbm, ⟨33, _⟩ => ⟨S1x512x512, .f32⟩
  | .hbm, ⟨34, _⟩ => ⟨S4x512x512, .f32⟩
  | .hbm, ⟨35, _⟩ => ⟨S4x512x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel10.lean ====
abbrev S4096x4096 : Shape := ⟨2, ![4096, 4096]⟩
abbrev S4x512x512 : Shape := ⟨3, ![4, 512, 512]⟩
abbrev S4096x2048 : Shape := ⟨2, ![4096, 2048]⟩
abbrev S1024x512 : Shape := ⟨2, ![1024, 512]⟩
abbrev S1x512x512 : Shape := ⟨3, ![1, 512, 512]⟩
abbrev S1024x1 : Shape := ⟨2, ![1024, 1]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S4096x4096, .bf16⟩
  | .hbm, ⟨3, _⟩ => ⟨S4x512x512, .bf16⟩
  | .hbm, ⟨4, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x4096 : Shape := ⟨2, ![4096, 4096]⟩
abbrev S4x512x512 : Shape := ⟨3, ![4, 512, 512]⟩
abbrev S4096 : Shape := ⟨1, ![4096]⟩
abbrev S_ : Shape := ⟨0, ![]⟩
abbrev S4096x1 : Shape := ⟨2, ![4096, 1]⟩
abbrev S4096x512 : Shape := ⟨2, ![4096, 512]⟩
abbrev S1x512x512 : Shape := ⟨3, ![1, 512, 512]⟩
abbrev S512x512 : Shape := ⟨2, ![512, 512]⟩
abbrev S4096x2048 : Shape := ⟨2, ![4096, 2048]⟩

abbrev nBuf : Space → Nat
  | .hbm => 149
  | .vmem => 0
  | .smem => 0
  | _ => 0

abbrev hbmTy0_0 (i : Nat) : BufTy := match i % 128 with
  | 0 => ⟨S4096x4096, .f32⟩
  | 1 => ⟨S4x512x512, .f32⟩
  | 2 => ⟨S4096, .i32⟩
  | 3 => ⟨S_, .i32⟩
  | 4 => ⟨S4096, .i32⟩
  | 5 => ⟨S4096, .i32⟩
  | 6 => ⟨S_, .i32⟩
  | 7 => ⟨S_, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S_, .i32⟩
  | 15 => ⟨S4096, .i32⟩
  | 16 => ⟨S4096, .i32⟩
  | 17 => ⟨S_, .i32⟩
  | 18 => ⟨S_, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .i32⟩
  | 26 => ⟨S4096, .f32⟩
  | 27 => ⟨S4096x1, .f32⟩
  | 28 => ⟨S_, .f32⟩
  | 29 => ⟨S4096x512, .f32⟩
  | 30 => ⟨S4096x512, .f32⟩
  | 31 => ⟨S4096x512, .f32⟩
  | 32 => ⟨S1x512x512, .f32⟩
  | 33 => ⟨S512x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S_, .i32⟩
  | 40 => ⟨S4096, .i32⟩
  | 41 => ⟨S4096, .i32⟩
  | 42 => ⟨S_, .i32⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .i32⟩
  | 62 => ⟨S4096, .f32⟩
  | 63 => ⟨S4096x1, .f32⟩
  | 64 => ⟨S_, .f32⟩
  | 65 => ⟨S4096x512, .f32⟩
  | 66 => ⟨S4096x512, .f32⟩
  | 67 => ⟨S4096x512, .f32⟩
  | 68 => ⟨S1x512x512, .f32⟩
  | 69 => ⟨S512x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S_, .i32⟩
  | 76 => ⟨S4096, .i32⟩
  | 77 => ⟨S4096, .i32⟩
  | 78 => ⟨S_, .i32⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S_, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S4096, .f32⟩
  | 99 => ⟨S4096x1, .f32⟩
  | 100 => ⟨S_, .f32⟩
  | 101 => ⟨S4096x512, .f32⟩
  | 102 => ⟨S4096x512, .f32⟩
  | 103 => ⟨S4096x512, .f32⟩
  | 104 => ⟨S1x512x512, .f32⟩
  | 105 => ⟨S512x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S_, .i32⟩
  | 112 => ⟨S4096, .i32⟩
  | 113 => ⟨S4096, .i32⟩
  | 114 => ⟨S_, .i32⟩
  | 115 => ⟨S_, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S_, .i32⟩
  | 126 => ⟨S_, .i32⟩
  | 127 => ⟨S_, .i32⟩
  | _ => ⟨S4096x4096, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S4096, .i32⟩
  | 5 => ⟨S4096, .i32⟩
  | 6 => ⟨S4096, .f32⟩
  | 7 => ⟨S4096x1, .f32⟩
  | 8 => ⟨S_, .f32⟩
  | 9 => ⟨S4096x512, .f32⟩
  | 10 => ⟨S4096x512, .f32⟩
  | 11 => ⟨S4096x512, .f32⟩
  | 12 => ⟨S1x512x512, .f32⟩
  | 13 => ⟨S512x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x2048, .f32⟩
  | 20 => ⟨S4096x2048, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_c_3 : Ref sig .tc := ⟨.hbm, 17, rfl⟩
abbrev main_c_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_c_7 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v22 : Ref sig .tc := ⟨.hbm, 49, rfl⟩
abbrev main_c_8 : Ref sig .tc := ⟨.hbm, 50, rfl⟩
abbrev main_v23 : Ref sig .tc := ⟨.hbm, 51, rfl⟩
abbrev main_v24 : Ref sig .tc := ⟨.hbm, 52, rfl⟩
abbrev main_c_9 : Ref sig .tc := ⟨.hbm, 53, rfl⟩
abbrev main_c_10 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_11 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_12 : Ref sig .tc := ⟨.hbm, 75, rfl⟩
abbrev main_v39 : Ref sig .tc := ⟨.hbm, 76, rfl⟩
abbrev main_v40 : Ref sig .tc := ⟨.hbm, 77, rfl⟩
abbrev main_c_13 : Ref sig .tc := ⟨.hbm, 78, rfl⟩
abbrev main_c_14 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v41 : Ref sig .tc := ⟨.hbm, 85, rfl⟩
abbrev main_c_15 : Ref sig .tc := ⟨.hbm, 86, rfl⟩
abbrev main_v42 : Ref sig .tc := ⟨.hbm, 87, rfl⟩
abbrev main_v43 : Ref sig .tc := ⟨.hbm, 88, rfl⟩
abbrev main_c_16 : Ref sig .tc := ⟨.hbm, 89, rfl⟩
abbrev main_c_17 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_18 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_c_19 : Ref sig .tc := ⟨.hbm, 111, rfl⟩
abbrev main_v58 : Ref sig .tc := ⟨.hbm, 112, rfl⟩
abbrev main_v59 : Ref sig .tc := ⟨.hbm, 113, rfl⟩
abbrev main_c_20 : Ref sig .tc := ⟨.hbm, 114, rfl⟩
abbrev main_c_21 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_v60 : Ref sig .tc := ⟨.hbm, 121, rfl⟩
abbrev main_c_22 : Ref sig .tc := ⟨.hbm, 122, rfl⟩
abbrev main_v61 : Ref sig .tc := ⟨.hbm, 123, rfl⟩
abbrev main_v62 : Ref sig .tc := ⟨.hbm, 124, rfl⟩
abbrev main_c_23 : Ref sig .tc := ⟨.hbm, 125, rfl⟩
abbrev main_c_24 : Ref sig .tc := ⟨.hbm, 126, rfl⟩
abbrev main_call7_v0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_25 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩

abbrev nD : Nat := 1
abbrev τ : Topo := Topo.v7x

variable {F : FTy → Type} [FloatOps F]
-- ==== Proof.Bwd.Body.lean ====
module
public import proofs.«01_k».proof.Proof.Gen.KernelIdeal.Value
public import Idealize.ShloMosaic.Lib.Pointwise
public import Idealize.ShloMosaic.Lib.Pipeline.ValueKit.Acc
public import Idealize.ShloMosaic.Lib.Pipeline.ReadBack
@[expose] public section
set_option maxRecDepth 16384
noncomputable section
namespace Cert.Bwd.Body
open Cert.KernelIdeal Cert.KernelIdeal.Gen Cert.KernelIdeal.Facts
open Idealize.ShloMosaic Idealize.ShloMosaic.TcCoe Idealize.SL.Sem

theorem hz : (![0, 0] : Fin 2 → Nat) = fun _ => 0 := funext fun a => by fin_cases a <;> rfl

theorem word0 : BitVec.toNat (Scalar.indexCast (Scalar.muli 0#32 4096#32)) = 0 := rfl

theorem readCov_first (v : View sig .tc .vmem S256x128 .f32) (inb) (w : S256x128.Idx → Elt Ideal .f32) (L : List (View.Piece (Elt Ideal) S256x128 .f32)) :
    v.readCov (⟨Rect.unit (s := S256x128) ![0, 0] ![256, 128] inb, w⟩ :: L) (Rect.unit (s := S256x128) ![0, 0] ![256, 128] inb).toLoadRect = w :=
  View.readCov_cons_unit_lit' (S := S256x128) v inb inb w L (by intro a; fin_cases a <;> rfl) (by intro a; fin_cases a <;> rfl)

/-- The 128 columns of query head `g` of a group. -/
def cols (g : Fin 4) (x : Vec Ideal S4096x512 .bf16) : FVec Ideal S4096x128 .bf16 :=
  fun j => x (ix2 (show Fin 4096 from j 0) ⟨128 * g.val + (show Fin 128 from j 1).val, by have := (show Fin 128 from j 1).isLt; omega⟩)

/-- The row of head `g`. -/
def row (g : Fin 4) (x : Vec Ideal S1x4x1x1x4096 .f32) : FVec Ideal S1x1x1x1x4096 .f32 :=
  fun j => x (ix5 0 g 0 0 (show Fin 4096 from j 4))

theorem ld_cols0 (x : Vec Ideal S4096x512 .bf16) (inb) : View.ld x (Rect.unit (s := S4096x512) ![0, 0] ![4096, 128] inb) = cols 0 x := by
  funext j; unfold cols; simp only [View.ld]; congr 1; funext a; fin_cases a <;> apply Fin.ext <;> simp [LoadRect.idx]
theorem ld_cols1 (x : Vec Ideal S4096x512 .bf16) (inb) : View.ld x (Rect.unit (s := S4096x512) ![0, 128] ![4096, 128] inb) = cols 1 x := by
  funext j; unfold cols; simp only [View.ld]; congr 1; funext a; fin_cases a <;> apply Fin.ext <;> simp [LoadRect.idx]
theorem ld_cols2 (x : Vec Ideal S4096x512 .bf16) (inb) : View.ld x (Rect.unit (s := S4096x512) ![0, 256] ![4096, 128] inb) = cols 2 x := by
  funext j; unfold cols; simp only [View.ld]; congr 1; funext a; fin_cases a <;> apply Fin.ext <;> simp [LoadRect.idx]
theorem ld_cols3 (x : Vec Ideal S4096x512 .bf16) (inb) : View.ld x (Rect.unit (s := S4096x512) ![0, 384] ![4096, 128] inb) = cols 3 x := by
  funext j; unfold cols; simp only [View.ld]; congr 1; funext a; fin_cases a <;> apply Fin.ext <;> simp [LoadRect.idx]
theorem ld_row0 (x : Vec Ideal S1x4x1x1x4096 .f32) (inb) : View.ld x (Rect.unit (s := S1x4x1x1x4096) ![0, 0, 0, 0, 0] ![1, 1, 1, 1, 4096] inb) = row 0 x := by
  funext j; obtain ⟨a, b, c, d, e, rfl⟩ : ∃ (a b c d : Fin 1) (e : Fin 4096), j = ix5 a b c d e := ⟨j 0, j 1, j 2, j 3, j 4, eq_ix5 j⟩
  unfold row; simp only [View.ld]; congr 1; funext k; fin_cases k <;> apply Fin.ext <;> simp [LoadRect.idx]
theorem ld_row1 (x : Vec Ideal S1x4x1x1x4096 .f32) (inb) : View.ld x (Rect.unit (s := S1x4x1x1x4096) ![0, 1, 0, 0, 0] ![1, 1, 1, 1, 4096] inb) = row 1 x := by
  funext j; obtain ⟨a, b, c, d, e, rfl⟩ : ∃ (a b c d : Fin 1) (e : Fin 4096), j = ix5 a b c d e := ⟨j 0, j 1, j 2, j 3, j 4, eq_ix5 j⟩
  unfold row; simp only [View.ld]; congr 1; funext k; fin_cases k <;> apply Fin.ext <;> simp [LoadRect.idx]
theorem ld_row2 (x : Vec Ideal S1x4x1x1x4096 .f32) (inb) : View.ld x (Rect.unit (s := S1x4x1x1x4096) ![0, 2, 0, 0, 0] ![1, 1, 1, 1, 4096] inb) = row 2 x := by
  funext j; obtain ⟨a, b, c, d, e, rfl⟩ : ∃ (a b c d : Fin 1) (e : Fin 4096), j = ix5 a b c d e := ⟨j 0, j 1, j 2, j 3, j 4, eq_ix5 j⟩
  unfold row; simp only [View.ld]; congr 1; funext k; fin_cases k <;> apply Fin.ext <;> simp [LoadRect.idx]
theorem ld_row3 (x : Vec Ideal S1x4x1x1x4096 .f32) (inb) : View.ld x (Rect.unit (s := S1x4x1x1x4096) ![0, 3, 0, 0, 0] ![1, 1, 1, 1, 4096] inb) = row 3 x := by
  funext j; obtain ⟨a, b, c, d, e, rfl⟩ : ∃ (a b c d : Fin 1) (e : Fin 4096), j = ix5 a b c d e := ⟨j 0, j 1, j 2, j 3, j 4, eq_ix5 j⟩
  unfold row; simp only [View.ld]; congr 1; funext k; fin_cases k <;> apply Fin.ext <;> simp [LoadRect.idx]

section
variable (x0 x1 : Vec Ideal S4096x512 .bf16) (x2 x3 : Vec Ideal S256x128 .bf16) (x4 x5 : Vec Ideal S1x4x1x1x4096 .f32)

/-- The probability of head `g`, key `r` of the tile and query `i`. -/
def pr (g : Fin 4) (r : Fin 256) (i : Fin 4096) : EReal :=
  Ideal.exp2 ((∑ d : Fin 128, x2 (ix2 r d) * cols g x0 (ix2 i d)) - row g x4 (ix5 0 0 0 0 i))

/-- The gradient of the score of head `g`, key `r`, query `i`, before its factor. -/
def tt (g : Fin 4) (r : Fin 256) (i : Fin 4096) : EReal :=
  pr x0 x2 x4 g r i * ((∑ d : Fin 128, x3 (ix2 r d) * cols g x1 (ix2 i d)) - row g x5 (ix5 0 0 0 0 i))

/-- The sum over the queries of one head towards the key gradient. -/
def dkTerm (g : Fin 4) (r : Fin 256) (d : Fin 128) : EReal :=
  ∑ i : Fin 4096, tt x0 x1 x2 x3 x4 x5 g r i * cols g x0 (ix2 i d)

/-- The keys' sum of one tile towards the query gradient. -/
def dqTerm (g : Fin 4) (d : Fin 128) (q : Fin 4096) : EReal :=
  ∑ r : Fin 256, x2 (ix2 r d) * tt x0 x1 x2 x3 x4 x5 g r q

/-- The sum over the queries of one head towards the value gradient. -/
def dvTerm (g : Fin 4) (r : Fin 256) (d : Fin 128) : EReal :=
  ∑ i : Fin 4096, pr x0 x2 x4 g r i * cols g x1 (ix2 i d)

/-- The key gradient's tile: the four heads' sums, times log 2. -/
def dkTile : FVec Ideal S256x128 .f32 := fun j =>
  (0 + (((dkTerm x0 x1 x2 x3 x4 x5 0 (show Fin 256 from j 0) (show Fin 128 from j 1) + dkTerm x0 x1 x2 x3 x4 x5 1 (show Fin 256 from j 0) (show Fin 128 from j 1)) + dkTerm x0 x1 x2 x3 x4 x5 2 (show Fin 256 from j 0) (show Fin 128 from j 1)) + dkTerm x0 x1 x2 x3 x4 x5 3 (show Fin 256 from j 0) (show Fin 128 from j 1)))
    * ((Real.log 2 : ℝ) : EReal)

theorem dkTile_apply (r : Fin 256) (d : Fin 128) : dkTile x0 x1 x2 x3 x4 x5 (ix2 r d) =
  (0 + (((dkTerm x0 x1 x2 x3 x4 x5 0 r d + dkTerm x0 x1 x2 x3 x4 x5 1 r d) + dkTerm x0 x1 x2 x3 x4 x5 2 r d) + dkTerm x0 x1 x2 x3 x4 x5 3 r d))
    * ((Real.log 2 : ℝ) : EReal) := rfl

/-- The value gradient's tile: the four heads' sums. -/
def dvTile : FVec Ideal S256x128 .bf16 := fun j =>
  (0 + (((dvTerm x0 x1 x2 x4 0 (show Fin 256 from j 0) (show Fin 128 from j 1) + dvTerm x0 x1 x2 x4 1 (show Fin 256 from j 0) (show Fin 128 from j 1)) + dvTerm x0 x1 x2 x4 2 (show Fin 256 from j 0) (show Fin 128 from j 1)) + dvTerm x0 x1 x2 x4 3 (show Fin 256 from j 0) (show Fin 128 from j 1)))

theorem dvTile_apply (r : Fin 256) (d : Fin 128) : dvTile x0 x1 x2 x4 (ix2 r d) =
  (0 + (((dvTerm x0 x1 x2 x4 0 r d + dvTerm x0 x1 x2 x4 1 r d) + dvTerm x0 x1 x2 x4 2 r d) + dvTerm x0 x1 x2 x4 3 r d)) := rfl
end

theorem hit (g : Fin 4) (inb) (w : S1x1x1x128x4096.Idx → Elt Ideal .f32) (L : List (View.Piece (Elt Ideal) S1x1x4x128x4096 .f32)) (d : Fin 128) (i : Fin 4096) :
    View.canon (⟨Rect.unit (s := S1x1x4x128x4096) ![0, 0, g.val, 0, 0] ![1, 1, 1, 128, 4096] inb, w⟩ :: L) (ix5 0 0 g d i) = w (ix5 0 0 0 d i) := by
  rw [show (ix5 0 0 g d i : S1x1x4x128x4096.Idx) = (Rect.unit (s := S1x1x4x128x4096) ![0, 0, g.val, 0, 0] ![1, 1, 1, 128, 4096] inb).emb (ix5 0 0 0 d i) from ?_]
  · exact View.canon_cons_emb _ _ _ _
  · show _ = (Rect.unit (s := S1x1x4x128x4096) ![0, 0, g.val, 0, 0] ![1, 1, 1, 128, 4096] inb).toLoadRect.idx (ix5 0 0 0 d i)
    funext a; fin_cases a <;> apply Fin.ext <;> simp [LoadRect.idx, ix5]

theorem miss (g : Nat) (g' : Fin 4) (h : g ≠ g'.val) (inb) (w : S1x1x1x128x4096.Idx → Elt Ideal .f32) (L : List (View.Piece (Elt Ideal) S1x1x4x128x4096 .f32)) (d : Fin 128) (i : Fin 4096) :
    View.canon (⟨Rect.unit (s := S1x1x4x128x4096) ![0, 0, g, 0, 0] ![1, 1, 1, 128, 4096] inb, w⟩ :: L) (ix5 0 0 g' d i) = View.canon L (ix5 0 0 g' d i) := by
  refine View.canon_cons_of_not_mem _ _ ?_
  rw [Rect.mem_set_unit]
  intro hh
  have := hh 2
  simp [ix5] at this
  omega

theorem skip (v : View sig .tc .vmem S1x1x4x128x4096 .f32) (g g' : Nat) (h : g ≠ g') (inb) (inb') (w : S1x1x1x128x4096.Idx → Elt Ideal .f32) (L : List (View.Piece (Elt Ideal) S1x1x4x128x4096 .f32)) :
    v.readCov (⟨Rect.unit (s := S1x1x4x128x4096) ![0, 0, g, 0, 0] ![1, 1, 1, 128, 4096] inb, w⟩ :: L) (Rect.unit (s := S1x1x4x128x4096) ![0, 0, g', 0, 0] ![1, 1, 1, 128, 4096] inb').toLoadRect
      = v.readCov L (Rect.unit (s := S1x1x4x128x4096) ![0, 0, g', 0, 0] ![1, 1, 1, 128, 4096] inb').toLoadRect := by
  refine View.readCov_cons_of_disjoint _ _ _ _ ?_
  rw [Finset.disjoint_left]
  intro y hy hy'
  rw [Rect.mem_set_unit] at hy
  have hy'' : y ∈ (Rect.unit (s := S1x1x4x128x4096) ![0, 0, g', 0, 0] ![1, 1, 1, 128, 4096] inb').set := hy'
  rw [Rect.mem_set_unit] at hy''
  have h1 := hy 2
  have h2 := hy'' 2
  simp at h1 h2
  omega

theorem fill (v : View sig .tc .vmem S1x1x4x128x4096 .f32) (inb) (Z : S1x1x4x128x4096.Idx → Elt Ideal .f32) (L : List (View.Piece (Elt Ideal) S1x1x4x128x4096 .f32)) (r : Rect S1x1x4x128x4096) :
    v.readCov (⟨Rect.unit (s := S1x1x4x128x4096) ![0, 0, 0, 0, 0] ![1, 1, 4, 128, 4096] inb, Z⟩ :: L) r.toLoadRect = View.ld Z r :=
  View.readCov_fill v inb Z L r (by intro a; fin_cases a <;> rfl)

theorem B6 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : ¬cond0_0 i) (hc1 : ¬cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) (xo6 : Vec Ideal S1x1x4x128x4096 .f32)
    (g : Fin 4) (d : Fin 128) (q : Fin 4096) :
    out0_B_6 c i arg2 harg2 arg3 harg3 arg4 harg4 arg5 harg5 arg6 harg6 arg7 harg7 arg9 harg9 arg10 harg10 arg11 harg11 arg12 harg12 hc0 hc1 x0 x1 x2 x3 x4 x5 xo6 (ix5 0 0 g d q) = xo6 (ix5 0 0 g d q) + dqTerm x0 x1 x2 x3 x4 x5 g d q := by
  unfold out0_B_6
  rw [View.read_writes_eq_canon _ _ _ (cover0_B_6 c i arg2 harg2 arg3 harg3 arg4 harg4 arg5 harg5 arg6 harg6 arg7 harg7 arg9 harg9 arg10 harg10 arg11 harg11 arg12 harg12 hc0 hc1 x0 x1 x2 x3 x4 x5 xo6)]
  unfold kernelRun0_B; dsimp only
  sl_unfold_words
  simp only [View.readAt_eq_ld, harg2.read_unread, harg3.read_unread, harg4.read_unread, harg5.read_unread, harg6.read_unread, harg7.read_unread, harg9.read_unread, View.ld_unit_zero (S := S256x128) hz, View.readCov_unit_zero (S := S256x128) _ hz, readCov_first, word0,
    ld_cols0, ld_cols1, ld_cols2, ld_cols3, ld_row0, ld_row1, ld_row2, ld_row3]
  obtain rfl | rfl | rfl | rfl : g = 0 ∨ g = 1 ∨ g = 2 ∨ g = 3 := by revert g; decide
  · refine (miss 3 0 (by decide) _ _ _ _ _).trans ((miss 2 0 (by decide) _ _ _ _ _).trans ((miss 1 0 (by decide) _ _ _ _ _).trans ?_))
    refine (hit 0 _ _ _ _ _).trans ?_
    unfold_payloads
    pointwise [dqTerm, tt, pr, cols]
    rfl
  · refine (miss 3 1 (by decide) _ _ _ _ _).trans ((miss 2 1 (by decide) _ _ _ _ _).trans ?_)
    refine (hit 1 _ _ _ _ _).trans ?_
    unfold_payloads
    pointwise [dqTerm, tt, pr, cols]
    rfl
  · refine (miss 3 2 (by decide) _ _ _ _ _).trans ?_
    refine (hit 2 _ _ _ _ _).trans ?_
    unfold_payloads
    pointwise [dqTerm, tt, pr, cols]
    rfl
  · refine (hit 3 _ _ _ _ _).trans ?_
    unfold_payloads
    pointwise [dqTerm, tt, pr, cols]
    rfl

theorem A6 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : cond0_0 i) (hc1 : ¬cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32)
    (g : Fin 4) (d : Fin 128) (q : Fin 4096) :
    out0_A_6 c i arg2 harg2 arg3 harg3 arg4 harg4 arg5 harg5 arg6 harg6 arg7 harg7 arg9 harg9 arg10 harg10 arg11 harg11 arg12 harg12 hc0 hc1 x0 x1 x2 x3 x4 x5 (ix5 0 0 g d q) = 0 + dqTerm x0 x1 x2 x3 x4 x5 g d q := by
  unfold out0_A_6
  rw [View.read_writes_eq_canon _ _ _ (cover0_A_6 c i arg2 harg2 arg3 harg3 arg4 harg4 arg5 harg5 arg6 harg6 arg7 harg7 arg9 harg9 arg10 harg10 arg11 harg11 arg12 harg12 hc0 hc1 x0 x1 x2 x3 x4 x5)]
  unfold kernelRun0_A; dsimp only
  sl_unfold_words
  simp only [View.readAt_eq_ld, harg2.read_unread, harg3.read_unread, harg4.read_unread, harg5.read_unread, harg6.read_unread, harg7.read_unread, harg9.read_unread, View.ld_unit_zero (S := S256x128) hz, View.readCov_unit_zero (S := S256x128) _ hz, readCov_first, word0,
    ld_cols0, ld_cols1, ld_cols2, ld_cols3, ld_row0, ld_row1, ld_row2, ld_row3]
  simp (disch := decide) only [skip, fill]
  obtain rfl | rfl | rfl | rfl : g = 0 ∨ g = 1 ∨ g = 2 ∨ g = 3 := by revert g; decide
  · refine (miss 3 0 (by decide) _ _ _ _ _).trans ((miss 2 0 (by decide) _ _ _ _ _).trans ((miss 1 0 (by decide) _ _ _ _ _).trans ?_))
    refine (hit 0 _ _ _ _ _).trans ?_
    unfold_payloads
    pointwise [dqTerm, tt, pr, cols]
    rfl
  · refine (miss 3 1 (by decide) _ _ _ _ _).trans ((miss 2 1 (by decide) _ _ _ _ _).trans ?_)
    refine (hit 1 _ _ _ _ _).trans ?_
    unfold_payloads
    pointwise [dqTerm, tt, pr, cols]
    rfl
  · refine (miss 3 2 (by decide) _ _ _ _ _).trans ?_
    refine (hit 2 _ _ _ _ _).trans ?_
    unfold_payloads
    pointwise [dqTerm, tt, pr, cols]
    rfl
  · refine (hit 3 _ _ _ _ _).trans ?_
    unfold_payloads
    pointwise [dqTerm, tt, pr, cols]
    rfl

theorem C6 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : ¬cond0_0 i) (hc1 : cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) (xo6 : Vec Ideal S1x1x4x128x4096 .f32)
    (g : Fin 4) (d : Fin 128) (q : Fin 4096) :
    out0_C_6 c i arg2 harg2 arg3 harg3 arg4 harg4 arg5 harg5 arg6 harg6 arg7 harg7 arg9 harg9 arg10 harg10 arg11 harg11 arg12 harg12 hc0 hc1 x0 x1 x2 x3 x4 x5 xo6 (ix5 0 0 g d q) = (xo6 (ix5 0 0 g d q) + dqTerm x0 x1 x2 x3 x4 x5 g d q) * Ideal.ofBits .f32 0x3DB504F3#32 := by
  unfold out0_C_6
  rw [View.read_writes_eq_canon _ _ _ (cover0_C_6 c i arg2 harg2 arg3 harg3 arg4 harg4 arg5 harg5 arg6 harg6 arg7 harg7 arg9 harg9 arg10 harg10 arg11 harg11 arg12 harg12 hc0 hc1 x0 x1 x2 x3 x4 x5 xo6)]
  unfold kernelRun0_C; dsimp only
  sl_unfold_words
  simp only [View.readAt_eq_ld, harg2.read_unread, harg3.read_unread, harg4.read_unread, harg5.read_unread, harg6.read_unread, harg7.read_unread, harg9.read_unread, View.ld_unit_zero (S := S256x128) hz, View.readCov_unit_zero (S := S256x128) _ hz, readCov_first, word0,
    ld_cols0, ld_cols1, ld_cols2, ld_cols3, ld_row0, ld_row1, ld_row2, ld_row3]
  rw [View.canon_cons_unit_lit' (S := S1x1x4x128x4096) _ _ _ (by intro a; fin_cases a <;> rfl)]
  rw [show ∀ L inb, arg9.view.readCov L (Rect.unit (s := S1x1x4x128x4096) ![0, 0, 0, 0, 0] ![1, 1, 4, 128, 4096] inb).toLoadRect = View.canon L from fun L inb =>
    (View.readCov_eq_canon' _ _ _).trans (View.ld_unit_lit' (S := S1x1x4x128x4096) inb _ (by intro a; fin_cases a <;> rfl))]
  unfold k0_pay2
  rw [shapeCast_self]
  refine congrArg (fun z : EReal => z * Ideal.ofBits .f32 0x3DB504F3#32) ?_
  obtain rfl | rfl | rfl | rfl : g = 0 ∨ g = 1 ∨ g = 2 ∨ g = 3 := by revert g; decide
  · refine (miss 3 0 (by decide) _ _ _ _ _).trans ((miss 2 0 (by decide) _ _ _ _ _).trans ((miss 1 0 (by decide) _ _ _ _ _).trans ?_))
    refine (hit 0 _ _ _ _ _).trans ?_
    unfold_payloads
    pointwise [dqTerm, tt, pr, cols]
    rfl
  · refine (miss 3 1 (by decide) _ _ _ _ _).trans ((miss 2 1 (by decide) _ _ _ _ _).trans ?_)
    refine (hit 1 _ _ _ _ _).trans ?_
    unfold_payloads
    pointwise [dqTerm, tt, pr, cols]
    rfl
  · refine (miss 3 2 (by decide) _ _ _ _ _).trans ?_
    refine (hit 2 _ _ _ _ _).trans ?_
    unfold_payloads
    pointwise [dqTerm, tt, pr, cols]
    rfl
  · refine (hit 3 _ _ _ _ _).trans ?_
    unfold_payloads
    pointwise [dqTerm, tt, pr, cols]
    rfl

theorem A7 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : cond0_0 i) (hc1 : ¬cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) :
    out0_A_7 c i arg2 harg2 arg3 harg3 arg4 harg4 arg5 harg5 arg6 harg6 arg7 harg7 arg9 harg9 arg10 harg10 arg11 harg11 arg12 harg12 hc0 hc1 x0 x1 x2 x3 x4 x5 = dkTile x0 x1 x2 x3 x4 x5 := by
  unfold out0_A_7
  rw [View.read_writes_eq_canon _ _ _ (cover0_A_7 c i arg2 harg2 arg3 harg3 arg4 harg4 arg5 harg5 arg6 harg6 arg7 harg7 arg9 harg9 arg10 harg10 arg11 harg11 arg12 harg12 hc0 hc1 x0 x1 x2 x3 x4 x5)]
  unfold kernelRun0_A; dsimp only
  sl_unfold_words
  rw [View.canon_cons_unit_zero (S := S256x128) hz]
  simp only [View.readAt_eq_ld, harg2.read_unread, harg3.read_unread, harg4.read_unread, harg5.read_unread, harg6.read_unread, harg7.read_unread, View.ld_unit_zero (S := S256x128) hz, View.readCov_unit_zero (S := S256x128) _ hz, readCov_first, word0,
    ld_cols0, ld_cols1, ld_cols2, ld_cols3, ld_row0, ld_row1, ld_row2, ld_row3]
  funext j
  obtain ⟨r, d, rfl⟩ : ∃ (a : Fin 256) (b : Fin 128), j = ix2 a b := ⟨j 0, j 1, eq_ix2 j⟩
  rw [dkTile_apply]
  unfold_payloads
  pointwise [dkTerm, tt, pr, cols]
  rw [show Named.named (F := Ideal) κ "ln2" (φ := .f32) 1060205080#32 = ((Real.log 2 : ℝ) : EReal) from IdealRules.named_const.ideal_named_scalar _ _ _ _ rfl]
  rfl

theorem A8 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : cond0_0 i) (hc1 : ¬cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) :
    out0_A_8 c i arg2 harg2 arg3 harg3 arg4 harg4 arg5 harg5 arg6 harg6 arg7 harg7 arg9 harg9 arg10 harg10 arg11 harg11 arg12 harg12 hc0 hc1 x0 x1 x2 x3 x4 x5 = dvTile x0 x1 x2 x4 := by
  unfold out0_A_8
  rw [View.read_writes_eq_canon _ _ _ (cover0_A_8 c i arg2 harg2 arg3 harg3 arg4 harg4 arg5 harg5 arg6 harg6 arg7 harg7 arg9 harg9 arg10 harg10 arg11 harg11 arg12 harg12 hc0 hc1 x0 x1 x2 x3 x4 x5)]
  unfold kernelRun0_A; dsimp only
  sl_unfold_words
  first | rw [View.canon_cons_unit_zero (S := S256x128) hz] | rw [View.canon_unit_zero (S := S256x128) hz]
  simp only [View.readAt_eq_ld, harg2.read_unread, harg3.read_unread, harg4.read_unread, harg5.read_unread, harg6.read_unread, harg7.read_unread, View.ld_unit_zero (S := S256x128) hz, View.readCov_unit_zero (S := S256x128) _ hz, readCov_first, word0,
    ld_cols0, ld_cols1, ld_cols2, ld_cols3, ld_row0, ld_row1, ld_row2, ld_row3]
  funext j
  obtain ⟨r, d, rfl⟩ : ∃ (a : Fin 256) (b : Fin 128), j = ix2 a b := ⟨j 0, j 1, eq_ix2 j⟩
  rw [dvTile_apply]
  unfold_payloads
  pointwise [dvTerm, tt, pr, cols]
  rfl

theorem B7 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : ¬cond0_0 i) (hc1 : ¬cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) (xo6 : Vec Ideal S1x1x4x128x4096 .f32) :
    out0_B_7 c i arg2 harg2 arg3 harg3 arg4 harg4 arg5 harg5 arg6 harg6 arg7 harg7 arg9 harg9 arg10 harg10 arg11 harg11 arg12 harg12 hc0 hc1 x0 x1 x2 x3 x4 x5 xo6 = dkTile x0 x1 x2 x3 x4 x5 := by
  unfold out0_B_7
  rw [View.read_writes_eq_canon _ _ _ (cover0_B_7 c i arg2 harg2 arg3 harg3 arg4 harg4 arg5 harg5 arg6 harg6 arg7 harg7 arg9 harg9 arg10 harg10 arg11 harg11 arg12 harg12 hc0 hc1 x0 x1 x2 x3 x4 x5 xo6)]
  unfold kernelRun0_B; dsimp only
  sl_unfold_words
  rw [View.canon_cons_unit_zero (S := S256x128) hz]
  simp only [View.readAt_eq_ld, harg2.read_unread, harg3.read_unread, harg4.read_unread, harg5.read_unread, harg6.read_unread, harg7.read_unread, View.ld_unit_zero (S := S256x128) hz, View.readCov_unit_zero (S := S256x128) _ hz, readCov_first, word0,
    ld_cols0, ld_cols1, ld_cols2, ld_cols3, ld_row0, ld_row1, ld_row2, ld_row3]
  funext j
  obtain ⟨r, d, rfl⟩ : ∃ (a : Fin 256) (b : Fin 128), j = ix2 a b := ⟨j 0, j 1, eq_ix2 j⟩
  rw [dkTile_apply]
  unfold_payloads
  pointwise [dkTerm, tt, pr, cols]
  rw [show Named.named (F := Ideal) κ "ln2" (φ := .f32) 1060205080#32 = ((Real.log 2 : ℝ) : EReal) from IdealRules.named_const.ideal_named_scalar _ _ _ _ rfl]
  rfl

theorem B8 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : ¬cond0_0 i) (hc1 : ¬cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) (xo6 : Vec Ideal S1x1x4x128x4096 .f32) :
    out0_B_8 c i arg2 harg2 arg3 harg3 arg4 harg4 arg5 harg5 arg6 harg6 arg7 harg7 arg9 harg9 arg10 harg10 arg11 harg11 arg12 harg12 hc0 hc1 x0 x1 x2 x3 x4 x5 xo6 = dvTile x0 x1 x2 x4 := by
  unfold out0_B_8
  rw [View.read_writes_eq_canon _ _ _ (cover0_B_8 c i arg2 harg2 arg3 harg3 arg4 harg4 arg5 harg5 arg6 harg6 arg7 harg7 arg9 harg9 arg10 harg10 arg11 harg11 arg12 harg12 hc0 hc1 x0 x1 x2 x3 x4 x5 xo6)]
  unfold kernelRun0_B; dsimp only
  sl_unfold_words
  first | rw [View.canon_cons_unit_zero (S := S256x128) hz] | rw [View.canon_unit_zero (S := S256x128) hz]
  simp only [View.readAt_eq_ld, harg2.read_unread, harg3.read_unread, harg4.read_unread, harg5.read_unread, harg6.read_unread, harg7.read_unread, View.ld_unit_zero (S := S256x128) hz, View.readCov_unit_zero (S := S256x128) _ hz, readCov_first, word0,
    ld_cols0, ld_cols1, ld_cols2, ld_cols3, ld_row0, ld_row1, ld_row2, ld_row3]
  funext j
  obtain ⟨r, d, rfl⟩ : ∃ (a : Fin 256) (b : Fin 128), j = ix2 a b := ⟨j 0, j 1, eq_ix2 j⟩
  rw [dvTile_apply]
  unfold_payloads
  pointwise [dvTerm, tt, pr, cols]
  rfl

theorem C7 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : ¬cond0_0 i) (hc1 : cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) (xo6 : Vec Ideal S1x1x4x128x4096 .f32) :
    out0_C_7 c i arg2 harg2 arg3 harg3 arg4 harg4 arg5 harg5 arg6 harg6 arg7 harg7 arg9 harg9 arg10 harg10 arg11 harg11 arg12 harg12 hc0 hc1 x0 x1 x2 x3 x4 x5 xo6 = dkTile x0 x1 x2 x3 x4 x5 := by
  unfold out0_C_7
  rw [View.read_writes_eq_canon _ _ _ (cover0_C_7 c i arg2 harg2 arg3 harg3 arg4 harg4 arg5 harg5 arg6 harg6 arg7 harg7 arg9 harg9 arg10 harg10 arg11 harg11 arg12 harg12 hc0 hc1 x0 x1 x2 x3 x4 x5 xo6)]
  unfold kernelRun0_C; dsimp only
  sl_unfold_words
  rw [View.canon_cons_unit_zero (S := S256x128) hz]
  simp only [View.readAt_eq_ld, harg2.read_unread, harg3.read_unread, harg4.read_unread, harg5.read_unread, harg6.read_unread, harg7.read_unread, View.ld_unit_zero (S := S256x128) hz, View.readCov_unit_zero (S := S256x128) _ hz, readCov_first, word0,
    ld_cols0, ld_cols1, ld_cols2, ld_cols3, ld_row0, ld_row1, ld_row2, ld_row3]
  funext j
  obtain ⟨r, d, rfl⟩ : ∃ (a : Fin 256) (b : Fin 128), j = ix2 a b := ⟨j 0, j 1, eq_ix2 j⟩
  rw [dkTile_apply]
  unfold_payloads
  pointwise [dkTerm, tt, pr, cols]
  rw [show Named.named (F := Ideal) κ "ln2" (φ := .f32) 1060205080#32 = ((Real.log 2 : ℝ) : EReal) from IdealRules.named_const.ideal_named_scalar _ _ _ _ rfl]
  rfl

theorem C8 (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x4x1x1x4096 .f32) (harg6 : arg6.IsWhole) (arg7 : Memref sig .tc .vmem S1x4x1x1x4096 .f32) (harg7 : arg7.IsWhole) (arg9 : Memref sig .tc .vmem S1x1x4x128x4096 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S256x128 .f32) (harg12 : arg12.IsWhole) (hc0 : ¬cond0_0 i) (hc1 : cond0_1 i)
    (x0 : Vec Ideal S4096x512 .bf16) (x1 : Vec Ideal S4096x512 .bf16) (x2 : Vec Ideal S256x128 .bf16) (x3 : Vec Ideal S256x128 .bf16) (x4 : Vec Ideal S1x4x1x1x4096 .f32) (x5 : Vec Ideal S1x4x1x1x4096 .f32) (xo6 : Vec Ideal S1x1x4x128x4096 .f32) :
    out0_C_8 c i arg2 harg2 arg3 harg3 arg4 harg4 arg5 harg5 arg6 harg6 arg7 harg7 arg9 harg9 arg10 harg10 arg11 harg11 arg12 harg12 hc0 hc1 x0 x1 x2 x3 x4 x5 xo6 = dvTile x0 x1 x2 x4 := by
  unfold out0_C_8
  rw [View.read_writes_eq_canon _ _ _ (cover0_C_8 c i arg2 harg2 arg3 harg3 arg4 harg4 arg5 harg5 arg6 harg6 arg7 harg7 arg9 harg9 arg10 harg10 arg11 harg11 arg12 harg12 hc0 hc1 x0 x1 x2 x3 x4 x5 xo6)]
  unfold kernelRun0_C; dsimp only
  sl_unfold_words
  first | rw [View.canon_cons_unit_zero (S := S256x128) hz] | rw [View.canon_unit_zero (S := S256x128) hz]
  simp only [View.readAt_eq_ld, harg2.read_unread, harg3.read_unread, harg4.read_unread, harg5.read_unread, harg6.read_unread, harg7.read_unread, View.ld_unit_zero (S := S256x128) hz, View.readCov_unit_zero (S := S256x128) _ hz, readCov_first, word0,
    ld_cols0, ld_cols1, ld_cols2, ld_cols3, ld_row0, ld_row1, ld_row2, ld_row3]
  funext j
  obtain ⟨r, d, rfl⟩ : ∃ (a : Fin 256) (b : Fin 128), j = ix2 a b := ⟨j 0, j 1, eq_ix2 j⟩
  rw [dvTile_apply]
  unfold_payloads
  pointwise [dvTerm, tt, pr, cols]
  rfl

end Cert.Bwd.Body
end
-- ==== Proof.Bwd.Arrays.lean ====
module
public import proofs.«01_k».proof.Proof.Bwd.Body
public import Idealize.ShloMosaic.Lib.Pipeline.ValueKit
@[expose] public section
set_option maxRecDepth 16384
noncomputable section
namespace Cert.Bwd.Arr
open Cert.KernelIdeal Cert.KernelIdeal.Gen Cert.KernelIdeal.Facts Cert.Bwd.Body
open Idealize.ShloMosaic Idealize.ShloMosaic.TcCoe Idealize.SL.Sem

/-- Each window's block at grid point `t`: key/value head `t / 17`, key tile `t % 17`. -/
theorem index_facts : ∀ t : Fin grid0.N,
    win0_0.index t = ![0, t.val / 17] ∧ win0_1.index t = ![0, t.val / 17]
    ∧ win0_2.index t = ![t.val % 17, t.val / 17] ∧ win0_3.index t = ![t.val % 17, 20 + t.val / 17]
    ∧ win0_4.index t = ![t.val / 17, 0, 0, 0, 0] ∧ win0_5.index t = ![t.val / 17, 0, 0, 0, 0]
    ∧ win0_6.index t = ![t.val / 17, 0, 0, 0, 0] ∧ win0_7.index t = ![t.val % 17, t.val / 17]
    ∧ win0_8.index t = ![t.val % 17, 20 + t.val / 17] := by decide +kernel

variable (m : (ℓ : Loc nD τ sig) → Buf (Elt Ideal) ℓ) (c : Dev nD)

theorem N_eq : cfg0.N = 68 := rfl

section closed
variable (qb : FVec Ideal S4096x2048 .bf16) (dob : FVec Ideal S4096x4096 .bf16) (kb : FVec Ideal S4352x512 .bf16)
  (pb : FVec Ideal S4352x9216 .bf16) (lb db : FVec Ideal S4x4x1x1x4096 .f32)

/-- The probability of head `(h, g)`, key `j`, query `i`. -/
def P (h g : Fin 4) (j : Fin 4352) (i : Fin 4096) : EReal :=
  Ideal.exp2 ((∑ d : Fin 128, kb (ix2 j ⟨h.val * 128 + d.val, by omega⟩) * qb (ix2 i ⟨h.val * 512 + g.val * 128 + d.val, by omega⟩))
    - lb (ix5 h g 0 0 i))

/-- The score's gradient there, before its factor. -/
def T (h g : Fin 4) (j : Fin 4352) (i : Fin 4096) : EReal :=
  P qb kb lb h g j i * ((∑ d : Fin 128, pb (ix2 j ⟨2560 + h.val * 128 + d.val, by omega⟩)
    * dob (ix2 i ⟨h.val * 512 + g.val * 128 + d.val, by omega⟩)) - db (ix5 h g 0 0 i))

def dkOne (h g : Fin 4) (j : Fin 4352) (d : Fin 128) : EReal :=
  ∑ i : Fin 4096, T qb dob kb pb lb db h g j i * qb (ix2 i ⟨h.val * 512 + g.val * 128 + d.val, by omega⟩)

def dvOne (h g : Fin 4) (j : Fin 4352) (d : Fin 128) : EReal :=
  ∑ i : Fin 4096, P qb kb lb h g j i * dob (ix2 i ⟨h.val * 512 + g.val * 128 + d.val, by omega⟩)

/-- The key gradient at key `j`, head `h`, channel `d`. -/
def dkAt (h : Fin 4) (j : Fin 4352) (d : Fin 128) : EReal :=
  (0 + (((dkOne qb dob kb pb lb db h 0 j d + dkOne qb dob kb pb lb db h 1 j d) + dkOne qb dob kb pb lb db h 2 j d)
    + dkOne qb dob kb pb lb db h 3 j d)) * ((Real.log 2 : ℝ) : EReal)

/-- The value gradient there. -/
def dvAt (h : Fin 4) (j : Fin 4352) (d : Fin 128) : EReal :=
  0 + (((dvOne qb dob kb lb h 0 j d + dvOne qb dob kb lb h 1 j d) + dvOne qb dob kb lb h 2 j d) + dvOne qb dob kb lb h 3 j d)

/-- The query gradient of head `(h, g)` at channel `d`, query `i`. -/
def dqAt (h g : Fin 4) (d : Fin 128) (i : Fin 4096) : EReal :=
  (∑ j : Fin 4352, kb (ix2 j ⟨h.val * 128 + d.val, by omega⟩) * T qb dob kb pb lb db h g j i) * Ideal.ofBits .f32 0x3DB504F3#32

end closed

theorem read0 (t : Fin cfg0.N) (h : Fin 4) (ht : t.val / 17 = h.val) (g : Fin 4) (i : Fin 4096) (d : Fin 128) :
    cols g (iblk m c 0 t) (ix2 i d) = V m c main_v39 (ix2 i ⟨h.val * 512 + g.val * 128 + d.val, by omega⟩) := by
  unfold cols
  blk_ext [iblk, (index_facts t).1]

theorem read1 (t : Fin cfg0.N) (h : Fin 4) (ht : t.val / 17 = h.val) (g : Fin 4) (i : Fin 4096) (d : Fin 128) :
    cols g (iblk m c 1 t) (ix2 i d) = V m c main_v40 (ix2 i ⟨h.val * 512 + g.val * 128 + d.val, by omega⟩) := by
  unfold cols
  blk_ext [iblk, (index_facts t).2.1]

theorem read2 (t : Fin cfg0.N) (h : Fin 4) (ht : t.val / 17 = h.val) (j : Fin 4352) (r : Fin 256)
    (hj : j.val = 256 * (t.val % 17) + r.val) (d : Fin 128) :
    iblk m c 2 t (ix2 r d) = V m c main_v41 (ix2 j ⟨h.val * 128 + d.val, by omega⟩) := by
  blk_ext [iblk, (index_facts t).2.2.1]

theorem read3 (t : Fin cfg0.N) (h : Fin 4) (ht : t.val / 17 = h.val) (j : Fin 4352) (r : Fin 256)
    (hj : j.val = 256 * (t.val % 17) + r.val) (d : Fin 128) :
    iblk m c 3 t (ix2 r d) = V m c main_v42 (ix2 j ⟨2560 + h.val * 128 + d.val, by omega⟩) := by
  blk_ext [iblk, (index_facts t).2.2.2.1]

theorem read4 (t : Fin cfg0.N) (h : Fin 4) (ht : t.val / 17 = h.val) (g : Fin 4) (i : Fin 4096) :
    row g (iblk m c 4 t) (ix5 0 0 0 0 i) = V m c main_v43 (ix5 h g 0 0 i) := by
  unfold row
  blk_ext [iblk, (index_facts t).2.2.2.2.1]

theorem read5 (t : Fin cfg0.N) (h : Fin 4) (ht : t.val / 17 = h.val) (g : Fin 4) (i : Fin 4096) :
    row g (iblk m c 5 t) (ix5 0 0 0 0 i) = V m c main_v44 (ix5 h g 0 0 i) := by
  unfold row
  blk_ext [iblk, (index_facts t).2.2.2.2.2.1]

end Cert.Bwd.Arr
end
-- ==== Proof.Bwd.Outs.lean ====
module
public import proofs.«01_k».proof.Proof.Bwd.Arrays
@[expose] public section
set_option maxRecDepth 16384
set_option maxHeartbeats 400000
noncomputable section
namespace Cert.Bwd.Arr
open Cert.KernelIdeal Cert.KernelIdeal.Gen Cert.KernelIdeal.Facts Cert.Bwd.Body
open Idealize.ShloMosaic Idealize.ShloMosaic.TcCoe Idealize.SL.Sem

section gen
variable {F : FTy → Type} [FloatOps F] [Named F] (m : (ℓ : Loc nD τ sig) → Buf (Elt F) ℓ) (c : Dev nD)

theorem gA6 (t : Fin cfg0.N) (h0 : t.val % 17 = 0) (h1 : ¬t.val % 17 = 16) :
    (outsAt0 m c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  simp only [outsAt0_A m c t h0 h1]

theorem gA7 (t : Fin cfg0.N) (h0 : t.val % 17 = 0) (h1 : ¬t.val % 17 = 16) :
    (outsAt0 m c t.val t.isLt).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  simp only [outsAt0_A m c t h0 h1]

theorem gA8 (t : Fin cfg0.N) (h0 : t.val % 17 = 0) (h1 : ¬t.val % 17 = 16) :
    (outsAt0 m c t.val t.isLt).2.2 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  simp only [outsAt0_A m c t h0 h1]

theorem gB6 (t : Fin cfg0.N) (h0 : ¬t.val % 17 = 0) (h1 : ¬t.val % 17 = 16) :
    (outsAt0 m c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 := by
  simp only [outsAt0_B m c t h0 h1]

theorem gB7 (t : Fin cfg0.N) (h0 : ¬t.val % 17 = 0) (h1 : ¬t.val % 17 = 16) :
    (outsAt0 m c t.val t.isLt).2.1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 := by
  simp only [outsAt0_B m c t h0 h1]

theorem gB8 (t : Fin cfg0.N) (h0 : ¬t.val % 17 = 0) (h1 : ¬t.val % 17 = 16) :
    (outsAt0 m c t.val t.isLt).2.2 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 := by
  simp only [outsAt0_B m c t h0 h1]

theorem gC6 (t : Fin cfg0.N) (h0 : ¬t.val % 17 = 0) (h1 : t.val % 17 = 16) :
    (outsAt0 m c t.val t.isLt).1 = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 := by
  simp only [outsAt0_C m c t h0 h1]

theorem gC7 (t : Fin cfg0.N) (h0 : ¬t.val % 17 = 0) (h1 : t.val % 17 = 16) :
    (outsAt0 m c t.val t.isLt).2.1 = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 := by
  simp only [outsAt0_C m c t h0 h1]

theorem gC8 (t : Fin cfg0.N) (h0 : ¬t.val % 17 = 0) (h1 : t.val % 17 = 16) :
    (outsAt0 m c t.val t.isLt).2.2 = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 := by
  simp only [outsAt0_C m c t h0 h1]

end gen

variable (m : (ℓ : Loc nD τ sig) → Buf (Elt Ideal) ℓ) (c : Dev nD)

theorem n1 {n : ℕ} (h : n % 17 = 0) : ¬n % 17 = 16 := by omega
theorem n2 {n j : ℕ} (h : n % 17 = j + 1) : ¬n % 17 = 0 := by omega
theorem n3 {n j : ℕ} (h : n % 17 = j) (hj : j < 16) : ¬n % 17 = 16 := by omega
theorem n4 {n j : ℕ} (h : n % 17 = j + 1) : (n - 1) % 17 = j := by omega
theorem n5 {n j : ℕ} (h : n % 17 = j + 1) : (n - 1) / 17 = n / 17 := by omega
theorem n6 {n j : ℕ} (h : n % 17 = j) : 17 * (n / 17) + j = n := by omega
theorem n7 {j : ℕ} (h : j + 1 < 16) : j < 16 := by omega
theorem n8 {h s : ℕ} (hh : h < 4) (hs : s < 17) : 17 * h + s < 68 := by omega
theorem n9 {h s : ℕ} (hs : s < 17) : (17 * h + s) / 17 = h := by omega
theorem n10 {h s r : ℕ} (hs : s < 17) : r + 256 * s = 256 * ((17 * h + s) % 17) + r := by omega

theorem outA7 (t : Fin cfg0.N) (h0 : t.val % 17 = 0) (h1 : ¬t.val % 17 = 16) :
    (outsAt0 m c t.val t.isLt).2.1 = dkTile (iblk m c 0 t) (iblk m c 1 t) (iblk m c 2 t) (iblk m c 3 t) (iblk m c 4 t) (iblk m c 5 t) := by
  rw [gA7 m c t h0 h1, A7]

theorem outA8 (t : Fin cfg0.N) (h0 : t.val % 17 = 0) (h1 : ¬t.val % 17 = 16) :
    (outsAt0 m c t.val t.isLt).2.2 = dvTile (iblk m c 0 t) (iblk m c 1 t) (iblk m c 2 t) (iblk m c 4 t) := by
  rw [gA8 m c t h0 h1, A8]

theorem outA6 (t : Fin cfg0.N) (h0 : t.val % 17 = 0) (h1 : ¬t.val % 17 = 16) (g : Fin 4) (d : Fin 128) (q : Fin 4096) :
    (outsAt0 m c t.val t.isLt).1 (ix5 0 0 g d q) = 0 + dqTerm (iblk m c 0 t) (iblk m c 1 t) (iblk m c 2 t) (iblk m c 3 t) (iblk m c 4 t) (iblk m c 5 t) g d q := by
  rw [gA6 m c t h0 h1, A6]

theorem outB7 (t : Fin cfg0.N) (h0 : ¬t.val % 17 = 0) (h1 : ¬t.val % 17 = 16) :
    (outsAt0 m c t.val t.isLt).2.1 = dkTile (iblk m c 0 t) (iblk m c 1 t) (iblk m c 2 t) (iblk m c 3 t) (iblk m c 4 t) (iblk m c 5 t) := by
  rw [gB7 m c t h0 h1, B7]

theorem outB8 (t : Fin cfg0.N) (h0 : ¬t.val % 17 = 0) (h1 : ¬t.val % 17 = 16) :
    (outsAt0 m c t.val t.isLt).2.2 = dvTile (iblk m c 0 t) (iblk m c 1 t) (iblk m c 2 t) (iblk m c 4 t) := by
  rw [gB8 m c t h0 h1, B8]

theorem outB6 (t : Fin cfg0.N) (h0 : ¬t.val % 17 = 0) (h1 : ¬t.val % 17 = 16) (g : Fin 4) (d : Fin 128) (q : Fin 4096) :
    (outsAt0 m c t.val t.isLt).1 (ix5 0 0 g d q) = (show EReal from (outsAt0 m c (t.val - 1) (Nat.lt_of_le_of_lt (Nat.sub_le _ _) t.isLt)).1 (ix5 0 0 g d q)) + dqTerm (iblk m c 0 t) (iblk m c 1 t) (iblk m c 2 t) (iblk m c 3 t) (iblk m c 4 t) (iblk m c 5 t) g d q := by
  rw [gB6 m c t h0 h1, B6]

theorem outC7 (t : Fin cfg0.N) (h0 : ¬t.val % 17 = 0) (h1 : t.val % 17 = 16) :
    (outsAt0 m c t.val t.isLt).2.1 = dkTile (iblk m c 0 t) (iblk m c 1 t) (iblk m c 2 t) (iblk m c 3 t) (iblk m c 4 t) (iblk m c 5 t) := by
  rw [gC7 m c t h0 h1, C7]

theorem outC8 (t : Fin cfg0.N) (h0 : ¬t.val % 17 = 0) (h1 : t.val % 17 = 16) :
    (outsAt0 m c t.val t.isLt).2.2 = dvTile (iblk m c 0 t) (iblk m c 1 t) (iblk m c 2 t) (iblk m c 4 t) := by
  rw [gC8 m c t h0 h1, C8]

theorem outC6 (t : Fin cfg0.N) (h0 : ¬t.val % 17 = 0) (h1 : t.val % 17 = 16) (g : Fin 4) (d : Fin 128) (q : Fin 4096) :
    (outsAt0 m c t.val t.isLt).1 (ix5 0 0 g d q) = ((show EReal from (outsAt0 m c (t.val - 1) (Nat.lt_of_le_of_lt (Nat.sub_le _ _) t.isLt)).1 (ix5 0 0 g d q)) + dqTerm (iblk m c 0 t) (iblk m c 1 t) (iblk m c 2 t) (iblk m c 3 t) (iblk m c 4 t) (iblk m c 5 t) g d q) * Ideal.ofBits .f32 0x3DB504F3#32 := by
  rw [gC6 m c t h0 h1, C6]

theorem outs7 (t : Fin cfg0.N) :
    (outsAt0 m c t.val t.isLt).2.1 = dkTile (iblk m c 0 t) (iblk m c 1 t) (iblk m c 2 t) (iblk m c 3 t) (iblk m c 4 t) (iblk m c 5 t) := by
  by_cases h0 : t.val % 17 = 0
  · exact outA7 m c t h0 (n1 h0)
  · by_cases h1 : t.val % 17 = 16
    · exact outC7 m c t h0 h1
    · exact outB7 m c t h0 h1

theorem outs8 (t : Fin cfg0.N) :
    (outsAt0 m c t.val t.isLt).2.2 = dvTile (iblk m c 0 t) (iblk m c 1 t) (iblk m c 2 t) (iblk m c 4 t) := by
  by_cases h0 : t.val % 17 = 0
  · exact outA8 m c t h0 (n1 h0)
  · by_cases h1 : t.val % 17 = 16
    · exact outC8 m c t h0 h1
    · exact outB8 m c t h0 h1

/-- What grid point `n` adds to the query gradient of head `g`. -/
def part (g : Fin 4) (d : Fin 128) (q : Fin 4096) (n : ℕ) : EReal :=
  if hn : n < cfg0.N then
    dqTerm (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) g d q
  else 0

theorem part_of (g : Fin 4) (d : Fin 128) (q : Fin 4096) (t : Fin cfg0.N) : part m c g d q t.val =
    dqTerm (iblk m c 0 t) (iblk m c 1 t) (iblk m c 2 t) (iblk m c 3 t) (iblk m c 4 t) (iblk m c 5 t) g d q := by
  unfold part; rw [dif_pos t.isLt]

theorem outs6 (g : Fin 4) (d : Fin 128) (q : Fin 4096) : ∀ (j : ℕ) (t : Fin cfg0.N), t.val % 17 = j → j < 16 →
    (outsAt0 m c t.val t.isLt).1 (ix5 0 0 g d q) = ∑ s ∈ Finset.range (j + 1), part m c g d q (17 * (t.val / 17) + s) := by
  intro j
  induction j with
  | zero =>
    intro t h _
    refine (outA6 m c t h (n1 h) g d q).trans ?_
    rw [Finset.sum_range_one, n6 h, part_of, zero_add]
  | succ j ih =>
    intro t h hj
    have ih' := ih ⟨t.val - 1, Nat.lt_of_le_of_lt (Nat.sub_le _ _) t.isLt⟩ (n4 h) (n7 hj)
    refine (outB6 m c t (n2 h) (n3 h hj) g d q).trans ?_
    rw [Finset.sum_range_succ, n6 h, part_of]
    refine congrArg (fun z : EReal => z + _) (ih'.trans ?_)
    show ∑ s ∈ Finset.range (j + 1), part m c g d q (17 * ((t.val - 1) / 17) + s) = _
    rw [n5 h]

theorem outs6_last (g : Fin 4) (d : Fin 128) (q : Fin 4096) (t : Fin cfg0.N) (h : t.val % 17 = 16) :
    (outsAt0 m c t.val t.isLt).1 (ix5 0 0 g d q)
      = (∑ s ∈ Finset.range 17, part m c g d q (17 * (t.val / 17) + s)) * Ideal.ofBits .f32 0x3DB504F3#32 := by
  have ih' := outs6 m c g d q 15 ⟨t.val - 1, Nat.lt_of_le_of_lt (Nat.sub_le _ _) t.isLt⟩ (n4 h) (by decide)
  refine (outC6 m c t (n2 h) h g d q).trans ?_
  refine congrArg (fun z : EReal => z * Ideal.ofBits .f32 0x3DB504F3#32) ?_
  rw [Finset.sum_range_succ, n6 h, part_of]
  refine congrArg (fun z : EReal => z + _) (ih'.trans ?_)
  show ∑ s ∈ Finset.range (15 + 1), part m c g d q (17 * ((t.val - 1) / 17) + s) = _
  rw [n5 h]

theorem pr_eq (t : Fin cfg0.N) (h : Fin 4) (ht : t.val / 17 = h.val) (j : Fin 4352) (r : Fin 256)
    (hj : j.val = 256 * (t.val % 17) + r.val) (g : Fin 4) (i : Fin 4096) :
    pr (iblk m c 0 t) (iblk m c 2 t) (iblk m c 4 t) g r i = P (V m c main_v39) (V m c main_v41) (V m c main_v43) h g j i := by
  unfold pr P
  rw [read4 m c t h ht]
  simp only [read0 m c t h ht, read2 m c t h ht j r hj]

theorem tt_eq (t : Fin cfg0.N) (h : Fin 4) (ht : t.val / 17 = h.val) (j : Fin 4352) (r : Fin 256)
    (hj : j.val = 256 * (t.val % 17) + r.val) (g : Fin 4) (i : Fin 4096) :
    tt (iblk m c 0 t) (iblk m c 1 t) (iblk m c 2 t) (iblk m c 3 t) (iblk m c 4 t) (iblk m c 5 t) g r i
      = T (V m c main_v39) (V m c main_v40) (V m c main_v41) (V m c main_v42) (V m c main_v43) (V m c main_v44) h g j i := by
  unfold tt T
  rw [read5 m c t h ht, pr_eq m c t h ht j r hj]
  simp only [read1 m c t h ht, read3 m c t h ht j r hj]

theorem part_eq (g : Fin 4) (d : Fin 128) (q : Fin 4096) (h : Fin 4) (s : Fin 17) :
    part m c g d q (17 * h.val + s.val) = ∑ r : Fin 256,
      (show EReal from V m c main_v41 (ix2 (⟨r.val + 256 * s.val, by omega⟩ : Fin 4352) ⟨h.val * 128 + d.val, by omega⟩))
        * T (V m c main_v39) (V m c main_v40) (V m c main_v41) (V m c main_v42) (V m c main_v43) (V m c main_v44) h g ⟨r.val + 256 * s.val, by omega⟩ q := by
  have hlt : 17 * h.val + s.val < cfg0.N := n8 h.isLt s.isLt
  rw [show 17 * h.val + s.val = (⟨17 * h.val + s.val, hlt⟩ : Fin cfg0.N).val from rfl, part_of]
  unfold dqTerm
  refine Finset.sum_congr rfl fun r _ => ?_
  have ht : (⟨17 * h.val + s.val, hlt⟩ : Fin cfg0.N).val / 17 = h.val := n9 s.isLt
  have hj : (⟨r.val + 256 * s.val, by omega⟩ : Fin 4352).val = 256 * ((⟨17 * h.val + s.val, hlt⟩ : Fin cfg0.N).val % 17) + r.val := n10 s.isLt
  rw [tt_eq m c _ h ht _ r hj, read2 m c _ h ht _ r hj]

theorem tiles_sum (f : Fin 4352 → EReal) :
    ∑ s : Fin 17, ∑ r : Fin 256, f ⟨r.val + 256 * s.val, by omega⟩ = ∑ j : Fin 4352, f j := by
  rw [← Fintype.sum_prod_type' (f := fun (s : Fin 17) (r : Fin 256) => f ⟨r.val + 256 * s.val, by omega⟩)]
  exact Equiv.sum_comp (finProdFinEquiv (m := 17) (n := 256)) f

theorem dq_last (g : Fin 4) (d : Fin 128) (q : Fin 4096) (t : Fin cfg0.N) (h : t.val % 17 = 16) (hd : Fin 4) (ht : t.val / 17 = hd.val) :
    (outsAt0 m c t.val t.isLt).1 (ix5 0 0 g d q)
      = dqAt (V m c main_v39) (V m c main_v40) (V m c main_v41) (V m c main_v42) (V m c main_v43) (V m c main_v44) hd g d q := by
  rw [outs6_last m c g d q t h, ht, Finset.sum_range]
  unfold dqAt
  refine congrArg (fun z : EReal => z * Ideal.ofBits .f32 0x3DB504F3#32) ?_
  rw [← tiles_sum]
  exact Finset.sum_congr rfl fun s _ => part_eq m c g d q hd s

theorem dk_tile (t : Fin cfg0.N) (h : Fin 4) (ht : t.val / 17 = h.val) (j : Fin 4352) (r : Fin 256)
    (hj : j.val = 256 * (t.val % 17) + r.val) (d : Fin 128) : (outsAt0 m c t.val t.isLt).2.1 (ix2 r d)
      = dkAt (V m c main_v39) (V m c main_v40) (V m c main_v41) (V m c main_v42) (V m c main_v43) (V m c main_v44) h j d := by
  rw [outs7, dkTile_apply]
  unfold dkAt dkOne dkTerm
  simp only [tt_eq m c t h ht j r hj, read0 m c t h ht]

theorem dv_tile (t : Fin cfg0.N) (h : Fin 4) (ht : t.val / 17 = h.val) (j : Fin 4352) (r : Fin 256)
    (hj : j.val = 256 * (t.val % 17) + r.val) (d : Fin 128) : (outsAt0 m c t.val t.isLt).2.2 (ix2 r d)
      = dvAt (V m c main_v39) (V m c main_v40) (V m c main_v41) (V m c main_v43) h j d := by
  rw [outs8, dvTile_apply]
  unfold dvAt dvOne dvTerm
  simp only [pr_eq m c t h ht j r hj, read1 m c t h ht]

end Cert.Bwd.Arr
end
-- ==== Proof.Bwd.Final.lean ====
module
public import proofs.«01_k».proof.Proof.Bwd.Outs
@[expose] public section
set_option maxRecDepth 16384
noncomputable section
namespace Cert.Bwd.Arr
open Cert.KernelIdeal Cert.KernelIdeal.Gen Cert.KernelIdeal.Facts Cert.Bwd.Body
open Idealize.ShloMosaic Idealize.ShloMosaic.TcCoe Idealize.SL.Sem

section closed
variable (qb : FVec Ideal S4096x2048 .bf16) (dob : FVec Ideal S4096x4096 .bf16) (kb : FVec Ideal S4352x512 .bf16)
  (pb : FVec Ideal S4352x9216 .bf16) (lb db : FVec Ideal S4x4x1x1x4096 .f32)

/-- The query gradient, whole. -/
def dqG : FVec Ideal S4x1x4x128x4096 .f32 := fun i =>
  dqAt qb dob kb pb lb db (show Fin 4 from i 0) (show Fin 4 from i 2) (show Fin 128 from i 3) (show Fin 4096 from i 4)

/-- The key gradient, whole: column `n` is channel `n % 128` of head `n / 128`. -/
def dkG : FVec Ideal S4352x512 .f32 := fun i =>
  dkAt qb dob kb pb lb db ⟨(show Fin 512 from i 1).val / 128, by have := (show Fin 512 from i 1).isLt; omega⟩
    (show Fin 4352 from i 0) ⟨(show Fin 512 from i 1).val % 128, by omega⟩

/-- The projection gradient: the value gradient in its 512 columns, the operand's own elements in the others. -/
def dpG (into : FVec Ideal S4352x9216 .bf16) : FVec Ideal S4352x9216 .bf16 := fun i =>
  if 2560 ≤ (show Fin 9216 from i 1).val ∧ (show Fin 9216 from i 1).val < 3072 then
    dvAt qb dob kb lb ⟨((show Fin 9216 from i 1).val - 2560) / 128 % 4, by omega⟩
      (show Fin 4352 from i 0) ⟨(show Fin 9216 from i 1).val % 128, by omega⟩
  else into i
end closed

variable (m : (ℓ : Loc nD τ sig) → Buf (Elt Ideal) ℓ) (c : Dev nD)

theorem flush6 : ∀ t : Fin cfg0.N, (cfg0.win 6).flush t = true → t.val % 17 = 16 :=
  (by decide +kernel : ∀ t : Fin grid0.N, win0_6.flush t = true → t.val % 17 = 16)

theorem lt4 (t : Fin cfg0.N) : t.val / 17 < 4 := by
  have h : t.val < 68 := t.isLt
  omega

theorem lt4352 (t : Fin cfg0.N) (r : Fin 256) : t.val % 17 * 256 + r.val < 4352 := by
  have h : t.val % 17 < 17 := Nat.mod_lt _ (by decide)
  omega

theorem lt512 (t : Fin cfg0.N) (d : Fin 128) : t.val / 17 * 128 + d.val < 512 := by
  have h := lt4 t
  omega

theorem lt9216 (t : Fin cfg0.N) (d : Fin 128) : (20 + t.val / 17) * 128 + d.val < 9216 := by
  have h := lt4 t
  omega

theorem emb6 (t : Fin cfg0.N) (a b : Fin 1) (g : Fin 4) (d : Fin 128) (q : Fin 4096) :
    ((win0_6.blk t).view.emb (ix5 a b g d q) : S4x1x4x128x4096.Idx) = ix5 ⟨t.val / 17, lt4 t⟩ 0 g d q := by
  blk_ext [(index_facts t).2.2.2.2.2.2.1]

theorem emb7 (t : Fin cfg0.N) (r : Fin 256) (d : Fin 128) :
    ((win0_7.blk t).view.emb (ix2 r d) : S4352x512.Idx) = ix2 ⟨t.val % 17 * 256 + r.val, lt4352 t r⟩ ⟨t.val / 17 * 128 + d.val, lt512 t d⟩ := by
  blk_ext [(index_facts t).2.2.2.2.2.2.2.1]

theorem emb8 (t : Fin cfg0.N) (r : Fin 256) (d : Fin 128) :
    ((win0_8.blk t).view.emb (ix2 r d) : S4352x9216.Idx) = ix2 ⟨t.val % 17 * 256 + r.val, lt4352 t r⟩ ⟨(20 + t.val / 17) * 128 + d.val, lt9216 t d⟩ := by
  blk_ext [(index_facts t).2.2.2.2.2.2.2.2]

theorem dqG_ix (qb dob kb pb lb db) (h g : Fin 4) (d : Fin 128) (q : Fin 4096) :
    dqG qb dob kb pb lb db (ix5 h 0 g d q) = dqAt qb dob kb pb lb db h g d q := rfl

theorem dkG_ix (qb dob kb pb lb db) (j : Fin 4352) (h : Fin 4) (d : Fin 128) (n : Fin 512) (hn : n.val = h.val * 128 + d.val) :
    dkG qb dob kb pb lb db (ix2 j n) = dkAt qb dob kb pb lb db h j d := by
  show dkAt qb dob kb pb lb db ⟨n.val / 128, _⟩ j ⟨n.val % 128, _⟩ = _
  congr 1 <;> apply Fin.ext <;> show _ = _ <;> simp only [] <;> omega

theorem dpG_in (qb dob kb lb into) (j : Fin 4352) (h : Fin 4) (d : Fin 128) (n : Fin 9216) (hn : n.val = 2560 + h.val * 128 + d.val) :
    dpG qb dob kb lb into (ix2 j n) = dvAt qb dob kb lb h j d := by
  show (if 2560 ≤ n.val ∧ n.val < 3072 then dvAt qb dob kb lb ⟨(n.val - 2560) / 128 % 4, _⟩ j ⟨n.val % 128, _⟩ else into (ix2 j n)) = _
  rw [if_pos (by omega)]
  congr 1 <;> apply Fin.ext <;> show _ = _ <;> simp only [] <;> omega

theorem dpG_out (qb dob kb lb into) (j : Fin 4352) (n : Fin 9216) (hn : ¬(2560 ≤ n.val ∧ n.val < 3072)) :
    dpG qb dob kb lb into (ix2 j n) = into (ix2 j n) := if_neg hn

theorem final6 : (dats m 0 c).arrAt 6 cfg0.N
    = dqG (V m c main_v39) (V m c main_v40) (V m c main_v41) (V m c main_v42) (V m c main_v43) (V m c main_v44) := by
  refine (dats m 0 c).arrAt_eq_of_covers 6 _ (by decide +kernel) fun t hf y => ?_
  blk_simp
  rw [after0_6]
  have hy : ∃ (a b : Fin 1) (g : Fin 4) (d : Fin 128) (q : Fin 4096), (y : S1x1x4x128x4096.Idx) = ix5 a b g d q :=
    ⟨y 0, y 1, y 2, y 3, y 4, eq_ix5 (show S1x1x4x128x4096.Idx from y)⟩
  obtain ⟨a, b, g, d, q, rfl⟩ := hy
  rw [emb6 t a b g d q, dqG_ix, Subsingleton.elim a 0, Subsingleton.elim b 0]
  exact dq_last m c g d q t (flush6 t hf) ⟨t.val / 17, lt4 t⟩ rfl

theorem final7 : (dats m 0 c).arrAt 7 cfg0.N
    = dkG (V m c main_v39) (V m c main_v40) (V m c main_v41) (V m c main_v42) (V m c main_v43) (V m c main_v44) := by
  refine (dats m 0 c).arrAt_eq_of_covers 7 _ (by decide +kernel) fun t hf y => ?_
  blk_simp
  rw [after0_7]
  have hy : ∃ (r : Fin 256) (d : Fin 128), (y : S256x128.Idx) = ix2 r d := ⟨y 0, y 1, eq_ix2 (show S256x128.Idx from y)⟩
  obtain ⟨r, d, rfl⟩ := hy
  rw [emb7 t r d, dkG_ix _ _ _ _ _ _ _ ⟨t.val / 17, lt4 t⟩ d _ rfl]
  exact dk_tile m c t ⟨t.val / 17, lt4 t⟩ rfl _ r (by show _ * 256 + _ = 256 * _ + _; rw [Nat.mul_comm]) d

theorem final8 : (dats m 0 c).arrAt 8 cfg0.N
    = dpG (V m c main_v39) (V m c main_v40) (V m c main_v41) (V m c main_v43) (V m c main_v45_2) := by
  refine (dats m 0 c).arrAt_eq_of_coversWhere_of_agree 8 _ (fun β => 20 ≤ β 1 ∧ β 1 < 24) (by decide +kernel) (fun t hf y => ?_) (fun j hj => ?_)
  · blk_simp
    rw [after0_8]
    have hy : ∃ (r : Fin 256) (d : Fin 128), (y : S256x128.Idx) = ix2 r d := ⟨y 0, y 1, eq_ix2 (show S256x128.Idx from y)⟩
    obtain ⟨r, d, rfl⟩ := hy
    rw [emb8 t r d, dpG_in _ _ _ _ _ _ ⟨t.val / 17, lt4 t⟩ d _ (by show (20 + _) * 128 + _ = 2560 + _ * 128 + _; rw [Nat.add_mul])]
    exact dv_tile m c t ⟨t.val / 17, lt4 t⟩ rfl _ r (by show _ * 256 + _ = 256 * _ + _; rw [Nat.mul_comm]) d
  · blk_simp [Pipeline.Window.cell_apply] at hj
    have hy : ∃ (r : Fin 4352) (n : Fin 9216), (j : S4352x9216.Idx) = ix2 r n := ⟨j 0, j 1, eq_ix2 (show S4352x9216.Idx from j)⟩
    obtain ⟨r, n, rfl⟩ := hy
    have hn : ¬(2560 ≤ n.val ∧ n.val < 3072) := by
      have : ¬(20 ≤ n.val / 128 ∧ n.val / 128 < 24) := hj
      omega
    rw [A_eq]
    exact (dpG_out _ _ _ _ _ r n hn).symm
end Cert.Bwd.Arr
end
-- ==== Proof.Bwd.HostStages.lean ====
/- What the host prepares for the attention's backward call, cut into named stages: the scores, their
   maxima, exponentials and sums, the output, the log-sum-exponentials in base two, the row terms and the
   scaled queries. Each buffer that a window of the call reads is one of them. -/
module

public import proofs.«01_k».proof.Proof.Gen.KernelIdeal.Frame.Runs
public import Idealize.ShloMosaic.Lib.StableHlo.ReadAt
public import Idealize.ShloMosaic.Lib.Pointwise

@[expose] public section

set_option maxRecDepth 16384

noncomputable section

namespace Cert.Bwd.Host

open Cert.KernelIdeal Cert.KernelIdeal.Gen Cert.KernelIdeal.Facts
open Idealize.ShloMosaic Idealize.ShloMosaic.TcCoe Idealize.SL.Sem

/-- The scaled scores of every query against every key. -/
def scores (q : FVec Ideal S4096x2048 .f32) (k : FVec Ideal S4352x512 .f32) : FVec Ideal S4x4x4096x4352 .f32 :=
  mulf (transpose S4x4x4096x4352 [0, 3, 2, 1]
    (Host.dotGeneral dot_S4352x4x128_S4096x4x4x128_S4x4352x4096x4_2_3_0_02_1_1 none
      (shapeCast S4352x4x128 k shapeCasts_S4352x512_S4352x4x128 : FVec Ideal S4352x4x128 .f32)
      (shapeCast S4096x4x4x128 q shapeCasts_S4096x2048_S4096x4x4x128 : FVec Ideal S4096x4x4x128 .f32))
    transposes_S4x4352x4096x4_S4x4x4096x4352_0_3_2_1)
    (broadcastInDim S4x4x4096x4352 ![] bcast_S_S4x4x4096x4352 (constant S_ .f32 0x3DB504F3#32))

/-- The largest score of a query, with a last axis of one. -/
def rowMax (s : FVec Ideal S4x4x4096x4352 .f32) : FVec Ideal S4x4x4096 .f32 :=
  Host.reduce FloatOps.maximumf s (constant S_ .f32 0xFF800000#32) reducesTo_S4x4x4096x4352_S4x4x4096_d3 h_S_

def col (M : FVec Ideal S4x4x4096 .f32) : FVec Ideal S4x4x4096x1 .f32 :=
  broadcastInDim S4x4x4096x1 ![0, 1, 2] bcast_S4x4x4096_S4x4x4096x1_0_1_2 M

def wide (M : FVec Ideal S4x4x4096x1 .f32) : FVec Ideal S4x4x4096x4352 .f32 :=
  broadcastInDim S4x4x4096x4352 ![0, 1, 2, 3] bcast_S4x4x4096x1_S4x4x4096x4352_0_1_2_3 M

/-- The exponentials of the scores less their maxima. -/
def expo (s : FVec Ideal S4x4x4096x4352 .f32) (M : FVec Ideal S4x4x4096x1 .f32) : FVec Ideal S4x4x4096x4352 .f32 :=
  Host.exp (subf s (wide M))

/-- The sums of the exponentials. -/
def rowSum (e : FVec Ideal S4x4x4096x4352 .f32) : FVec Ideal S4x4x4096x1 .f32 :=
  col (Host.reduceAdd e (constant S_ .f32 0x00000000#32) reducesTo_S4x4x4096x4352_S4x4x4096_d3 h_S_)

/-- The probabilities. -/
def probs (e : FVec Ideal S4x4x4096x4352 .f32) (l : FVec Ideal S4x4x4096x1 .f32) : FVec Ideal S4x4x4096x4352 .f32 :=
  Host.divf e (wide l)

/-- The attention's output, with its rounding. -/
def out (y : FVec Ideal S4x4x4096x4352 .f32) (proj : FVec Ideal S4352x9216 .f32) : FVec Ideal S4096x2048 .bf16 :=
  shapeCast S4096x2048
    (truncf .bf16 (transpose S4096x4x4x128 [3, 0, 2, 1]
      (Host.dotGeneral dot_S4352x4x128_S4x4x4096x4352_S4x128x4x4096_0_3_2_12_1_0 none
        (shapeCast S4352x4x128 (extractStridedSlice S4352x512 ![0, 2560] proj slices_S4352x9216_S4352x512_0_2560)
          shapeCasts_S4352x512_S4352x4x128 : FVec Ideal S4352x4x128 .f32) y)
      transposes_S4x128x4x4096_S4096x4x4x128_3_0_2_1) bitsLt_bf16_f32 : FVec Ideal S4096x4x4x128 .bf16)
    shapeCasts_S4096x4x4x128_S4096x2048

/-- The log-sum-exponentials in base two. -/
def lse (M l : FVec Ideal S4x4x4096x1 .f32) : FVec Ideal S4x4x1x1x4096 .f32 :=
  shapeCast S4x4x1x1x4096
    (Host.divf (addf M (Host.log l))
      (broadcastInDim S4x4x4096x1 ![] bcast_S_S4x4x4096x1 (Host.log (constant S_ .f32 0x40000000#32))))
    shapeCasts_S4x4x4096x1_S4x4x1x1x4096

/-- The row terms: the output against its cotangent. -/
def delta (o : FVec Ideal S4096x2048 .bf16) (dval : FVec Ideal S4096x4096 .f32) : FVec Ideal S4x4x1x1x4096 .f32 :=
  shapeCast S4x4x1x1x4096
    (transpose S4x4x4096 [1, 2, 0]
      (Host.reduceAdd
        (shapeCast S4096x4x4x128
          (mulf (extf .f32 o bitsLt_bf16_f32) (extractStridedSlice S4096x2048 ![0, 0] dval slices_S4096x4096_S4096x2048_0_0))
          shapeCasts_S4096x2048_S4096x4x4x128 : FVec Ideal S4096x4x4x128 .f32)
        (constant S_ .f32 0x00000000#32) reducesTo_S4096x4x4x128_S4096x4x4_d3 h_S_)
      transposes_S4096x4x4_S4x4x4096_1_2_0)
    shapeCasts_S4x4x4096_S4x4x1x1x4096

/-- The queries scaled for a softmax in base two. -/
def qr (q : FVec Ideal S4096x2048 .f32) : FVec Ideal S4096x2048 .bf16 :=
  truncf .bf16 (mulf q (broadcastInDim S4096x2048 ![] bcast_S_S4096x2048
    (Host.divf (constant S_ .f32 0x3DB504F3#32) (Host.log (constant S_ .f32 0x40000000#32))))) bitsLt_bf16_f32

section
variable (m : (ℓ : Loc nD τ sig) → Buf (Elt Ideal) ℓ) (c : Dev nD)

def qA : FVec Ideal S4096x2048 .f32 := m ((c : Thread nD τ).loc main_arg0)
def kA : FVec Ideal S4352x512 .f32 := m ((c : Thread nD τ).loc main_arg1)
def pA : FVec Ideal S4352x9216 .f32 := m ((c : Thread nD τ).loc main_arg2)
def dA : FVec Ideal S4096x4096 .f32 := m ((c : Thread nD τ).loc main_arg3)
def iA : FVec Ideal S4352x9216 .bf16 := m ((c : Thread nD τ).loc main_arg4)

def sM : FVec Ideal S4x4x4096x4352 .f32 := scores (qA m c) (kA m c)
def mM : FVec Ideal S4x4x4096x1 .f32 := col (rowMax (sM m c))
def eM : FVec Ideal S4x4x4096x4352 .f32 := expo (sM m c) (mM m c)
def lM : FVec Ideal S4x4x4096x1 .f32 := rowSum (eM m c)
def oM : FVec Ideal S4096x2048 .bf16 := out (probs (eM m c) (lM m c)) (pA m c)

set_option maxHeartbeats 4000000

theorem V_qr : V (F := Ideal) m c main_v39 = qr (qA m c) := by
  unfold V hostOps0; after_reads_simp; rfl

theorem V_do : V (F := Ideal) m c main_v40 = (truncf .bf16 (dA m c) bitsLt_bf16_f32 : FVec Ideal S4096x4096 .bf16) := by
  unfold V hostOps0; after_reads_simp; rfl

theorem V_k : V (F := Ideal) m c main_v41 = (truncf .bf16 (kA m c) bitsLt_bf16_f32 : FVec Ideal S4352x512 .bf16) := by
  unfold V hostOps0; after_reads_simp; rfl

theorem V_proj : V (F := Ideal) m c main_v42 = (truncf .bf16 (pA m c) bitsLt_bf16_f32 : FVec Ideal S4352x9216 .bf16) := by
  unfold V hostOps0; after_reads_simp; rfl

theorem V_lse : V (F := Ideal) m c main_v43 = lse (mM m c) (lM m c) := by
  unfold V hostOps0; after_reads_simp; rfl

theorem V_delta : V (F := Ideal) m c main_v44 = delta (oM m c) (dA m c) := by
  unfold V hostOps0; after_reads_simp; rfl

theorem V_into : V (F := Ideal) m c main_v45_2 = iA m c := by
  unfold V hostOps0; after_reads_simp; rfl

end

end Cert.Bwd.Host

end
-- ==== Proof.Bwd.Real.lean ====
/- Attention's gradients over the reals: a row of scores, its softmax, and the products that end in the
   gradients of the queries, the keys and the values. -/
module

public import Idealize.ShloMosaic.Lib.Pointwise
public import Mathlib.Analysis.SpecialFunctions.Pow.Real

@[expose] public section

noncomputable section

namespace Cert.Bwd

open Idealize.ShloMosaic

/-- The scores' scale, as the reals read its 32 bits. -/
def cR : ℝ := 11863283 / 2 ^ 27

theorem c_bits : Ideal.ofBits .f32 0x3DB504F3#32 = (cR : EReal) := by
  simp [Ideal.ofBits, Ideal.ieee, cR, -EReal.coe_mul]; norm_num

theorem two_bits : Ideal.ofBits .f32 0x40000000#32 = ((2 : ℝ) : EReal) := by
  simp [Ideal.ofBits, Ideal.ieee, -EReal.coe_mul]; norm_num

theorem top_bits : Ideal.ofBits .f32 0x7F800000#32 = ⊤ := by
  simp [Ideal.ofBits, Ideal.ieee, -EReal.coe_mul]

theorem bot_bits : Ideal.ofBits .f32 0xFF800000#32 = ⊥ := by
  simp [Ideal.ofBits, Ideal.ieee, -EReal.coe_mul]

theorem coe_sum {ι : Type*} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The maximum of finitely many reals, at least one, taken from minus infinity, is a real. -/
theorem fold_max_real {ι : Type*} (s : Finset ι) (hs : s.Nonempty) (x : ι → EReal) (hx : ∀ i ∈ s, ∃ r : ℝ, x i = r) :
    ∃ r : ℝ, s.fold max ⊥ x = r := by
  classical
  induction hs using Finset.Nonempty.cons_induction with
  | singleton a =>
    obtain ⟨r, hr⟩ := hx a (by simp)
    exact ⟨r, by rw [Finset.fold_singleton, hr, max_bot_right]⟩
  | cons a s ha hs ih =>
    obtain ⟨r, hr⟩ := hx a (by simp)
    obtain ⟨t, ht⟩ := ih fun i hi => hx i (by simp [hi])
    exact ⟨max r t, by rw [Finset.fold_cons, hr, ht]; exact (EReal.coe_strictMono.monotone.map_max).symm⟩

section row
variable {n : ℕ} (s p : Fin n → ℝ) (M : ℝ)

/-- The softmax of a row of scores. -/
def soft (j : Fin n) : ℝ := Real.exp (s j) / ∑ x, Real.exp (s x)

/-- The row term of the softmax's derivative. -/
def rowR : ℝ := ∑ x, soft s x * p x

/-- The derivative of the softmax against a cotangent `p`. -/
def dsoft (j : Fin n) : ℝ := soft s j * (p j - rowR s p)

theorem sum_shift : (∑ x, Real.exp (s x - M)) = (∑ x, Real.exp (s x)) / Real.exp M := by
  rw [Finset.sum_div]; exact Finset.sum_congr rfl fun x _ => Real.exp_sub _ _

theorem soft_shift (j : Fin n) : Real.exp (s j - M) / (∑ x, Real.exp (s x - M)) = soft s j := by
  rw [sum_shift, Real.exp_sub, soft, div_div_div_cancel_right₀ (Real.exp_ne_zero M)]

theorem sum_pos (j : Fin n) : 0 < ∑ x, Real.exp (s x - M) :=
  Finset.sum_pos (fun x _ => Real.exp_pos _) ⟨j, Finset.mem_univ _⟩

/-- The softmax in base two, from the log-sum-exponential in base two. -/
theorem soft_base2 (j : Fin n) (a : ℝ) (ha : a = s j / Real.log 2) :
    Real.rpow 2 (a - (M + Real.log (∑ x, Real.exp (s x - M))) / Real.log 2) = soft s j := by
  have h2 : Real.log 2 ≠ 0 := (Real.log_pos (by norm_num)).ne'
  have hl := sum_pos s M j
  rw [Real.rpow_eq_pow, Real.rpow_def_of_pos (by norm_num), ha, ← sub_div, mul_div_cancel₀ _ h2, ← sub_sub, Real.exp_sub, Real.exp_log hl]
  exact soft_shift s M j

/-- The derivative as the transpose of the quotient writes it. -/
theorem dsoft_quot (j : Fin n) (l : ℝ) (hl : l = ∑ x, Real.exp (s x - M)) :
    (p j * (1 / l) + -(∑ x, p x * (1 * (1 / (l * l))) * Real.exp (s x - M))) * Real.exp (s j - M) = dsoft s p j := by
  have hp : l ≠ 0 := by rw [hl]; exact (sum_pos s M j).ne'
  have hy : ∀ x, soft s x = Real.exp (s x - M) / l := fun x => by rw [hl]; exact (soft_shift s M x).symm
  have hr : (∑ x, p x * (1 * (1 / (l * l))) * Real.exp (s x - M)) = rowR s p / l := by
    rw [rowR, Finset.sum_div]
    refine Finset.sum_congr rfl fun x _ => ?_
    rw [hy x]; field_simp
  rw [hr, dsoft, hy j]; field_simp; ring

end row

theorem sum_real {ι : Type*} [Fintype ι] {f : ι → EReal} (r : ι → ℝ) (h : ∀ x, f x = (r x : EReal)) :
    (∑ x, f x) = ((∑ x, r x : ℝ) : EReal) := by
  rw [Finset.sum_congr rfl fun x _ => h x, coe_sum]

theorem log2_ne : Real.log 2 ≠ 0 := (Real.log_pos (by norm_num)).ne'

theorem log_two : Ideal.log (Ideal.ofBits .f32 0x40000000#32) = ((Real.log 2 : ℝ) : EReal) := by
  rw [two_bits, Ideal.log_coe, if_neg (by norm_num)]

theorem div_real (a b : ℝ) (hb : b ≠ 0) : Ideal.div (a : EReal) (b : EReal) = ((a * (1 / b) : ℝ) : EReal) := by
  rw [Ideal.div_coe hb, EReal.coe_mul]

/-- Column `n` of the values, as a column of the projections. -/
def vcol (n : Fin 512) : Fin 9216 := ⟨2560 + n.val, by omega⟩

/-- Column `n` of the output, as a column of its cotangent's array. -/
def ocol (n : Fin 2048) : Fin 4096 := ⟨n.val, by omega⟩

section arrays
/- The real entries: the queries, the keys, the values and the cotangent of the output. -/
variable (Q : Fin 4096 → Fin 2048 → ℝ) (K W : Fin 4352 → Fin 512 → ℝ) (D : Fin 4096 → Fin 2048 → ℝ)

/-- The scores of query `i` of head `(h, g)`. -/
def sR (h g : Fin 4) (i : Fin 4096) (j : Fin 4352) : ℝ :=
  (∑ x : Fin 128, K j ⟨h.val * 128 + x.val, by omega⟩ * Q i ⟨h.val * 512 + g.val * 128 + x.val, by omega⟩) * cR

/-- The cotangent of its probabilities. -/
def pR (h g : Fin 4) (i : Fin 4096) (j : Fin 4352) : ℝ :=
  ∑ x : Fin 128, D i ⟨h.val * 512 + g.val * 128 + x.val, by omega⟩ * W j ⟨h.val * 128 + x.val, by omega⟩

/-- The gradient of the queries. -/
def dqR (h g : Fin 4) (d : Fin 128) (i : Fin 4096) : ℝ :=
  ∑ j : Fin 4352, dsoft (sR Q K h g i) (pR W D h g i) j * cR * K j ⟨h.val * 128 + d.val, by omega⟩

/-- The gradient of the keys. -/
def dkR (h : Fin 4) (j : Fin 4352) (d : Fin 128) : ℝ :=
  ∑ i : Fin 4096, ∑ g : Fin 4, dsoft (sR Q K h g i) (pR W D h g i) j * cR * Q i ⟨h.val * 512 + g.val * 128 + d.val, by omega⟩

/-- The gradient of the values. -/
def dvR (h : Fin 4) (j : Fin 4352) (d : Fin 128) : ℝ :=
  ∑ g : Fin 4, ∑ i : Fin 4096, D i ⟨h.val * 512 + g.val * 128 + d.val, by omega⟩ * soft (sR Q K h g i) j

/-- The row term is the output against its cotangent. -/
theorem delta_real (h g : Fin 4) (i : Fin 4096) :
    (∑ x : Fin 128, (∑ j : Fin 4352, W j ⟨h.val * 128 + x.val, by omega⟩ * soft (sR Q K h g i) j)
        * D i ⟨h.val * 512 + g.val * 128 + x.val, by omega⟩)
      = rowR (sR Q K h g i) (pR W D h g i) := by
  simp only [rowR, pR, Finset.sum_mul, Finset.mul_sum]
  rw [Finset.sum_comm]
  exact Finset.sum_congr rfl fun j _ => Finset.sum_congr rfl fun x _ => by ring

theorem score_base2 (h g : Fin 4) (i : Fin 4096) (j : Fin 4352) :
    (∑ x : Fin 128, K j ⟨h.val * 128 + x.val, by omega⟩
        * (Q i ⟨h.val * 512 + g.val * 128 + x.val, by omega⟩ * (cR * (1 / Real.log 2))))
      = sR Q K h g i j / Real.log 2 := by
  rw [sR, Finset.sum_mul, Finset.sum_div]
  exact Finset.sum_congr rfl fun x _ => by ring

theorem dq_real (h g : Fin 4) (d : Fin 128) (i : Fin 4096) :
    (∑ j : Fin 4352, K j ⟨h.val * 128 + d.val, by omega⟩ * dsoft (sR Q K h g i) (pR W D h g i) j) * cR = dqR Q K W D h g d i := by
  rw [dqR, Finset.sum_mul]
  exact Finset.sum_congr rfl fun j _ => by ring

theorem dk_real (h : Fin 4) (j : Fin 4352) (d : Fin 128) (f : Fin 4 → ℝ)
    (hf : ∀ g : Fin 4, f g = ∑ i : Fin 4096, dsoft (sR Q K h g i) (pR W D h g i) j
      * (Q i ⟨h.val * 512 + g.val * 128 + d.val, by omega⟩ * (cR * (1 / Real.log 2)))) :
    (0 + (((f 0 + f 1) + f 2) + f 3)) * Real.log 2 = dkR Q K W D h j d := by
  have h2 := log2_ne
  have hs : (0 + (((f 0 + f 1) + f 2) + f 3)) = ∑ g, f g := by rw [Fin.sum_univ_four, zero_add]
  rw [hs, dkR, Finset.sum_comm, Finset.sum_mul]
  refine Finset.sum_congr rfl fun g _ => ?_
  rw [hf g, Finset.sum_mul]
  refine Finset.sum_congr rfl fun i _ => ?_
  field_simp

theorem dv_real (h : Fin 4) (j : Fin 4352) (d : Fin 128) (f : Fin 4 → ℝ)
    (hf : ∀ g : Fin 4, f g = ∑ i : Fin 4096, soft (sR Q K h g i) j * D i ⟨h.val * 512 + g.val * 128 + d.val, by omega⟩) :
    (0 + (((f 0 + f 1) + f 2) + f 3)) = dvR Q K D h j d := by
  have hs : (0 + (((f 0 + f 1) + f 2) + f 3)) = ∑ g, f g := by rw [Fin.sum_univ_four, zero_add]
  rw [hs, dvR]
  refine Finset.sum_congr rfl fun g _ => ?_
  rw [hf g]
  exact Finset.sum_congr rfl fun i _ => mul_comm _ _

end arrays

end Cert.Bwd

end
-- ==== Proof.Bwd.HostReads.lean ====
/- Each stage of what the host prepares, read at one index, over the extended reals. -/
module

public import proofs.«01_k».proof.Proof.Bwd.HostStages
public import proofs.«01_k».proof.Proof.Bwd.Real

@[expose] public section

set_option maxRecDepth 16384

noncomputable section

namespace Cert.Bwd.Host

open Cert.KernelIdeal Cert.KernelIdeal.Gen Cert.KernelIdeal.Facts
open Idealize.ShloMosaic Idealize.ShloMosaic.TcCoe Idealize.SL.Sem

variable (h g : Fin 4) (i : Fin 4096) (j : Fin 4352) (d : Fin 128)

theorem scores_apply (q : FVec Ideal S4096x2048 .f32) (k : FVec Ideal S4352x512 .f32) :
    scores q k (ix4 h g i j)
      = (∑ x : Fin 128, k (ix2 j ⟨h.val * 128 + x.val, by omega⟩) * q (ix2 i ⟨h.val * 512 + g.val * 128 + x.val, by omega⟩))
        * Ideal.ofBits .f32 0x3DB504F3#32 := by
  pointwise [scores]

theorem col_apply (M : FVec Ideal S4x4x4096 .f32) : col M (ix4 h g i 0) = M (ix3 h g i) := by
  pointwise [col]

theorem expo_apply (s : FVec Ideal S4x4x4096x4352 .f32) (M : FVec Ideal S4x4x4096x1 .f32) :
    expo s M (ix4 h g i j) = Ideal.exp (s (ix4 h g i j) - M (ix4 h g i 0)) := by
  pointwise [expo, wide]

theorem rowSum_apply (e : FVec Ideal S4x4x4096x4352 .f32) :
    rowSum e (ix4 h g i 0) = ∑ x : Fin 4352, e (ix4 h g i x) := by
  pointwise [rowSum, col]

theorem probs_apply (e : FVec Ideal S4x4x4096x4352 .f32) (l : FVec Ideal S4x4x4096x1 .f32) :
    probs e l (ix4 h g i j) = Ideal.div (e (ix4 h g i j)) (l (ix4 h g i 0)) := by
  pointwise [probs, wide]

theorem out_apply (y : FVec Ideal S4x4x4096x4352 .f32) (proj : FVec Ideal S4352x9216 .f32) :
    out y proj (ix2 i ⟨h.val * 512 + g.val * 128 + d.val, by omega⟩)
      = ∑ x : Fin 4352, proj (ix2 x ⟨2560 + (h.val * 128 + d.val), by omega⟩) * y (ix4 h g i x) := by
  pointwise [out]

theorem lse_apply (M l : FVec Ideal S4x4x4096x1 .f32) :
    lse M l (ix5 h g 0 0 i)
      = Ideal.div (M (ix4 h g i 0) + Ideal.log (l (ix4 h g i 0))) (Ideal.log (Ideal.ofBits .f32 0x40000000#32)) := by
  pointwise [lse]

theorem delta_apply (o : FVec Ideal S4096x2048 .bf16) (dval : FVec Ideal S4096x4096 .f32) :
    delta o dval (ix5 h g 0 0 i)
      = ∑ x : Fin 128, o (ix2 i ⟨h.val * 512 + g.val * 128 + x.val, by omega⟩) * dval (ix2 i ⟨h.val * 512 + g.val * 128 + x.val, by omega⟩) := by
  pointwise [delta]

theorem qr_apply (q : FVec Ideal S4096x2048 .f32) (n : Fin 2048) :
    qr q (ix2 i n) = q (ix2 i n) * Ideal.div (Ideal.ofBits .f32 0x3DB504F3#32) (Ideal.log (Ideal.ofBits .f32 0x40000000#32)) := by
  pointwise [qr]

/-- The largest of a row of real scores is a real. -/
theorem rowMax_real (s : FVec Ideal S4x4x4096x4352 .f32) (hs : ∀ y, ∃ r : ℝ, s y = r) : ∃ r : ℝ, rowMax s (ix3 h g i) = r := by
  unfold rowMax
  rw [Host.reduce_eq_fold]
  have hb : (constant (F := Ideal) S_ .f32 0xFF800000#32) (Shape.Idx.first h_S_) = (⊥ : EReal) := bot_bits
  rw [hb]
  refine fold_max_real _ ⟨(ix4 h g i 0 : S4x4x4096x4352.Idx), ?_⟩ s fun y _ => hs y
  rw [Finset.mem_filter]
  refine ⟨Finset.mem_univ _, ?_⟩
  funext r
  fin_cases r <;> rfl

end Cert.Bwd.Host

end
-- ==== Proof.Bwd.KerReal.lean ====
/- What the kernel's windows end with over finite entries: each is the real gradient. -/
module

public import proofs.«01_k».proof.Proof.Bwd.HostReads
public import proofs.«01_k».proof.Proof.Bwd.Arrays

@[expose] public section

set_option maxRecDepth 16384

noncomputable section

namespace Cert.Bwd.Host

open Cert.KernelIdeal Cert.KernelIdeal.Gen Cert.KernelIdeal.Facts
open Idealize.ShloMosaic Idealize.ShloMosaic.TcCoe Idealize.SL.Sem

variable (Q : Fin 4096 → Fin 2048 → ℝ) (K W : Fin 4352 → Fin 512 → ℝ) (D : Fin 4096 → Fin 2048 → ℝ)
  (q : FVec Ideal S4096x2048 .f32) (k : FVec Ideal S4352x512 .f32) (proj : FVec Ideal S4352x9216 .f32) (dval : FVec Ideal S4096x4096 .f32)
  (hq : ∀ i n, q (ix2 i n) = (Q i n : EReal)) (hk : ∀ j n, k (ix2 j n) = (K j n : EReal))
  (hp : ∀ (j : Fin 4352) (n : Fin 512), proj (ix2 j (vcol n)) = (W j n : EReal))
  (hd : ∀ (i : Fin 4096) (n : Fin 2048), dval (ix2 i (ocol n)) = (D i n : EReal))
variable (h g : Fin 4) (i : Fin 4096) (j : Fin 4352) (d : Fin 128)

include hq hk in
theorem scores_real : scores q k (ix4 h g i j) = (sR Q K h g i j : EReal) := by
  rw [scores_apply, c_bits, sum_real _ fun x => by rw [hk, hq, ← EReal.coe_mul], ← EReal.coe_mul, sR]

include hq hk in
theorem max_real : ∃ M : ℝ, col (rowMax (scores q k)) (ix4 h g i 0) = M := by
  rw [col_apply]
  refine rowMax_real h g i _ fun y => ?_
  obtain ⟨b, e, f, z, rfl⟩ : ∃ (b e : Fin 4) (f : Fin 4096) (z : Fin 4352), (y : S4x4x4096x4352.Idx) = ix4 b e f z :=
    ⟨y 0, y 1, y 2, y 3, eq_ix4 (show S4x4x4096x4352.Idx from y)⟩
  exact ⟨_, scores_real Q K q k hq hk b e f z⟩

/-- The rows' maxima and the exponentials of the scores. -/
def mOf : FVec Ideal S4x4x4096x1 .f32 := col (rowMax (scores q k))
def eOf : FVec Ideal S4x4x4096x4352 .f32 := expo (scores q k) (mOf q k)

include hq hk in
theorem row_real : ∃ M : ℝ, mOf q k (ix4 h g i 0) = M ∧ (∀ j, eOf q k (ix4 h g i j) = (Real.exp (sR Q K h g i j - M) : EReal))
    ∧ rowSum (eOf q k) (ix4 h g i 0) = ((∑ x, Real.exp (sR Q K h g i x - M) : ℝ) : EReal) := by
  obtain ⟨M, hM⟩ := max_real Q K q k hq hk h g i
  have he : ∀ j, eOf q k (ix4 h g i j) = (Real.exp (sR Q K h g i j - M) : EReal) := fun j => by
    rw [eOf, expo_apply, mOf, hM, scores_real Q K q k hq hk, ← EReal.coe_sub, Ideal.exp_coe]
  exact ⟨M, hM, he, by rw [rowSum_apply, sum_real _ he]⟩

include hq hk in
theorem probs_real : probs (eOf q k) (rowSum (eOf q k)) (ix4 h g i j) = (soft (sR Q K h g i) j : EReal) := by
  obtain ⟨M, -, he, hl⟩ := row_real Q K q k hq hk h g i
  rw [probs_apply, he, hl, div_real _ _ (sum_pos _ M j).ne', ← soft_shift (sR Q K h g i) M j, mul_one_div]

include hq in
theorem qr_real (n : Fin 2048) : qr q (ix2 i n) = ((Q i n * (cR * (1 / Real.log 2)) : ℝ) : EReal) := by
  rw [qr_apply, log_two, c_bits, hq, div_real _ _ log2_ne, ← EReal.coe_mul]

/-- The windows' arrays. -/
def lseOf : FVec Ideal S4x4x1x1x4096 .f32 := lse (mOf q k) (rowSum (eOf q k))
def deltaOf : FVec Ideal S4x4x1x1x4096 .f32 := delta (out (probs (eOf q k) (rowSum (eOf q k))) proj) dval

include hq hk hp hd in
theorem delta_eq : deltaOf q k proj dval (ix5 h g 0 0 i) = (rowR (sR Q K h g i) (pR W D h g i) : EReal) := by
  rw [deltaOf, delta_apply, ← delta_real]
  refine sum_real _ fun x => ?_
  have ho : out (probs (eOf q k) (rowSum (eOf q k))) proj (ix2 i ⟨h.val * 512 + g.val * 128 + x.val, by omega⟩)
      = ((∑ j : Fin 4352, W j ⟨h.val * 128 + x.val, by omega⟩ * soft (sR Q K h g i) j : ℝ) : EReal) := by
    rw [out_apply]
    refine sum_real _ fun j => ?_
    rw [probs_real Q K q k hq hk, EReal.coe_mul]
    exact congrArg (· * _) (hp j ⟨h.val * 128 + x.val, by omega⟩)
  rw [ho, EReal.coe_mul]
  exact congrArg _ (hd i ⟨h.val * 512 + g.val * 128 + x.val, by omega⟩)

end Cert.Bwd.Host

namespace Cert.Bwd.Arr

open Cert.KernelIdeal Cert.KernelIdeal.Gen Cert.KernelIdeal.Facts Cert.Bwd.Host
open Idealize.ShloMosaic Idealize.ShloMosaic.TcCoe Idealize.SL.Sem

variable (Q : Fin 4096 → Fin 2048 → ℝ) (K W : Fin 4352 → Fin 512 → ℝ) (D : Fin 4096 → Fin 2048 → ℝ)
  (q : FVec Ideal S4096x2048 .f32) (k : FVec Ideal S4352x512 .f32) (proj : FVec Ideal S4352x9216 .f32) (dval : FVec Ideal S4096x4096 .f32)
  (dob : FVec Ideal S4096x4096 .bf16) (kb : FVec Ideal S4352x512 .bf16) (pb : FVec Ideal S4352x9216 .bf16)
  (hdo : ∀ y, dob y = dval y) (hkb : ∀ y, kb y = k y) (hpb : ∀ y, pb y = proj y)
  (hq : ∀ i n, q (ix2 i n) = (Q i n : EReal)) (hk : ∀ j n, k (ix2 j n) = (K j n : EReal))
  (hp : ∀ (j : Fin 4352) (n : Fin 512), proj (ix2 j (vcol n)) = (W j n : EReal))
  (hd : ∀ (i : Fin 4096) (n : Fin 2048), dval (ix2 i (ocol n)) = (D i n : EReal))
variable (h g : Fin 4) (i : Fin 4096) (j : Fin 4352) (d : Fin 128)

include hkb hq hk in
theorem P_real : P (qr q) kb (lseOf q k) h g j i = (soft (sR Q K h g i) j : EReal) := by
  obtain ⟨M, hM, he, hl⟩ := row_real Q K q k hq hk h g i
  have hs : (∑ x : Fin 128, kb (ix2 j ⟨h.val * 128 + x.val, by omega⟩) * qr q (ix2 i ⟨h.val * 512 + g.val * 128 + x.val, by omega⟩))
      = ((sR Q K h g i j / Real.log 2 : ℝ) : EReal) := by
    rw [← score_base2]
    refine sum_real _ fun x => ?_
    rw [hkb, hk, qr_real Q q hq, ← EReal.coe_mul]
  have hL : lseOf q k (ix5 h g 0 0 i)
      = (((M + Real.log (∑ x, Real.exp (sR Q K h g i x - M))) / Real.log 2 : ℝ) : EReal) := by
    rw [lseOf, lse_apply, hM, hl, log_two, Ideal.log_coe, if_neg (not_le.2 (sum_pos _ M j)), ← EReal.coe_add, div_real _ _ log2_ne, mul_one_div]
  rw [P, hs, hL, ← EReal.coe_sub, Ideal.exp2_coe, soft_base2 (sR Q K h g i) M j _ rfl]

include hdo hkb hpb hq hk hp hd in
theorem T_real : T (qr q) dob kb pb (lseOf q k) (deltaOf q k proj dval) h g j i
    = (dsoft (sR Q K h g i) (pR W D h g i) j : EReal) := by
  have hs : (∑ x : Fin 128, pb (ix2 j ⟨2560 + h.val * 128 + x.val, by omega⟩) * dob (ix2 i ⟨h.val * 512 + g.val * 128 + x.val, by omega⟩))
      = (pR W D h g i j : EReal) := by
    refine sum_real _ fun x => ?_
    have hx : (⟨2560 + h.val * 128 + x.val, by omega⟩ : Fin 9216) = ⟨2560 + (h.val * 128 + x.val), by omega⟩ := Fin.ext (Nat.add_assoc _ _ _)
    have h1 := hp j ⟨h.val * 128 + x.val, by omega⟩
    have h2 := hd i ⟨h.val * 512 + g.val * 128 + x.val, by omega⟩
    simp only [vcol, ocol] at h1 h2
    rw [hpb, hdo, hx, h1, h2, mul_comm, ← EReal.coe_mul]
  rw [T, P_real Q K q k kb hkb hq hk, hs, delta_eq Q K W D q k proj dval hq hk hp hd, ← EReal.coe_sub, ← EReal.coe_mul, dsoft]

include hdo hkb hpb hq hk hp hd in
theorem dq_eq : dqAt (qr q) dob kb pb (lseOf q k) (deltaOf q k proj dval) h g d i = (dqR Q K W D h g d i : EReal) := by
  rw [dqAt, c_bits, ← dq_real, EReal.coe_mul]
  refine congrArg (· * _) (sum_real _ fun x => ?_)
  rw [hkb, hk, T_real Q K W D q k proj dval dob kb pb hdo hkb hpb hq hk hp hd, EReal.coe_mul]

include hdo hkb hpb hq hk hp hd in
theorem dkOne_real : dkOne (qr q) dob kb pb (lseOf q k) (deltaOf q k proj dval) h g j d
    = ((∑ i : Fin 4096, dsoft (sR Q K h g i) (pR W D h g i) j
      * (Q i ⟨h.val * 512 + g.val * 128 + d.val, by omega⟩ * (cR * (1 / Real.log 2))) : ℝ) : EReal) := by
  rw [dkOne]
  refine sum_real _ fun x => ?_
  rw [T_real Q K W D q k proj dval dob kb pb hdo hkb hpb hq hk hp hd, qr_real Q q hq, ← EReal.coe_mul]

include hdo hkb hpb hq hk hp hd in
theorem dk_eq : dkAt (qr q) dob kb pb (lseOf q k) (deltaOf q k proj dval) h j d = (dkR Q K W D h j d : EReal) := by
  have h1 := fun g => dkOne_real Q K W D q k proj dval dob kb pb hdo hkb hpb hq hk hp hd h g j d
  rw [dkAt, h1, h1, h1, h1, ← EReal.coe_zero, ← EReal.coe_add, ← EReal.coe_add, ← EReal.coe_add, ← EReal.coe_add, ← EReal.coe_mul]
  exact congrArg _ (dk_real Q K W D h j d _ fun g => rfl)

include hdo hkb hq hk hd in
theorem dv_eq : dvAt (qr q) dob kb (lseOf q k) h j d = (dvR Q K D h j d : EReal) := by
  have h1 : ∀ g, dvOne (qr q) dob kb (lseOf q k) h g j d
      = ((∑ i : Fin 4096, soft (sR Q K h g i) j * D i ⟨h.val * 512 + g.val * 128 + d.val, by omega⟩ : ℝ) : EReal) := fun g => by
    rw [dvOne]
    refine sum_real _ fun x => ?_
    rw [P_real Q K q k kb hkb hq hk, hdo, EReal.coe_mul]
    exact congrArg _ (hd x ⟨h.val * 512 + g.val * 128 + d.val, by omega⟩)
  rw [dvAt, h1, h1, h1, h1, ← EReal.coe_zero, ← EReal.coe_add, ← EReal.coe_add, ← EReal.coe_add, ← EReal.coe_add]
  exact congrArg _ (dv_real Q K D h j d _ fun g => rfl)

end Cert.Bwd.Arr

end
-- ==== Proof.Bwd.RefStages.lean ====
/- The reference's three results, cut into named stages: scores, their maxima, exponentials, sums, the
   cotangent of the probabilities and of the scores, and the three products that end in dq, dk and dv.
   Each stage is read at one index. -/
module

public import proofs.«01_k».proof.Proof.Gen.ReferenceIdeal.Run
public import Idealize.ShloMosaic.Lib.Pointwise

@[expose] public section

set_option maxRecDepth 16384

noncomputable section

namespace Cert.Bwd.Ref

open Cert.ReferenceIdeal Cert.ReferenceIdeal.Gen Cert.ReferenceIdeal.Value Cert.ReferenceIdeal.Facts
open Idealize.ShloMosaic Idealize.ShloMosaic.TcCoe Idealize.SL.Sem

/-- The scaled scores of every query against every key. -/
def scores (q : FVec Ideal S4096x2048 .f32) (k : FVec Ideal S4352x512 .f32) : FVec Ideal S1x4x4x4096x4352 .f32 :=
  mulf (transpose S1x4x4x4096x4352 [0, 1, 4, 3, 2]
    (Host.dotGeneral dot_S1x4352x4x128_S1x4096x4x4x128_S1x4x4352x4096x4_3_4_1_13_02_02 none
      (shapeCast S1x4352x4x128 k shapeCasts_S4352x512_S1x4352x4x128 : FVec Ideal S1x4352x4x128 .f32)
      (shapeCast S1x4096x4x4x128 q shapeCasts_S4096x2048_S1x4096x4x4x128 : FVec Ideal S1x4096x4x4x128 .f32))
    transposes_S1x4x4352x4096x4_S1x4x4x4096x4352_0_1_4_3_2)
    (broadcastInDim S1x4x4x4096x4352 ![] bcast_S_S1x4x4x4096x4352 (constant S_ .f32 0x3DB504F3#32))

/-- The largest score of a query, over the keys. -/
def rowMax (s : FVec Ideal S1x4x4x4096x4352 .f32) : FVec Ideal S1x4x4x4096 .f32 :=
  maximumf (broadcastInDim S1x4x4x4096 ![] bcast_S_S1x4x4x4096 (constant S_ .f32 0xFF800000#32))
    (Host.reduce FloatOps.maximumf s (constant S_ .f32 0xFF800000#32) reducesTo_S1x4x4x4096x4352_S1x4x4x4096_d4 h_S_)

/-- The exponentials of the scores less their maxima. -/
def expo (s : FVec Ideal S1x4x4x4096x4352 .f32) (M : FVec Ideal S1x4x4x4096 .f32) : FVec Ideal S1x4x4x4096x4352 .f32 :=
  Host.exp (subf s (broadcastInDim S1x4x4x4096x4352 ![0, 1, 2, 3, 4] bcast_S1x4x4x4096x1_S1x4x4x4096x4352_0_1_2_3_4
    (broadcastInDim S1x4x4x4096x1 ![0, 1, 2, 3] bcast_S1x4x4x4096_S1x4x4x4096x1_0_1_2_3 M)))

/-- The sums of the exponentials, with a last axis of one. -/
def rowSum (e : FVec Ideal S1x4x4x4096x4352 .f32) : FVec Ideal S1x4x4x4096x1 .f32 :=
  broadcastInDim S1x4x4x4096x1 ![0, 1, 2, 3] bcast_S1x4x4x4096_S1x4x4x4096x1_0_1_2_3
    (Host.reduceAdd e (constant S_ .f32 0x00000000#32) reducesTo_S1x4x4x4096x4352_S1x4x4x4096_d4 h_S_)

/-- The probabilities. -/
def probs (e : FVec Ideal S1x4x4x4096x4352 .f32) (l : FVec Ideal S1x4x4x4096x1 .f32) : FVec Ideal S1x4x4x4096x4352 .f32 :=
  Host.divf e (broadcastInDim S1x4x4x4096x4352 ![0, 1, 2, 3, 4] bcast_S1x4x4x4096x1_S1x4x4x4096x4352_0_1_2_3_4 l)

/-- The output's cotangent, its axes in the order the products read. -/
def cot (dval : FVec Ideal S4096x4096 .f32) : FVec Ideal S1x4x128x4x4096 .f32 :=
  transpose S1x4x128x4x4096 [0, 2, 4, 3, 1]
    (shapeCast S1x4096x4x4x128 (extractStridedSlice S4096x2048 ![0, 0] dval slices_S4096x4096_S4096x2048_0_0)
      shapeCasts_S4096x2048_S1x4096x4x4x128 : FVec Ideal S1x4096x4x4x128 .f32)
    transposes_S1x4096x4x4x128_S1x4x128x4x4096_0_2_4_3_1

/-- The probabilities' cotangent. -/
def dprobs (o : FVec Ideal S1x4x128x4x4096 .f32) (proj : FVec Ideal S4352x9216 .f32) : FVec Ideal S1x4x4x4096x4352 .f32 :=
  Host.dotGeneral dot_S1x4x128x4x4096_S1x4352x4x128_S1x4x4x4096x4352_2_3_34_1_01_02 none o
    (shapeCast S1x4352x4x128 (extractStridedSlice S4352x512 ![0, 2560] proj slices_S4352x9216_S4352x512_0_2560)
      shapeCasts_S4352x512_S1x4352x4x128 : FVec Ideal S1x4352x4x128 .f32)

/-- The row term of the softmax's derivative. -/
def rowTerm (dp e : FVec Ideal S1x4x4x4096x4352 .f32) (l : FVec Ideal S1x4x4x4096x1 .f32) : FVec Ideal S1x4x4x4096 .f32 :=
  broadcastInDim S1x4x4x4096 ![1, 2, 3] bcast_S4x4x4096_S1x4x4x4096_1_2_3
    (Host.reduceAdd (Host.negf (shapeCast S1x4x4x4096x1
      (Host.reduceAdd (mulf (mulf dp (broadcastInDim S1x4x4x4096x4352 ![0, 1, 2, 3, 4] bcast_S1x4x4x4096x1_S1x4x4x4096x4352_0_1_2_3_4
        (Host.divf (broadcastInDim S1x4x4x4096x1 ![] bcast_S_S1x4x4x4096x1 (constant S_ .f32 0x3F800000#32)) (mulf l l)))) e)
        (constant S_ .f32 0x00000000#32) reducesTo_S1x4x4x4096x4352_S1x4x4x4096_d4 h_S_)
      shapeCasts_S1x4x4x4096_S1x4x4x4096x1 : FVec Ideal S1x4x4x4096x1 .f32))
      (constant S_ .f32 0x00000000#32) reducesTo_S1x4x4x4096x1_S4x4x4096_d0_4 h_S_)

/-- The scores' cotangent, before the scale's axes are moved. -/
def dscores (dp e : FVec Ideal S1x4x4x4096x4352 .f32) (l : FVec Ideal S1x4x4x4096x1 .f32) (r : FVec Ideal S1x4x4x4096 .f32) :
    FVec Ideal S1x4x4352x4096x4 .f32 :=
  transpose S1x4x4352x4096x4 [0, 1, 4, 3, 2]
    (mulf (mulf (addf (Host.divf dp (broadcastInDim S1x4x4x4096x4352 ![0, 1, 2, 3, 4] bcast_S1x4x4x4096x1_S1x4x4x4096x4352_0_1_2_3_4 l))
      (broadcastInDim S1x4x4x4096x4352 ![0, 1, 2, 3] bcast_S1x4x4x4096_S1x4x4x4096x4352_0_1_2_3 r)) e)
      (broadcastInDim S1x4x4x4096x4352 ![] bcast_S_S1x4x4x4096x4352 (constant S_ .f32 0x3DB504F3#32)))
    transposes_S1x4x4x4096x4352_S1x4x4352x4096x4_0_1_4_3_2

/-- The queries' gradient, its axes as the kernel leaves them. -/
def dqOf (ds : FVec Ideal S1x4x4352x4096x4 .f32) (k : FVec Ideal S4352x512 .f32) : FVec Ideal S4x1x4x128x4096 .f32 :=
  broadcastInDim S4x1x4x128x4096 ![0, 2, 3, 4] bcast_S4x4x128x4096_S4x1x4x128x4096_0_2_3_4
    (transpose S4x4x128x4096 [1, 2, 3, 0]
      (shapeCast S4096x4x4x128
        (shapeCast S4096x2048
          (transpose S1x4096x4x4x128 [0, 2, 1, 3, 4]
            (Host.dotGeneral dot_S1x4x4352x4096x4_S1x4352x4x128_S1x4x4096x4x128_2_1_34_3_01_02 none ds
              (shapeCast S1x4352x4x128 k shapeCasts_S4352x512_S1x4352x4x128 : FVec Ideal S1x4352x4x128 .f32))
            transposes_S1x4x4096x4x128_S1x4096x4x4x128_0_2_1_3_4)
          shapeCasts_S1x4096x4x4x128_S4096x2048 : FVec Ideal S4096x2048 .f32)
        shapeCasts_S4096x2048_S4096x4x4x128 : FVec Ideal S4096x4x4x128 .f32)
      transposes_S4096x4x4x128_S4x4x128x4096_1_2_3_0)

/-- The keys' gradient. -/
def dkOf (ds : FVec Ideal S1x4x4352x4096x4 .f32) (q : FVec Ideal S4096x2048 .f32) : FVec Ideal S4352x512 .f32 :=
  shapeCast S4352x512
    (transpose S1x4352x4x128 [0, 2, 1, 3]
      (Host.dotGeneral dot_S1x4x4352x4096x4_S1x4096x4x4x128_S1x4x4352x128_34_13_2_4_01_02 none ds
        (shapeCast S1x4096x4x4x128 q shapeCasts_S4096x2048_S1x4096x4x4x128 : FVec Ideal S1x4096x4x4x128 .f32))
      transposes_S1x4x4352x128_S1x4352x4x128_0_2_1_3)
    shapeCasts_S1x4352x4x128_S4352x512

/-- The values' gradient. -/
def dvOf (o : FVec Ideal S1x4x128x4x4096 .f32) (y : FVec Ideal S1x4x4x4096x4352 .f32) : FVec Ideal S4352x512 .f32 :=
  shapeCast S4352x512
    (transpose S1x4352x4x128 [0, 3, 1, 2]
      (Host.dotGeneral dot_S1x4x128x4x4096_S1x4x4x4096x4352_S1x4x128x4352_34_23_2_4_01_01 none o y)
      transposes_S1x4x128x4352_S1x4352x4x128_0_3_1_2)
    shapeCasts_S1x4352x4x128_S4352x512

/-- The values' gradient set into the aliased array's columns. -/
def dprojOf (into : FVec Ideal S4352x9216 .bf16) (dv : FVec Ideal S4352x512 .f32) : FVec Ideal S4352x9216 .bf16 :=
  fn_main_v74 (F := Ideal) (extractStridedSlice S4352x2560 ![0, 0] into slices_S4352x9216_S4352x2560_0_0)
    (truncf .bf16 dv bitsLt_bf16_f32 : FVec Ideal S4352x512 .bf16)
    (extractStridedSlice S4352x6144 ![0, 3072] into slices_S4352x9216_S4352x6144_0_3072)

section
variable (m : (ℓ : Loc nD τ sig) → Buf (Elt Ideal) ℓ) (c : Dev nD)

def qA : FVec Ideal S4096x2048 .f32 := m ((c.tc : Thread nD τ).loc main_arg0)
def kA : FVec Ideal S4352x512 .f32 := m ((c.tc : Thread nD τ).loc main_arg1)
def pA : FVec Ideal S4352x9216 .f32 := m ((c.tc : Thread nD τ).loc main_arg2)
def dA : FVec Ideal S4096x4096 .f32 := m ((c.tc : Thread nD τ).loc main_arg3)
def iA : FVec Ideal S4352x9216 .bf16 := m ((c.tc : Thread nD τ).loc main_arg4)

/-- The scores of the memory's queries and keys. -/
def sM : FVec Ideal S1x4x4x4096x4352 .f32 := scores (qA m c) (kA m c)
def eM : FVec Ideal S1x4x4x4096x4352 .f32 := expo (sM m c) (rowMax (sM m c))
def lM : FVec Ideal S1x4x4x4096x1 .f32 := rowSum (eM m c)
def dpM : FVec Ideal S1x4x4x4096x4352 .f32 := dprobs (cot (dA m c)) (pA m c)
def dsM : FVec Ideal S1x4x4352x4096x4 .f32 := dscores (dpM m c) (eM m c) (lM m c) (rowTerm (dpM m c) (eM m c) (lM m c))

theorem res_dq : res_main_v70 (F := Ideal) m c = dqOf (dsM m c) (kA m c) := rfl
theorem res_dk : res_main_v66 (F := Ideal) m c = dkOf (dsM m c) (qA m c) := rfl
theorem res_dproj : res_main_v74 (F := Ideal) m c = dprojOf (iA m c) (dvOf (cot (dA m c)) (probs (eM m c) (lM m c))) := rfl

end

end Cert.Bwd.Ref

end
-- ==== Proof.Bwd.RefReads.lean ====
/- Each stage of the reference, read at one index, over the extended reals. -/
module

public import proofs.«01_k».proof.Proof.Bwd.RefStages
public import proofs.«01_k».proof.Proof.Bwd.Real

@[expose] public section

set_option maxRecDepth 16384

noncomputable section

namespace Cert.Bwd.Ref

open Cert.ReferenceIdeal Cert.ReferenceIdeal.Gen Cert.ReferenceIdeal.Value Cert.ReferenceIdeal.Facts
open Idealize.ShloMosaic Idealize.ShloMosaic.TcCoe Idealize.SL.Sem

variable (h g : Fin 4) (i : Fin 4096) (j : Fin 4352) (d : Fin 128)

theorem scores_apply (q : FVec Ideal S4096x2048 .f32) (k : FVec Ideal S4352x512 .f32) :
    scores q k (ix5 0 h g i j)
      = (∑ x : Fin 128, k (ix2 j ⟨h.val * 128 + x.val, by omega⟩) * q (ix2 i ⟨h.val * 512 + g.val * 128 + x.val, by omega⟩))
        * Ideal.ofBits .f32 0x3DB504F3#32 := by
  pointwise [scores]

theorem expo_apply (s : FVec Ideal S1x4x4x4096x4352 .f32) (M : FVec Ideal S1x4x4x4096 .f32) :
    expo s M (ix5 0 h g i j) = Ideal.exp (s (ix5 0 h g i j) - M (ix4 0 h g i)) := by
  pointwise [expo]

theorem rowSum_apply (e : FVec Ideal S1x4x4x4096x4352 .f32) :
    rowSum e (ix5 0 h g i 0) = ∑ x : Fin 4352, e (ix5 0 h g i x) := by
  pointwise [rowSum]

theorem probs_apply (e : FVec Ideal S1x4x4x4096x4352 .f32) (l : FVec Ideal S1x4x4x4096x1 .f32) :
    probs e l (ix5 0 h g i j) = Ideal.div (e (ix5 0 h g i j)) (l (ix5 0 h g i 0)) := by
  pointwise [probs]

theorem cot_apply (dval : FVec Ideal S4096x4096 .f32) :
    cot dval (ix5 0 h d g i) = dval (ix2 i ⟨h.val * 512 + g.val * 128 + d.val, by omega⟩) := by
  pointwise [cot]

theorem dprobs_apply (o : FVec Ideal S1x4x128x4x4096 .f32) (proj : FVec Ideal S4352x9216 .f32) :
    dprobs o proj (ix5 0 h g i j)
      = ∑ x : Fin 128, o (ix5 0 h x g i) * proj (ix2 j ⟨2560 + (h.val * 128 + x.val), by omega⟩) := by
  pointwise [dprobs]

theorem dscores_apply (dp e : FVec Ideal S1x4x4x4096x4352 .f32) (l : FVec Ideal S1x4x4x4096x1 .f32) (r : FVec Ideal S1x4x4x4096 .f32) :
    dscores dp e l r (ix5 0 h j i g)
      = (Ideal.div (dp (ix5 0 h g i j)) (l (ix5 0 h g i 0)) + r (ix4 0 h g i)) * e (ix5 0 h g i j) * Ideal.ofBits .f32 0x3DB504F3#32 := by
  pointwise [dscores]

theorem dqOf_apply (ds : FVec Ideal S1x4x4352x4096x4 .f32) (k : FVec Ideal S4352x512 .f32) :
    dqOf ds k (ix5 h 0 g d i)
      = ∑ x : Fin 4352, ds (ix5 0 h x i g) * k (ix2 x ⟨h.val * 128 + d.val, by omega⟩) := by
  pointwise [dqOf]

theorem dkOf_apply (ds : FVec Ideal S1x4x4352x4096x4 .f32) (q : FVec Ideal S4096x2048 .f32) :
    dkOf ds q (ix2 j ⟨h.val * 128 + d.val, by omega⟩)
      = ∑ x : Fin 4096, ∑ y : Fin 4, ds (ix5 0 h j x y) * q (ix2 x ⟨h.val * 512 + y.val * 128 + d.val, by omega⟩) := by
  pointwise [dkOf]

theorem dvOf_apply (o : FVec Ideal S1x4x128x4x4096 .f32) (y : FVec Ideal S1x4x4x4096x4352 .f32) :
    dvOf o y (ix2 j ⟨h.val * 128 + d.val, by omega⟩)
      = ∑ a : Fin 4, ∑ x : Fin 4096, o (ix5 0 h d a x) * y (ix5 0 h a x j) := by
  pointwise [dvOf]

/-- The indices that fall on `(h, g, i)` when the first and the last axis, each of one, are dropped. -/
theorem drop_one : (Finset.univ.filter fun y => reducesTo_S1x4x4x4096x1_S4x4x4096_d0_4.drop y = ix3 h g i)
    = {(ix5 0 h g i 0 : S1x4x4x4096x1.Idx)} := by
  ext y
  obtain ⟨a, b, e, f, z, rfl⟩ : ∃ (a : Fin 1) (b e : Fin 4) (f : Fin 4096) (z : Fin 1), (y : S1x4x4x4096x1.Idx) = ix5 a b e f z :=
    ⟨y 0, y 1, y 2, y 3, y 4, eq_ix5 (show S1x4x4x4096x1.Idx from y)⟩
  have hd : reducesTo_S1x4x4x4096x1_S4x4x4096_d0_4.drop (ix5 a b e f z) = ix3 b e f := by
    funext r
    fin_cases r <;> rfl
  rw [Finset.mem_filter, Finset.mem_singleton, hd]
  constructor
  · rintro ⟨-, hy⟩
    have h0 : b = h := congrFun hy 0
    have h1 : e = g := congrFun hy 1
    have h2 : f = i := congrFun hy 2
    rw [h0, h1, h2, Subsingleton.elim a 0, Subsingleton.elim z 0]
  · intro hy
    have h0 : b = h := congrFun hy 1
    have h1 : e = g := congrFun hy 2
    have h2 : f = i := congrFun hy 3
    exact ⟨Finset.mem_univ _, by rw [h0, h1, h2]⟩

theorem rowTerm_apply (dp e : FVec Ideal S1x4x4x4096x4352 .f32) (l : FVec Ideal S1x4x4x4096x1 .f32) :
    rowTerm dp e l (ix4 0 h g i)
      = -(∑ x : Fin 4352, dp (ix5 0 h g i x) * Ideal.div 1 (l (ix5 0 h g i 0) * l (ix5 0 h g i 0)) * e (ix5 0 h g i x)) := by
  pointwise [rowTerm]
  unfold Ideal.hostReduceAdd
  rw [drop_one, Finset.sum_singleton]
  pointwise

theorem max_at {s : Shape} (a b : FVec Ideal s .f32) (y : s.Idx) : maximumf a b y = max (a y) (b y) := rfl

/-- The largest of a row of real scores is a real. -/
theorem reduce_real (s : FVec Ideal S1x4x4x4096x4352 .f32) (hs : ∀ y, ∃ r : ℝ, s y = r) :
    ∃ r : ℝ, Host.reduce (FloatOps.maximumf (F := Ideal) (φ := .f32)) s (constant S_ .f32 0xFF800000#32)
      reducesTo_S1x4x4x4096x4352_S1x4x4x4096_d4 h_S_ (ix4 0 h g i) = r := by
  rw [Host.reduce_eq_fold]
  have hb : (constant (F := Ideal) S_ .f32 0xFF800000#32) (Shape.Idx.first h_S_) = (⊥ : EReal) := bot_bits
  rw [hb]
  refine fold_max_real _ ⟨(ix5 0 h g i 0 : S1x4x4x4096x4352.Idx), ?_⟩ s fun y _ => hs y
  rw [Finset.mem_filter]
  refine ⟨Finset.mem_univ _, ?_⟩
  funext r
  fin_cases r <;> rfl

theorem rowMax_real (s : FVec Ideal S1x4x4x4096x4352 .f32) (hs : ∀ y, ∃ r : ℝ, s y = r) : ∃ r : ℝ, rowMax s (ix4 0 h g i) = r := by
  obtain ⟨r, hr⟩ := reduce_real h g i s hs
  refine ⟨r, ?_⟩
  have hb : broadcastInDim S1x4x4x4096 ![] bcast_S_S1x4x4x4096 (constant (F := Ideal) S_ .f32 0xFF800000#32) (ix4 0 h g i) = (⊥ : EReal) :=
    bot_bits
  unfold rowMax
  rw [max_at, hb, hr, max_bot_left]

end Cert.Bwd.Ref

end
-- ==== Proof.Bwd.RefReal.lean ====
/- The reference's three results over finite entries: each is the real gradient. -/
module

public import proofs.«01_k».proof.Proof.Bwd.RefReads

@[expose] public section

set_option maxRecDepth 16384

noncomputable section

namespace Cert.Bwd.Ref

open Cert.ReferenceIdeal Cert.ReferenceIdeal.Gen Cert.ReferenceIdeal.Value Cert.ReferenceIdeal.Facts
open Idealize.ShloMosaic Idealize.ShloMosaic.TcCoe Idealize.SL.Sem

variable (Q : Fin 4096 → Fin 2048 → ℝ) (K W : Fin 4352 → Fin 512 → ℝ) (D : Fin 4096 → Fin 2048 → ℝ)
  (q : FVec Ideal S4096x2048 .f32) (k : FVec Ideal S4352x512 .f32) (proj : FVec Ideal S4352x9216 .f32) (dval : FVec Ideal S4096x4096 .f32)
  (hq : ∀ i n, q (ix2 i n) = (Q i n : EReal)) (hk : ∀ j n, k (ix2 j n) = (K j n : EReal))
  (hp : ∀ (j : Fin 4352) (n : Fin 512), proj (ix2 j (vcol n)) = (W j n : EReal))
  (hd : ∀ (i : Fin 4096) (n : Fin 2048), dval (ix2 i (ocol n)) = (D i n : EReal))
variable (h g : Fin 4) (i : Fin 4096) (j : Fin 4352) (d : Fin 128)

include hq hk in
theorem scores_real : scores q k (ix5 0 h g i j) = (sR Q K h g i j : EReal) := by
  rw [scores_apply, c_bits, sum_real _ fun x => by rw [hk, hq, ← EReal.coe_mul], ← EReal.coe_mul, sR]

include hq hk in
theorem max_real : ∃ M : ℝ, rowMax (scores q k) (ix4 0 h g i) = M := by
  refine rowMax_real h g i _ fun y => ?_
  obtain ⟨a, b, e, f, z, rfl⟩ : ∃ (a : Fin 1) (b e : Fin 4) (f : Fin 4096) (z : Fin 4352), (y : S1x4x4x4096x4352.Idx) = ix5 a b e f z :=
    ⟨y 0, y 1, y 2, y 3, y 4, eq_ix5 (show S1x4x4x4096x4352.Idx from y)⟩
  rw [Subsingleton.elim a 0]
  exact ⟨_, scores_real Q K q k hq hk b e f z⟩

/-- The exponentials of the scores. -/
def eOf : FVec Ideal S1x4x4x4096x4352 .f32 := expo (scores q k) (rowMax (scores q k))

include hq hk in
theorem row_real : ∃ M : ℝ, (∀ j, eOf q k (ix5 0 h g i j) = (Real.exp (sR Q K h g i j - M) : EReal))
    ∧ rowSum (eOf q k) (ix5 0 h g i 0) = ((∑ x, Real.exp (sR Q K h g i x - M) : ℝ) : EReal) := by
  obtain ⟨M, hM⟩ := max_real Q K q k hq hk h g i
  have he : ∀ j, eOf q k (ix5 0 h g i j) = (Real.exp (sR Q K h g i j - M) : EReal) := fun j => by
    rw [eOf, expo_apply, hM, scores_real Q K q k hq hk, ← EReal.coe_sub, Ideal.exp_coe]
  exact ⟨M, he, by rw [rowSum_apply, sum_real _ he]⟩

include hq hk in
theorem probs_real : probs (eOf q k) (rowSum (eOf q k)) (ix5 0 h g i j) = (soft (sR Q K h g i) j : EReal) := by
  obtain ⟨M, he, hl⟩ := row_real Q K q k hq hk h g i
  rw [probs_apply, he, hl, div_real _ _ (sum_pos _ M j).ne', ← soft_shift (sR Q K h g i) M j, mul_one_div]

include hd in
theorem cot_real : cot dval (ix5 0 h d g i) = (D i ⟨h.val * 512 + g.val * 128 + d.val, by omega⟩ : EReal) := by
  rw [cot_apply]; exact hd i ⟨h.val * 512 + g.val * 128 + d.val, by omega⟩

include hp hd in
theorem dprobs_real : dprobs (cot dval) proj (ix5 0 h g i j) = (pR W D h g i j : EReal) := by
  rw [dprobs_apply, pR, ← coe_sum]
  refine Finset.sum_congr rfl fun x _ => ?_
  rw [EReal.coe_mul, cot_real D dval hd]
  exact congrArg _ (hp j ⟨h.val * 128 + x.val, by omega⟩)

/-- The scores' cotangents. -/
def dsOf : FVec Ideal S1x4x4352x4096x4 .f32 :=
  dscores (dprobs (cot dval) proj) (eOf q k) (rowSum (eOf q k)) (rowTerm (dprobs (cot dval) proj) (eOf q k) (rowSum (eOf q k)))

include hq hk hp hd in
theorem dscores_real : dsOf q k proj dval (ix5 0 h j i g) = ((dsoft (sR Q K h g i) (pR W D h g i) j * cR : ℝ) : EReal) := by
  obtain ⟨M, he, hl⟩ := row_real Q K q k hq hk h g i
  have hl0 := (sum_pos (sR Q K h g i) M j).ne'
  have hr : rowTerm (dprobs (cot dval) proj) (eOf q k) (rowSum (eOf q k)) (ix4 0 h g i)
      = ((-(∑ x, pR W D h g i x * (1 * (1 / ((∑ x, Real.exp (sR Q K h g i x - M)) * (∑ x, Real.exp (sR Q K h g i x - M)))))
          * Real.exp (sR Q K h g i x - M)) : ℝ) : EReal) := by
    rw [rowTerm_apply, hl, EReal.coe_neg]
    refine congrArg _ (sum_real _ fun x => ?_)
    rw [dprobs_real W D proj dval hp hd, he, ← EReal.coe_mul, ← EReal.coe_one, div_real _ _ (mul_ne_zero hl0 hl0), ← EReal.coe_mul, ← EReal.coe_mul]
  rw [dsOf, dscores_apply, dprobs_real W D proj dval hp hd, hl, he, hr, c_bits, div_real _ _ hl0, ← EReal.coe_add, ← EReal.coe_mul,
    ← EReal.coe_mul, dsoft_quot (sR Q K h g i) (pR W D h g i) M j _ rfl]

include hq hk hp hd in
theorem dq_eq : dqOf (dsOf q k proj dval) k (ix5 h 0 g d i) = (dqR Q K W D h g d i : EReal) := by
  rw [dqOf_apply, dqR, ← coe_sum]
  refine Finset.sum_congr rfl fun x _ => ?_
  rw [dscores_real Q K W D q k proj dval hq hk hp hd, hk, ← EReal.coe_mul]

include hq hk hp hd in
theorem dk_eq : dkOf (dsOf q k proj dval) q (ix2 j ⟨h.val * 128 + d.val, by omega⟩) = (dkR Q K W D h j d : EReal) := by
  rw [dkOf_apply, dkR, ← coe_sum]
  refine Finset.sum_congr rfl fun x _ => ?_
  rw [← coe_sum]
  refine Finset.sum_congr rfl fun y _ => ?_
  rw [dscores_real Q K W D q k proj dval hq hk hp hd, hq, ← EReal.coe_mul]

include hq hk hd in
theorem dv_eq : dvOf (cot dval) (probs (eOf q k) (rowSum (eOf q k))) (ix2 j ⟨h.val * 128 + d.val, by omega⟩) = (dvR Q K D h j d : EReal) := by
  rw [dvOf_apply, dvR, ← coe_sum]
  refine Finset.sum_congr rfl fun x _ => ?_
  rw [← coe_sum]
  refine Finset.sum_congr rfl fun y _ => ?_
  rw [cot_real D dval hd, probs_real Q K q k hq hk, ← EReal.coe_mul]

theorem dproj_low (into : FVec Ideal S4352x9216 .bf16) (dv : FVec Ideal S4352x512 .f32) (n : Fin 2560) :
    dprojOf into dv (ix2 j ⟨n.val, by omega⟩) = into (ix2 j ⟨n.val, by omega⟩) := by
  pointwise [dprojOf, fn_main_v74]

theorem dproj_high (into : FVec Ideal S4352x9216 .bf16) (dv : FVec Ideal S4352x512 .f32) (n : Fin 6144) :
    dprojOf into dv (ix2 j ⟨3072 + n.val, by omega⟩) = into (ix2 j ⟨3072 + n.val, by omega⟩) := by
  pointwise [dprojOf, fn_main_v74]
  rw [dif_neg (by omega), dif_neg (by omega)]
  refine congrArg into (congrArg (ix2 j) (Fin.ext ?_))
  show 3072 + (3072 + n.val - 2560 - 512) = 3072 + n.val
  omega

/-- Outside the value columns the third result is the aliased array. -/
theorem dproj_out (into : FVec Ideal S4352x9216 .bf16) (dv : FVec Ideal S4352x512 .f32) (n : Fin 9216) (hn : ¬(2560 ≤ n.val ∧ n.val < 3072)) :
    dprojOf into dv (ix2 j n) = into (ix2 j n) := by
  by_cases hl : n.val < 2560
  · exact dproj_low j into dv ⟨n.val, hl⟩
  · obtain ⟨n, hlt⟩ := n
    obtain ⟨a, rfl⟩ : ∃ a, n = 3072 + a := ⟨n - 3072, by simp only [] at hn hl; omega⟩
    exact dproj_high j into dv ⟨a, by omega⟩

/-- In them it is the values' gradient. -/
theorem dproj_in (into : FVec Ideal S4352x9216 .bf16) (dv : FVec Ideal S4352x512 .f32) (n : Fin 512) :
    dprojOf into dv (ix2 j ⟨2560 + n.val, by omega⟩) = dv (ix2 j n) := by
  pointwise [dprojOf, fn_main_v74]

end Cert.Bwd.Ref

end
-- ==== Proof.Bwd.Claim.lean ====
/- The certificate's claim about values: over finite queries, keys, values and cotangents the kernel's
   three results are the reference's. -/
module

public import proofs.«01_k».proof.Proof.Bwd.Final
public import proofs.«01_k».proof.Proof.Bwd.KerReal
public import proofs.«01_k».proof.Proof.Bwd.RefReal
public import proofs.«01_k».proof.Proof.Gen.KernelIdeal.Value
public import proofs.«01_k».proof.Defs

@[expose] public section

set_option maxRecDepth 16384

noncomputable section

namespace Cert.Bwd

open Idealize.ShloMosaic Idealize.ShloMosaic.TcCoe Idealize.SL.Sem

/-- The relations that the precondition's operations take. -/
theorem pre_facts : Cert.Pre_finite.Facts where
  slices_S4352x9216_S4352x512_0_2560 := by decide
  bcast_S_S4096x2048 := by decide
  bcast_S_S4352x512 := by decide
  slices_S4096x4096_S4096x2048_0_0 := by decide

/-- An extended real whose absolute value is below infinity is a real. -/
theorem real_of_lt (x : EReal) (h : Ideal.cmp .olt (max x (-x)) ⊤ = 1#1) : ((x.toReal : ℝ) : EReal) = x := by
  replace h : max x (-x) < ⊤ := (Ideal.cmp_olt_eq_one ..).1 h
  refine EReal.coe_toReal ?_ ?_
  · rintro rfl; simp at h
  · rintro rfl; simp at h

attribute [local instance] pre_facts

section pre
variable (q : FVec Ideal Cert.Pre_finite.S4096x2048 .f32) (k : FVec Ideal Cert.Pre_finite.S4352x512 .f32)
  (p : FVec Ideal Cert.Pre_finite.S4352x9216 .f32) (d : FVec Ideal Cert.Pre_finite.S4096x4096 .f32) (a : FVec Ideal Cert.Pre_finite.S4352x9216 .bf16)

theorem pre_q (h : (Cert.Pre_finite.fn q k p d a).1 = fun _ => 1#1) (i : Fin 4096) (n : Fin 2048) :
    q (ix2 i n) = ((q (ix2 i n)).toReal : EReal) := by
  have h1 := congrFun h (ix2 i n)
  refine (real_of_lt _ ?_).symm
  rw [← top_bits]
  exact h1

theorem pre_k (h : (Cert.Pre_finite.fn q k p d a).2.1 = fun _ => 1#1) (i : Fin 4352) (n : Fin 512) :
    k (ix2 i n) = ((k (ix2 i n)).toReal : EReal) := by
  have h1 := congrFun h (ix2 i n)
  refine (real_of_lt _ ?_).symm
  rw [← top_bits]
  exact h1

theorem slice_p (i : Fin 4352) (n : Fin 512) :
    extractStridedSlice Cert.Pre_finite.S4352x512 ![0, 2560] p Cert.Pre_finite.Facts.slices_S4352x9216_S4352x512_0_2560 (ix2 i n)
      = p (ix2 i (vcol n)) := by
  pointwise [vcol]

theorem slice_d (i : Fin 4096) (n : Fin 2048) :
    extractStridedSlice Cert.Pre_finite.S4096x2048 ![0, 0] d Cert.Pre_finite.Facts.slices_S4096x4096_S4096x2048_0_0 (ix2 i n)
      = d (ix2 i (ocol n)) := by
  pointwise [ocol]

theorem pre_p (h : (Cert.Pre_finite.fn q k p d a).2.2.1 = fun _ => 1#1) (i : Fin 4352) (n : Fin 512) :
    p (ix2 i (vcol n)) = ((p (ix2 i (vcol n))).toReal : EReal) := by
  have h1 := congrFun h (ix2 i n)
  refine (real_of_lt _ ?_).symm
  rw [← top_bits, ← slice_p p i n]
  exact h1

theorem pre_d (h : (Cert.Pre_finite.fn q k p d a).2.2.2 = fun _ => 1#1) (i : Fin 4096) (n : Fin 2048) :
    d (ix2 i (ocol n)) = ((d (ix2 i (ocol n))).toReal : EReal) := by
  have h1 := congrFun h (ix2 i n)
  refine (real_of_lt _ ?_).symm
  rw [← top_bits, ← slice_d d i n]
  exact h1

end pre

section equal
variable (Q : Fin 4096 → Fin 2048 → ℝ) (K W : Fin 4352 → Fin 512 → ℝ) (D : Fin 4096 → Fin 2048 → ℝ)
  (q : FVec Ideal Cert.KernelIdeal.S4096x2048 .f32) (k : FVec Ideal Cert.KernelIdeal.S4352x512 .f32)
  (proj : FVec Ideal Cert.KernelIdeal.S4352x9216 .f32) (dval : FVec Ideal Cert.KernelIdeal.S4096x4096 .f32)
  (dob : FVec Ideal Cert.KernelIdeal.S4096x4096 .bf16) (kb : FVec Ideal Cert.KernelIdeal.S4352x512 .bf16)
  (pb into : FVec Ideal Cert.KernelIdeal.S4352x9216 .bf16)
  (hdo : ∀ y, dob y = dval y) (hkb : ∀ y, kb y = k y) (hpb : ∀ y, pb y = proj y)
  (hq : ∀ i n, q (ix2 i n) = (Q i n : EReal)) (hk : ∀ j n, k (ix2 j n) = (K j n : EReal))
  (hp : ∀ (j : Fin 4352) (n : Fin 512), proj (ix2 j (vcol n)) = (W j n : EReal))
  (hd : ∀ (i : Fin 4096) (n : Fin 2048), dval (ix2 i (ocol n)) = (D i n : EReal))

include hdo hkb hpb hq hk hp hd in
theorem dq_same : Arr.dqG (Host.qr q) dob kb pb (Host.lseOf q k) (Host.deltaOf q k proj dval) = Ref.dqOf (Ref.dsOf q k proj dval) k := by
  funext y
  obtain ⟨h, a, g, d, i, rfl⟩ : ∃ (h : Fin 4) (a : Fin 1) (g : Fin 4) (d : Fin 128) (i : Fin 4096), (y : Cert.KernelIdeal.S4x1x4x128x4096.Idx) = ix5 h a g d i :=
    ⟨y 0, y 1, y 2, y 3, y 4, eq_ix5 (show Cert.KernelIdeal.S4x1x4x128x4096.Idx from y)⟩
  rw [Subsingleton.elim a 0, Arr.dqG_ix, Arr.dq_eq Q K W D q k proj dval dob kb pb hdo hkb hpb hq hk hp hd]
  exact (Ref.dq_eq Q K W D q k proj dval hq hk hp hd h g i d).symm

include hdo hkb hpb hq hk hp hd in
theorem dk_same : Arr.dkG (Host.qr q) dob kb pb (Host.lseOf q k) (Host.deltaOf q k proj dval) = Ref.dkOf (Ref.dsOf q k proj dval) q := by
  funext y
  obtain ⟨j, n, rfl⟩ : ∃ (j : Fin 4352) (n : Fin 512), (y : Cert.KernelIdeal.S4352x512.Idx) = ix2 j n :=
    ⟨y 0, y 1, eq_ix2 (show Cert.KernelIdeal.S4352x512.Idx from y)⟩
  obtain ⟨h, d, rfl⟩ : ∃ (h : Fin 4) (d : Fin 128), n = ⟨h.val * 128 + d.val, by omega⟩ :=
    ⟨⟨n.val / 128, by omega⟩, ⟨n.val % 128, by omega⟩, Fin.ext (by show n.val = n.val / 128 * 128 + n.val % 128; omega)⟩
  rw [Arr.dkG_ix _ _ _ _ _ _ j h d _ rfl, Arr.dk_eq Q K W D q k proj dval dob kb pb hdo hkb hpb hq hk hp hd]
  exact (Ref.dk_eq Q K W D q k proj dval hq hk hp hd h j d).symm

include hdo hkb hq hk hd in
theorem dproj_same : Arr.dpG (Host.qr q) dob kb (Host.lseOf q k) into
    = Ref.dprojOf into (Ref.dvOf (Ref.cot dval) (Ref.probs (Ref.eOf q k) (Ref.rowSum (Ref.eOf q k)))) := by
  funext y
  obtain ⟨j, n, rfl⟩ : ∃ (j : Fin 4352) (n : Fin 9216), (y : Cert.KernelIdeal.S4352x9216.Idx) = ix2 j n :=
    ⟨y 0, y 1, eq_ix2 (show Cert.KernelIdeal.S4352x9216.Idx from y)⟩
  by_cases hn : 2560 ≤ n.val ∧ n.val < 3072
  · obtain ⟨h, d, hnd⟩ : ∃ (h : Fin 4) (d : Fin 128), n.val = 2560 + (h.val * 128 + d.val) :=
      ⟨⟨(n.val - 2560) / 128, by omega⟩, ⟨(n.val - 2560) % 128, by omega⟩,
        by show n.val = 2560 + ((n.val - 2560) / 128 * 128 + (n.val - 2560) % 128); omega⟩
    rw [Arr.dpG_in _ _ _ _ _ j h d n (hnd.trans (Nat.add_assoc _ _ _).symm), Arr.dv_eq Q K D q k dval dob kb hdo hkb hq hk hd]
    have hn' : n = vcol ⟨h.val * 128 + d.val, by omega⟩ := Fin.ext hnd
    rw [hn']
    refine Eq.trans ?_ (Ref.dproj_in j into _ ⟨h.val * 128 + d.val, by omega⟩).symm
    exact (Ref.dv_eq Q K D q k dval hq hk hd h j d).symm
  · rw [Arr.dpG_out _ _ _ _ _ j n hn]
    exact (Ref.dproj_out j into _ n hn).symm

end equal

section congr
open Cert.KernelIdeal
variable {qb qb' : FVec Ideal S4096x2048 .bf16} {dob dob' : FVec Ideal S4096x4096 .bf16} {kb kb' : FVec Ideal S4352x512 .bf16}
  {pb pb' into into' : FVec Ideal S4352x9216 .bf16} {lb lb' db db' : FVec Ideal S4x4x1x1x4096 .f32}

theorem dqG_congr (h1 : qb = qb') (h2 : dob = dob') (h3 : kb = kb') (h4 : pb = pb') (h5 : lb = lb') (h6 : db = db') :
    Arr.dqG qb dob kb pb lb db = Arr.dqG qb' dob' kb' pb' lb' db' := by
  subst h1 h2 h3 h4 h5 h6; rfl

theorem dkG_congr (h1 : qb = qb') (h2 : dob = dob') (h3 : kb = kb') (h4 : pb = pb') (h5 : lb = lb') (h6 : db = db') :
    Arr.dkG qb dob kb pb lb db = Arr.dkG qb' dob' kb' pb' lb' db' := by
  subst h1 h2 h3 h4 h5 h6; rfl

theorem dpG_congr (h1 : qb = qb') (h2 : dob = dob') (h3 : kb = kb') (h5 : lb = lb') (h7 : into = into') :
    Arr.dpG qb dob kb lb into = Arr.dpG qb' dob' kb' lb' into' := by
  subst h1 h2 h3 h5 h7; rfl

end congr

section ref
open Cert.ReferenceIdeal
variable (m' : (ℓ : Loc nD τ sig) → Buf (Elt Ideal) ℓ) (c : Dev nD)
  {q : FVec Ideal S4096x2048 .f32} {k : FVec Ideal S4352x512 .f32} {p : FVec Ideal S4352x9216 .f32} {d : FVec Ideal S4096x4096 .f32}
  {i : FVec Ideal S4352x9216 .bf16}

theorem ref_dq (h0 : Ref.qA m' c = q) (h1 : Ref.kA m' c = k) (h2 : Ref.pA m' c = p) (h3 : Ref.dA m' c = d) :
    Ref.dqOf (Ref.dsOf q k p d) k = Cert.ReferenceIdeal.Value.res_main_v70 (F := Ideal) m' c := by
  subst h0 h1 h2 h3; exact (Ref.res_dq m' c).symm

theorem ref_dk (h0 : Ref.qA m' c = q) (h1 : Ref.kA m' c = k) (h2 : Ref.pA m' c = p) (h3 : Ref.dA m' c = d) :
    Ref.dkOf (Ref.dsOf q k p d) q = Cert.ReferenceIdeal.Value.res_main_v66 (F := Ideal) m' c := by
  subst h0 h1 h2 h3; exact (Ref.res_dk m' c).symm

theorem ref_dproj (h0 : Ref.qA m' c = q) (h1 : Ref.kA m' c = k) (h3 : Ref.dA m' c = d) (h4 : Ref.iA m' c = i) :
    Ref.dprojOf i (Ref.dvOf (Ref.cot d) (Ref.probs (Ref.eOf q k) (Ref.rowSum (Ref.eOf q k))))
      = Cert.ReferenceIdeal.Value.res_main_v74 (F := Ideal) m' c := by
  subst h0 h1 h3 h4; exact (Ref.res_dproj m' c).symm

end ref

/-- The kernel's three arrays and the reference's three results, from memories that agree. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : Ref.qA m' c = Host.qA m c) (h1 : Ref.kA m' c = Host.kA m c) (h2 : Ref.pA m' c = Host.pA m c)
    (h3 : Ref.dA m' c = Host.dA m c) (h4 : Ref.iA m' c = Host.iA m c) :
    (Cert.KernelIdeal.Gen.dats m 0 c).arrAt 6 Cert.KernelIdeal.cfg0.N = Cert.ReferenceIdeal.Value.res_main_v70 (F := Ideal) m' c
    ∧ (Cert.KernelIdeal.Gen.dats m 0 c).arrAt 7 Cert.KernelIdeal.cfg0.N = Cert.ReferenceIdeal.Value.res_main_v66 (F := Ideal) m' c
    ∧ (Cert.KernelIdeal.Gen.dats m 0 c).arrAt 8 Cert.KernelIdeal.cfg0.N = Cert.ReferenceIdeal.Value.res_main_v74 (F := Ideal) m' c := by
  obtain ⟨a0, a1, a2, a3⟩ := hpre c
  have hq := pre_q _ _ _ _ _ a0
  have hk := pre_k _ _ _ _ _ a1
  have hp := pre_p _ _ _ _ _ a2
  have hd := pre_d _ _ _ _ _ a3
  have e1 := Host.V_qr m c
  have e2 := Host.V_do m c
  have e3 := Host.V_k m c
  have e4 := Host.V_proj m c
  have e5 : _ = Host.lseOf (Host.qA m c) (Host.kA m c) := Host.V_lse m c
  have e6 : _ = Host.deltaOf (Host.qA m c) (Host.kA m c) (Host.pA m c) (Host.dA m c) := Host.V_delta m c
  have e7 := Host.V_into m c
  have s1 := dq_same _ _ _ _ (Host.qA m c) (Host.kA m c) (Host.pA m c) (Host.dA m c) _ _ _ (fun _ => rfl) (fun _ => rfl) (fun _ => rfl) hq hk hp hd
  have s2 := dk_same _ _ _ _ (Host.qA m c) (Host.kA m c) (Host.pA m c) (Host.dA m c) _ _ _ (fun _ => rfl) (fun _ => rfl) (fun _ => rfl) hq hk hp hd
  have s3 := dproj_same _ _ _ (Host.qA m c) (Host.kA m c) (Host.dA m c) _ _ (Host.iA m c) (fun _ => rfl) (fun _ => rfl) hq hk hd
  refine ⟨?_, ?_, ?_⟩
  · exact (Arr.final6 m c).trans ((dqG_congr e1 e2 e3 e4 e5 e6).trans (s1.trans (ref_dq m' c h0 h1 h2 h3)))
  · exact (Arr.final7 m c).trans ((dkG_congr e1 e2 e3 e4 e5 e6).trans (s2.trans (ref_dk m' c h0 h1 h2 h3)))
  · exact (Arr.final8 m c).trans ((dpG_congr e1 e2 e3 e5 e7).trans (s3.trans (ref_dproj m' c h0 h1 h3 h4)))

/-- The kernel's three results are the reference's. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  have hs := fun c => same m m' hpre c (hargs c).1 (hargs c).2.1 (hargs c).2.2.1 (hargs c).2.2.2.1 (hargs c).2.2.2.2
  refine ⟨fun c => Cert.ReferenceIdeal.Value.res_main_v70 (F := Ideal) m' c, fun c => Cert.ReferenceIdeal.Value.res_main_v66 (F := Ideal) m' c,
    fun c => Cert.ReferenceIdeal.Value.res_main_v74 (F := Ideal) m' c, ?_, Cert.ReferenceIdeal.Value.run (F := Ideal) m' g'⟩
  exact (θ_run Cert.KernelIdeal.defs _ _).mono (fun r h c => ⟨(h c).1.trans (hs c).1, (h c).2.1.trans (hs c).2.1, (h c).2.2.1.trans (hs c).2.2,
    (h c).2.2.2⟩) (Cert.KernelIdeal.Value.run_blocks (F := Ideal) m g)

end Cert.Bwd

end
-- ==== Proof.Out.Wgrad.lean ====
/- The output projection's weight gradient: each grid point writes one block of the product, so the whole
   array is the contraction over the rows, which is what the reference computes. -/
module
public import proofs.«01_k».proof.Proof.Gen.Kernel2Ideal.Value
public import proofs.«01_k».proof.Proof.Gen.Reference2Ideal.Run
public import proofs.«01_k».proof.Defs
public import Idealize.ShloMosaic.Lib.Pointwise
public import Idealize.ShloMosaic.Lib.Pipeline.ValueKit
public import Idealize.ShloMosaic.Lib.Pipeline.ValueKit.Acc
@[expose] public section
set_option maxRecDepth 16384
noncomputable section
namespace Cert.Wgrad
open Cert.Kernel2Ideal Cert.Kernel2Ideal.Gen Cert.Kernel2Ideal.Facts
open Idealize.ShloMosaic Idealize.ShloMosaic.TcCoe Idealize.SL.Sem

/-- Each window's block at grid point `t`: tile `t / 4` of the result's rows, tile `t % 4` of its columns. -/
theorem index_facts : ∀ t : Fin grid0.N,
    win0_0.index t = ![0, t.val / 4] ∧ win0_1.index t = ![0, t.val % 4] ∧ win0_2.index t = ![t.val / 4, t.val % 4] := by decide +kernel

theorem row_lt (t : Fin cfg0.N) (a : Fin 512) : t.val / 4 * 512 + a.val < 4096 := by
  have h : t.val < 32 := t.isLt
  omega

theorem col_lt (t : Fin cfg0.N) (b : Fin 1024) : t.val % 4 * 1024 + b.val < 4096 := by omega

/-- The product, contracted over both arrays' rows. -/
def G (a b : Vec Ideal S4096x4096 .f32) : FVec Ideal S4096x4096 .bf16 := fun i =>
  ∑ k : Fin 4096, a (ix2 k (show Fin 4096 from i 0)) * b (ix2 k (show Fin 4096 from i 1))

theorem G_ix (a b) (i j : Fin 4096) : G a b (ix2 i j) = ∑ k : Fin 4096, a (ix2 k i) * b (ix2 k j) := rfl

/-- What a point computes from its two blocks. -/
theorem pay (x0 : Vec Ideal S4096x512 .bf16) (x1 : Vec Ideal S4096x1024 .bf16) (a : Fin 512) (b : Fin 1024) :
    k0_pay1 x0 x1 (ix2 a b) = ∑ k : Fin 4096, x0 (ix2 k a) * x1 (ix2 k b) := by
  unfold_payloads
  pointwise

theorem out_eq (x0 : Vec Ideal S4096x512 .bf16) (x1 : Vec Ideal S4096x1024 .bf16) : out0_2 x0 x1 = k0_pay1 x0 x1 := by
  unfold out0_2
  refine (View.canon_cons_unit_lit' (S := S512x1024) _ _ _ (by intro a; fin_cases a <;> rfl)).trans ?_
  exact congrArg₂ k0_pay1 (View.ld_unit_lit' (S := S4096x512) _ _ (by intro a; fin_cases a <;> rfl))
    (View.ld_unit_lit' (S := S4096x1024) _ _ (by intro a; fin_cases a <;> rfl))

variable (m : (ℓ : Loc nD τ sig) → Buf (Elt Ideal) ℓ) (c : Dev nD)

theorem V_left : V m c main_v0 = (m ((c : Thread nD τ).loc main_arg0) : Vec Ideal S4096x4096 .f32) := by
  show StableHlo.after hostOps0 (fun b => m (c, b)) main_v0 = truncf (F := Ideal) .bf16 (m ((c : Thread nD τ).loc main_arg0)) bitsLt_bf16_f32
  after_results

theorem V_right : V m c main_v1 = (m ((c : Thread nD τ).loc main_arg2) : Vec Ideal S4096x4096 .f32) := by
  show StableHlo.after hostOps0 (fun b => m (c, b)) main_v1 = truncf (F := Ideal) .bf16 (m ((c : Thread nD τ).loc main_arg2)) bitsLt_bf16_f32
  after_results

theorem read0 (t : Fin cfg0.N) (k : Fin 4096) (a : Fin 512) :
    iblk m c 0 t (ix2 k a) = V m c main_v0 (ix2 k ⟨t.val / 4 * 512 + a.val, row_lt t a⟩) := by
  blk_ext [iblk, (index_facts t).1]

theorem read1 (t : Fin cfg0.N) (k : Fin 4096) (b : Fin 1024) :
    iblk m c 1 t (ix2 k b) = V m c main_v1 (ix2 k ⟨t.val % 4 * 1024 + b.val, col_lt t b⟩) := by
  blk_ext [iblk, (index_facts t).2.1]

theorem emb (t : Fin cfg0.N) (a : Fin 512) (b : Fin 1024) :
    ((win0_2.blk t).view.emb (ix2 a b) : S4096x4096.Idx) = ix2 ⟨t.val / 4 * 512 + a.val, row_lt t a⟩ ⟨t.val % 4 * 1024 + b.val, col_lt t b⟩ := by
  blk_ext [(index_facts t).2.2]

theorem final : (dats m 0 c).arrAt 2 cfg0.N = G (V m c main_v0) (V m c main_v1) := by
  refine (dats m 0 c).arrAt_eq_of_covers 2 _ (by decide +kernel) fun t hf y => ?_
  blk_simp
  rw [after0_2]
  have hy : ∃ (a : Fin 512) (b : Fin 1024), (y : S512x1024.Idx) = ix2 a b := ⟨y 0, y 1, eq_ix2 (show S512x1024.Idx from y)⟩
  obtain ⟨a, b, rfl⟩ := hy
  rw [emb t a b, G_ix, out_eq]
  refine (pay _ _ a b).trans (Finset.sum_congr rfl fun k _ => ?_)
  rw [← read0, ← read1]

/-- The reference's result at an index. -/
theorem ref_eq (x g : FVec Ideal S4096x4096 .f32) (t) :
    (truncf (F := Ideal) .bf16 (transpose S4096x4096 [1, 0]
        (Host.dotGeneral (F := Ideal) (φ₁ := .f32) (φ₂ := .f32) Cert.Reference2Ideal.dot_S4096x4096_S4096x4096_S4096x4096_0_0_1_1_n_n none g x) t) bitsLt_bf16_f32
      : FVec Ideal S4096x4096 .bf16) = G x g := by
  funext j
  obtain ⟨a, b, rfl⟩ : ∃ (a b : Fin 4096), j = ix2 a b := ⟨j 0, j 1, eq_ix2 j⟩
  rw [G_ix]
  pointwise
  exact Finset.sum_congr rfl fun k _ => mul_comm _ _

/-- The kernel's result is the reference's. -/
theorem algebraic : Cert.algebraic_Kernel2Ideal_Reference2Ideal (hKernel2Ideal := Cert.Kernel2Ideal.Gen.facts)
    (hReference2Ideal := Cert.Reference2Ideal.Gen.facts) := by
  intro m g m' g' _ hargs
  have hs : ∀ c : Dev Cert.Kernel2Ideal.nD, (dats m 0 c).arrAt 2 cfg0.N
      = G (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg2)) := fun c =>
    (final m c).trans (congrArg₂ G ((V_left m c).trans (hargs c).1.symm) ((V_right m c).trans (hargs c).2.2.symm))
  refine ⟨fun c => (dats m 0 c).arrAt 2 cfg0.N, Cert.Kernel2Ideal.Value.run_blocks (F := Ideal) m g, ?_⟩
  exact (θ_run Cert.Reference2Ideal.defs _ _).mono (fun r h c => ⟨(h c).1.trans ((ref_eq _ _ _).trans (hs c).symm), (h c).2⟩)
    (Cert.Reference2Ideal.Value.run (F := Ideal) m' g')

end Cert.Wgrad

end
-- ==== Proof.Out.Dgrad.lean ====
/- The output projection's input gradient: each grid point writes one block of the product, so the whole
   array is the contraction over both arrays' columns, which is what the reference computes. -/
module
public import proofs.«01_k».proof.Proof.Gen.Kernel3Ideal.Value
public import proofs.«01_k».proof.Proof.Gen.Reference3Ideal.Run
public import proofs.«01_k».proof.Defs
public import Idealize.ShloMosaic.Lib.Pointwise
public import Idealize.ShloMosaic.Lib.Pipeline.ValueKit
public import Idealize.ShloMosaic.Lib.Pipeline.ValueKit.Acc
@[expose] public section
set_option maxRecDepth 16384
noncomputable section
namespace Cert.Dgrad
open Cert.Kernel3Ideal Cert.Kernel3Ideal.Gen Cert.Kernel3Ideal.Facts
open Idealize.ShloMosaic Idealize.ShloMosaic.TcCoe Idealize.SL.Sem

/-- Each window's block at grid point `t`: tile `t / 4` of the result's rows, tile `t % 4` of its columns. -/
theorem index_facts : ∀ t : Fin grid0.N,
    win0_0.index t = ![t.val / 4, 0] ∧ win0_1.index t = ![t.val % 4, 0] ∧ win0_2.index t = ![t.val / 4, t.val % 4] := by decide +kernel

theorem row_lt (t : Fin cfg0.N) (a : Fin 512) : t.val / 4 * 512 + a.val < 4096 := by
  have h : t.val < 32 := t.isLt
  omega

theorem col_lt (t : Fin cfg0.N) (b : Fin 1024) : t.val % 4 * 1024 + b.val < 4096 := by omega

/-- The product, contracted over both arrays' columns. -/
def G (a b : Vec Ideal S4096x4096 .f32) : FVec Ideal S4096x4096 .bf16 := fun i =>
  ∑ k : Fin 4096, a (ix2 (show Fin 4096 from i 0) k) * b (ix2 (show Fin 4096 from i 1) k)

theorem G_ix (a b) (i j : Fin 4096) : G a b (ix2 i j) = ∑ k : Fin 4096, a (ix2 i k) * b (ix2 j k) := rfl

/-- What a point computes from its two blocks. -/
theorem pay (x0 : Vec Ideal S512x4096 .bf16) (x1 : Vec Ideal S1024x4096 .bf16) (a : Fin 512) (b : Fin 1024) :
    k0_pay1 x0 x1 (ix2 a b) = ∑ k : Fin 4096, x0 (ix2 a k) * x1 (ix2 b k) := by
  unfold_payloads
  pointwise

theorem out_eq (x0 : Vec Ideal S512x4096 .bf16) (x1 : Vec Ideal S1024x4096 .bf16) : out0_2 x0 x1 = k0_pay1 x0 x1 := by
  unfold out0_2
  refine (View.canon_cons_unit_lit' (S := S512x1024) _ _ _ (by intro a; fin_cases a <;> rfl)).trans ?_
  exact congrArg₂ k0_pay1 (View.ld_unit_lit' (S := S512x4096) _ _ (by intro a; fin_cases a <;> rfl))
    (View.ld_unit_lit' (S := S1024x4096) _ _ (by intro a; fin_cases a <;> rfl))

variable (m : (ℓ : Loc nD τ sig) → Buf (Elt Ideal) ℓ) (c : Dev nD)

theorem V_left : V m c main_v0 = (m ((c : Thread nD τ).loc main_arg2) : Vec Ideal S4096x4096 .f32) := by
  show StableHlo.after hostOps0 (fun b => m (c, b)) main_v0 = truncf (F := Ideal) .bf16 (m ((c : Thread nD τ).loc main_arg2)) bitsLt_bf16_f32
  after_results

theorem V_right : V m c main_v1 = (m ((c : Thread nD τ).loc main_arg1) : Vec Ideal S4096x4096 .f32) := by
  show StableHlo.after hostOps0 (fun b => m (c, b)) main_v1 = truncf (F := Ideal) .bf16 (m ((c : Thread nD τ).loc main_arg1)) bitsLt_bf16_f32
  after_results

theorem read0 (t : Fin cfg0.N) (k : Fin 4096) (a : Fin 512) :
    iblk m c 0 t (ix2 a k) = V m c main_v0 (ix2 ⟨t.val / 4 * 512 + a.val, row_lt t a⟩ k) := by
  blk_ext [iblk, (index_facts t).1]

theorem read1 (t : Fin cfg0.N) (k : Fin 4096) (b : Fin 1024) :
    iblk m c 1 t (ix2 b k) = V m c main_v1 (ix2 ⟨t.val % 4 * 1024 + b.val, col_lt t b⟩ k) := by
  blk_ext [iblk, (index_facts t).2.1]

theorem emb (t : Fin cfg0.N) (a : Fin 512) (b : Fin 1024) :
    ((win0_2.blk t).view.emb (ix2 a b) : S4096x4096.Idx) = ix2 ⟨t.val / 4 * 512 + a.val, row_lt t a⟩ ⟨t.val % 4 * 1024 + b.val, col_lt t b⟩ := by
  blk_ext [(index_facts t).2.2]

theorem final : (dats m 0 c).arrAt 2 cfg0.N = G (V m c main_v0) (V m c main_v1) := by
  refine (dats m 0 c).arrAt_eq_of_covers 2 _ (by decide +kernel) fun t hf y => ?_
  blk_simp
  rw [after0_2]
  have hy : ∃ (a : Fin 512) (b : Fin 1024), (y : S512x1024.Idx) = ix2 a b := ⟨y 0, y 1, eq_ix2 (show S512x1024.Idx from y)⟩
  obtain ⟨a, b, rfl⟩ := hy
  rw [emb t a b, G_ix, out_eq]
  refine (pay _ _ a b).trans (Finset.sum_congr rfl fun k _ => ?_)
  rw [← read0, ← read1]

/-- The reference's result at an index. -/
theorem ref_eq (g w : FVec Ideal S4096x4096 .f32) :
    (truncf (F := Ideal) .bf16 (Host.dotGeneral (F := Ideal) (φ₁ := .f32) (φ₂ := .f32) Cert.Reference3Ideal.dot_S4096x4096_S4096x4096_S4096x4096_1_1_0_0_n_n none g w)
      bitsLt_bf16_f32 : FVec Ideal S4096x4096 .bf16) = G g w := by
  funext j
  obtain ⟨a, b, rfl⟩ : ∃ (a b : Fin 4096), j = ix2 a b := ⟨j 0, j 1, eq_ix2 j⟩
  rw [G_ix]
  pointwise

/-- The kernel's result is the reference's. -/
theorem algebraic : Cert.algebraic_Kernel3Ideal_Reference3Ideal (hKernel3Ideal := Cert.Kernel3Ideal.Gen.facts)
    (hReference3Ideal := Cert.Reference3Ideal.Gen.facts) := by
  intro m g m' g' _ hargs
  have hs : ∀ c : Dev Cert.Kernel3Ideal.nD, (dats m 0 c).arrAt 2 cfg0.N
      = G (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg1)) := fun c =>
    (final m c).trans (congrArg₂ G ((V_left m c).trans (hargs c).2.2.symm) ((V_right m c).trans (hargs c).2.1.symm))
  refine ⟨fun c => (dats m 0 c).arrAt 2 cfg0.N, Cert.Kernel3Ideal.Value.run_blocks (F := Ideal) m g, ?_⟩
  exact (θ_run Cert.Reference3Ideal.defs _ _).mono (fun r h c => ⟨(h c).1.trans ((ref_eq _ _).trans (hs c).symm), (h c).2⟩)
    (Cert.Reference3Ideal.Value.run (F := Ideal) m' g')

end Cert.Dgrad

end
-- ==== Proof.Out.OutProj.lean ====
/- The output projection: each grid point writes one block of the product, so the whole array is the product
   the reference computes. -/
module
public import proofs.«01_k».proof.Proof.Gen.Kernel4Ideal.Value
public import proofs.«01_k».proof.Proof.Gen.Reference4Ideal.Run
public import proofs.«01_k».proof.Defs
public import Idealize.ShloMosaic.Lib.Pointwise
public import Idealize.ShloMosaic.Lib.Pipeline.ValueKit
public import Idealize.ShloMosaic.Lib.Pipeline.ValueKit.Acc
@[expose] public section
set_option maxRecDepth 16384
noncomputable section
namespace Cert.OutProj
open Cert.Kernel4Ideal Cert.Kernel4Ideal.Gen Cert.Kernel4Ideal.Facts
open Idealize.ShloMosaic Idealize.ShloMosaic.TcCoe Idealize.SL.Sem

/-- Each window's block at grid point `t`: tile `t / 4` of the result's rows, tile `t % 4` of its columns. -/
theorem index_facts : ∀ t : Fin grid0.N,
    win0_0.index t = ![t.val / 4, 0] ∧ win0_1.index t = ![0, t.val % 4] ∧ win0_2.index t = ![t.val / 4, t.val % 4] := by decide +kernel

theorem row_lt (t : Fin cfg0.N) (a : Fin 512) : t.val / 4 * 512 + a.val < 4096 := by
  have h : t.val < 32 := t.isLt
  omega

theorem col_lt (t : Fin cfg0.N) (b : Fin 1024) : t.val % 4 * 1024 + b.val < 4096 := by omega

/-- The product. -/
def G (a b : Vec Ideal S4096x4096 .f32) : FVec Ideal S4096x4096 .f32 := fun i =>
  ∑ k : Fin 4096, a (ix2 (show Fin 4096 from i 0) k) * b (ix2 k (show Fin 4096 from i 1))

theorem G_ix (a b) (i j : Fin 4096) : G a b (ix2 i j) = ∑ k : Fin 4096, a (ix2 i k) * b (ix2 k j) := rfl

/-- What a point computes from its two blocks. -/
theorem pay (x0 : Vec Ideal S512x4096 .bf16) (x1 : Vec Ideal S4096x1024 .bf16) (a : Fin 512) (b : Fin 1024) :
    k0_pay1 x0 x1 (ix2 a b) = ∑ k : Fin 4096, x0 (ix2 a k) * x1 (ix2 k b) := by
  unfold_payloads
  pointwise

theorem out_eq (x0 : Vec Ideal S512x4096 .bf16) (x1 : Vec Ideal S4096x1024 .bf16) : out0_2 x0 x1 = k0_pay1 x0 x1 := by
  unfold out0_2
  refine (View.canon_cons_unit_lit' (S := S512x1024) _ _ _ (by intro a; fin_cases a <;> rfl)).trans ?_
  exact congrArg₂ k0_pay1 (View.ld_unit_lit' (S := S512x4096) _ _ (by intro a; fin_cases a <;> rfl))
    (View.ld_unit_lit' (S := S4096x1024) _ _ (by intro a; fin_cases a <;> rfl))

variable (m : (ℓ : Loc nD τ sig) → Buf (Elt Ideal) ℓ) (c : Dev nD)

theorem V_left : V m c main_v0 = (m ((c : Thread nD τ).loc main_arg0) : Vec Ideal S4096x4096 .f32) := by
  show StableHlo.after hostOps0 (fun b => m (c, b)) main_v0 = truncf (F := Ideal) .bf16 (m ((c : Thread nD τ).loc main_arg0)) bitsLt_bf16_f32
  after_results

theorem V_right : V m c main_v1 = (m ((c : Thread nD τ).loc main_arg1) : Vec Ideal S4096x4096 .f32) := by
  show StableHlo.after hostOps0 (fun b => m (c, b)) main_v1 = truncf (F := Ideal) .bf16 (m ((c : Thread nD τ).loc main_arg1)) bitsLt_bf16_f32
  after_results

theorem read0 (t : Fin cfg0.N) (k : Fin 4096) (a : Fin 512) :
    iblk m c 0 t (ix2 a k) = V m c main_v0 (ix2 ⟨t.val / 4 * 512 + a.val, row_lt t a⟩ k) := by
  blk_ext [iblk, (index_facts t).1]

theorem read1 (t : Fin cfg0.N) (k : Fin 4096) (b : Fin 1024) :
    iblk m c 1 t (ix2 k b) = V m c main_v1 (ix2 k ⟨t.val % 4 * 1024 + b.val, col_lt t b⟩) := by
  blk_ext [iblk, (index_facts t).2.1]

theorem emb (t : Fin cfg0.N) (a : Fin 512) (b : Fin 1024) :
    ((win0_2.blk t).view.emb (ix2 a b) : S4096x4096.Idx) = ix2 ⟨t.val / 4 * 512 + a.val, row_lt t a⟩ ⟨t.val % 4 * 1024 + b.val, col_lt t b⟩ := by
  blk_ext [(index_facts t).2.2]

theorem final : (dats m 0 c).arrAt 2 cfg0.N = G (V m c main_v0) (V m c main_v1) := by
  refine (dats m 0 c).arrAt_eq_of_covers 2 _ (by decide +kernel) fun t hf y => ?_
  blk_simp
  rw [after0_2]
  have hy : ∃ (a : Fin 512) (b : Fin 1024), (y : S512x1024.Idx) = ix2 a b := ⟨y 0, y 1, eq_ix2 (show S512x1024.Idx from y)⟩
  obtain ⟨a, b, rfl⟩ := hy
  rw [emb t a b, G_ix, out_eq]
  refine (pay _ _ a b).trans (Finset.sum_congr rfl fun k _ => ?_)
  rw [← read0, ← read1]

/-- The reference's result at an index. -/
theorem ref_eq (g w : FVec Ideal S4096x4096 .f32) :
    ((Host.dotGeneral (F := Ideal) (φ₁ := .f32) (φ₂ := .f32) Cert.Reference4Ideal.dot_S4096x4096_S4096x4096_S4096x4096_1_0_0_1_n_n none g w) : FVec Ideal S4096x4096 .f32) = G g w := by
  funext j
  obtain ⟨a, b, rfl⟩ : ∃ (a b : Fin 4096), j = ix2 a b := ⟨j 0, j 1, eq_ix2 j⟩
  rw [G_ix]
  pointwise

/-- The kernel's result is the reference's. -/
theorem algebraic : Cert.algebraic_Kernel4Ideal_Reference4Ideal (hKernel4Ideal := Cert.Kernel4Ideal.Gen.facts)
    (hReference4Ideal := Cert.Reference4Ideal.Gen.facts) := by
  intro m g m' g' _ hargs
  have hs : ∀ c : Dev Cert.Kernel4Ideal.nD, (dats m 0 c).arrAt 2 cfg0.N
      = G (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1)) := fun c =>
    (final m c).trans (congrArg₂ G ((V_left m c).trans (hargs c).1.symm) ((V_right m c).trans (hargs c).2.symm))
  refine ⟨fun c => (dats m 0 c).arrAt 2 cfg0.N, Cert.Kernel4Ideal.Value.run_blocks (F := Ideal) m g, ?_⟩
  exact (θ_run Cert.Reference4Ideal.defs _ _).mono (fun r h c => ⟨(h c).1.trans ((ref_eq _ _).trans (hs c).symm), (h c).2⟩)
    (Cert.Reference4Ideal.Value.run (F := Ideal) m' g')

end Cert.OutProj

end
-- ==== Proof.In.Half.lean ====
/- The input projection's weight gradient takes the number of the half it computes, 0 or 1, by the precondition;
   for these its blocks lie inside the array it reads them from. -/
module
public import proofs.«01_k».proof.Proof.Gen.Kernel5.Frame
public import proofs.«01_k».proof.Proof.Gen.Kernel5Ideal.Frame
public import proofs.«01_k».proof.Defs
public import Idealize.ShloMosaic.Lib.Pointwise
@[expose] public section
set_option maxRecDepth 16384
noncomputable section
namespace Cert.In
open Idealize.ShloMosaic Idealize.ShloMosaic.TcCoe Idealize.SL.Sem

/-- The relations that the precondition's operations take: none. -/
theorem half_facts : Cert.Pre_a_half.Facts where

attribute [local instance] half_facts

/-- A word at least 0 and below 2 is 0 or 1. -/
theorem word_cases (w : BitVec 32) (h0 : IntOp.cmpi .sge w 0#32 = 1#1) (h2 : IntOp.cmpi .slt w 2#32 = 1#1) : w = 0#32 ∨ w = 1#32 := by
  have e (p : Bool) : (BitVec.ofBool p = 1#1) ↔ p = true := by cases p <;> decide
  simp only [IntOp.cmpi, e, BitVec.sle, BitVec.slt, decide_eq_true_eq] at h0 h2
  have a : (0#32).toInt = 0 := by decide
  have b : (2#32).toInt = 2 := by decide
  rw [a] at h0
  rw [b] at h2
  have : w.toInt = 0 ∨ w.toInt = 1 := by omega
  rcases this with h | h
  · exact .inl (BitVec.eq_of_toInt_eq (h.trans (by decide)))
  · exact .inr (BitVec.eq_of_toInt_eq (h.trans (by decide)))

end Cert.In

namespace Cert.Kernel5.Half
open Cert.Kernel5 Cert.Kernel5.Gen
open Idealize.ShloMosaic Idealize.ShloMosaic.TcCoe Idealize.SL.Sem
attribute [local instance] Cert.In.half_facts
variable {F : FTy → Type} [FloatOps F] (m : (ℓ : Loc nD τ sig) → Buf (Elt F) ℓ)

/-- The half's number, as the launch memory holds it. -/
abbrev word : BitVec 32 := (m (((0 : Dev nD) : Thread nD τ).loc main_arg5) : IVec S_ 32) Idealize.ShloMosaic.ix0

/-- The table holds the half's number. -/
theorem table (i : S1.Idx) : (tbl m 0 : IVec S1 32) i = word m := by
  show (StableHlo.after (List.flatten [hostOps0, hostOps0_1, hostOps0_2]) (fun b => m (0, b)) main_v5 : IVec S1 32) i = _
  have h : (StableHlo.after (List.flatten [hostOps0, hostOps0_1, hostOps0_2]) (fun b => m (0, b)) main_v5 : IVec S1 32)
      = shapeCast S1 (m (((0 : Dev nD) : Thread nD τ).loc main_arg5) : IVec S_ 32) Gen.shapeCasts_S_S1 := by
    simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
    after_results
    rfl
  rw [h]
  pointwise

/-- The first window's block at a point, of the half `w`. -/
theorem transform_eq (i : grid0.Coords) :
    cc0_transform_0 Gen.inb_S1_S1_0 Gen.numel1_S1 (tbl m) i
      = ![0, (Scalar.addi (Scalar.muli (word m) 4#32) (BitVec.ofNat 32 (i 0).val)).toNat] := by
  have h : (tbl m).at 0 (Rect.unit (s := S1) ![0] S1.size Gen.inb_S1_S1_0) Gen.numel1_S1 = word m := table m _
  unfold cc0_transform_0
  dsimp only
  rw [h]
  rfl

theorem first_half : ∀ i : grid0.Coords, ![0, (Scalar.addi (Scalar.muli 0#32 4#32) (BitVec.ofNat 32 (i 0).val)).toNat] = ![0, (i 0).val] := by decide +kernel
theorem second_half : ∀ i : grid0.Coords, ![0, (Scalar.addi (Scalar.muli 1#32 4#32) (BitVec.ofNat 32 (i 0).val)).toNat] = ![0, 4 + (i 0).val] := by decide +kernel

/-- A block of the first four or of the next four lies inside the array. -/
theorem inside (f : grid0.Coords → Fin 2 → Nat) (n : Nat) (hn : n ≤ 4) (hf : ∀ i, f i = ![0, n + (i 0).val]) (i : grid0.Coords) :
    ∃ h : (∀ a, (f i a + 1) * S4352x512.size a ≤ S4352x4096.size a),
      EltTy.bits .bf16 = 32 ∨ (Rect.block (s := S4352x4096) S4352x512.size (f i) h).WholeWords (EltTy.packing .bf16) := by
  have hi : (i 0).val < 4 := (i 0).isLt
  refine ⟨fun a => ?_, .inr (Affine.block_words_dvd (of_decide_eq_true rfl) (by decide))⟩
  rw [hf]
  fin_cases a
  · show (0 + 1) * 4352 ≤ 4352
    omega
  · show (n + (i 0).val + 1) * 512 ≤ 4096
    omega

theorem ok (h : word m = 0#32 ∨ word m = 1#32) : Ok m := by
  rcases h with h | h
  · exact inside _ 0 (by decide) fun i => (transform_eq m i).trans (by rw [h, first_half i, Nat.zero_add])
  · exact inside _ 4 (by decide) fun i => (transform_eq m i).trans (by rw [h, second_half i])

end Cert.Kernel5.Half

namespace Cert.Kernel5.Half
open Cert.Kernel5 Cert.Kernel5.Gen
open Idealize.ShloMosaic Idealize.ShloMosaic.TcCoe Idealize.SL.Sem
attribute [local instance] Cert.In.half_facts

/-- The precondition gives the two halves. -/
theorem word_of_pre (m : (ℓ : Loc nD τ sig) → Buf (Elt Bits) ℓ) (h : Cert.Pre_Kernel5 m) : word m = 0#32 ∨ word m = 1#32 :=
  Cert.In.word_cases _ (congrFun (h 0).1 Idealize.ShloMosaic.ix0) (congrFun (h 0).2 Idealize.ShloMosaic.ix0)

end Cert.Kernel5.Half

namespace Cert.Kernel5Ideal.Half
open Cert.Kernel5Ideal Cert.Kernel5Ideal.Gen
open Idealize.ShloMosaic Idealize.ShloMosaic.TcCoe Idealize.SL.Sem
attribute [local instance] Cert.In.half_facts
variable {F : FTy → Type} [FloatOps F] (m : (ℓ : Loc nD τ sig) → Buf (Elt F) ℓ)

/-- The half's number, as the launch memory holds it. -/
abbrev word : BitVec 32 := (m (((0 : Dev nD) : Thread nD τ).loc main_arg5) : IVec S_ 32) Idealize.ShloMosaic.ix0

/-- The table holds the half's number. -/
theorem table (i : S1.Idx) : (tbl m 0 : IVec S1 32) i = word m := by
  show (StableHlo.after (List.flatten [hostOps0, hostOps0_1, hostOps0_2]) (fun b => m (0, b)) main_v5 : IVec S1 32) i = _
  have h : (StableHlo.after (List.flatten [hostOps0, hostOps0_1, hostOps0_2]) (fun b => m (0, b)) main_v5 : IVec S1 32)
      = shapeCast S1 (m (((0 : Dev nD) : Thread nD τ).loc main_arg5) : IVec S_ 32) Gen.shapeCasts_S_S1 := by
    simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
    after_results
    rfl
  rw [h]
  pointwise

/-- The first window's block at a point, of the half `w`. -/
theorem transform_eq (i : grid0.Coords) :
    cc0_transform_0 Gen.inb_S1_S1_0 Gen.numel1_S1 (tbl m) i
      = ![0, (Scalar.addi (Scalar.muli (word m) 4#32) (BitVec.ofNat 32 (i 0).val)).toNat] := by
  have h : (tbl m).at 0 (Rect.unit (s := S1) ![0] S1.size Gen.inb_S1_S1_0) Gen.numel1_S1 = word m := table m _
  unfold cc0_transform_0
  dsimp only
  rw [h]
  rfl

theorem first_half : ∀ i : grid0.Coords, ![0, (Scalar.addi (Scalar.muli 0#32 4#32) (BitVec.ofNat 32 (i 0).val)).toNat] = ![0, (i 0).val] := by decide +kernel
theorem second_half : ∀ i : grid0.Coords, ![0, (Scalar.addi (Scalar.muli 1#32 4#32) (BitVec.ofNat 32 (i 0).val)).toNat] = ![0, 4 + (i 0).val] := by decide +kernel

/-- A block of the first four or of the next four lies inside the array. -/
theorem inside (f : grid0.Coords → Fin 2 → Nat) (n : Nat) (hn : n ≤ 4) (hf : ∀ i, f i = ![0, n + (i 0).val]) (i : grid0.Coords) :
    ∃ h : (∀ a, (f i a + 1) * S4352x512.size a ≤ S4352x4096.size a),
      EltTy.bits .bf16 = 32 ∨ (Rect.block (s := S4352x4096) S4352x512.size (f i) h).WholeWords (EltTy.packing .bf16) := by
  have hi : (i 0).val < 4 := (i 0).isLt
  refine ⟨fun a => ?_, .inr (Affine.block_words_dvd (of_decide_eq_true rfl) (by decide))⟩
  rw [hf]
  fin_cases a
  · show (0 + 1) * 4352 ≤ 4352
    omega
  · show (n + (i 0).val + 1) * 512 ≤ 4096
    omega

theorem ok (h : word m = 0#32 ∨ word m = 1#32) : Ok m := by
  rcases h with h | h
  · exact inside _ 0 (by decide) fun i => (transform_eq m i).trans (by rw [h, first_half i, Nat.zero_add])
  · exact inside _ 4 (by decide) fun i => (transform_eq m i).trans (by rw [h, second_half i])

end Cert.Kernel5Ideal.Half

namespace Cert.Kernel5Ideal.Half
open Cert.Kernel5Ideal Cert.Kernel5Ideal.Gen
open Idealize.ShloMosaic Idealize.ShloMosaic.TcCoe Idealize.SL.Sem
attribute [local instance] Cert.In.half_facts

/-- The precondition gives the two halves. -/
theorem word_of_pre (m : (ℓ : Loc nD τ sig) → Buf (Elt Ideal) ℓ) (h : Cert.Pre_Kernel5Ideal m) : word m = 0#32 ∨ word m = 1#32 :=
  Cert.In.word_cases _ (congrFun (h 0).1 Idealize.ShloMosaic.ix0) (congrFun (h 0).2 Idealize.ShloMosaic.ix0)

end Cert.Kernel5Ideal.Half

end
-- ==== Proof.In.Wgrad.lean ====
/- The input projection's weight gradient: each grid point writes one block of the product of the half's columns
   with the cotangent's, contracted over the context's and the sequence's rows together. -/
module
public import proofs.«01_k».proof.Proof.In.Half
public import proofs.«01_k».proof.Proof.Gen.Reference5Ideal.Run
public import proofs.«01_k».proof.Defs
public import Idealize.ShloMosaic.Lib.Pointwise
public import Idealize.ShloMosaic.Lib.Pipeline.ValueKit
public import Idealize.ShloMosaic.Lib.Pipeline.ValueKit.Acc
@[expose] public section
set_option maxRecDepth 16384
noncomputable section
namespace Cert.WgradIn
open Cert.Kernel5Ideal Cert.Kernel5Ideal.Gen Cert.Kernel5Ideal.Half
open Idealize.ShloMosaic Idealize.ShloMosaic.TcCoe Idealize.SL.Sem
attribute [local instance] Cert.In.half_facts

theorem coords_eq : ∀ t : Fin grid0.N, (grid0.coords t 0).val = t.val / 9 ∧ (grid0.coords t 1).val = t.val % 9 := by decide +kernel

theorem index1 : ∀ t : Fin grid0.N, cc0_transform_1 (grid0.coords t) = ![0, t.val % 9] := by decide +kernel
theorem index2 : ∀ t : Fin grid0.N, cc0_transform_2 (grid0.coords t) = ![t.val / 9, t.val % 9] := by decide +kernel

theorem tile_lt (t : Fin grid0.N) : t.val / 9 < 4 := by
  have h : t.val < 36 := t.isLt
  omega

theorem row_lt (t : Fin grid0.N) (a : Fin 512) : t.val / 9 * 512 + a.val < 2048 := by
  have h := tile_lt t
  omega

theorem col_lt (t : Fin grid0.N) (b : Fin 1024) : t.val % 9 * 1024 + b.val < 9216 := by omega

theorem half_lt {w : BitVec 32} (h : w = 0#32 ∨ w = 1#32) (i : Fin 2048) : w.toNat * 2048 + i.val < 4096 := by
  have hw : w.toNat < 2 := by rcases h with rfl | rfl <;> decide
  omega

/-- The column of the left array that the result's row `i` is of, in the half `w`. -/
def colOf {w : BitVec 32} (h : w = 0#32 ∨ w = 1#32) (i : Fin 2048) : Fin 4096 := ⟨w.toNat * 2048 + i.val, half_lt h i⟩

/-- The product, contracted over both arrays' rows, of the half's columns. -/
def G {w : BitVec 32} (h : w = 0#32 ∨ w = 1#32) (a : FVec Ideal S4352x4096 .bf16) (b : FVec Ideal S4352x9216 .bf16) : FVec Ideal S2048x9216 .bf16 := fun i =>
  ∑ k : Fin 4352, a (ix2 k (colOf h (show Fin 2048 from i 0))) * b (ix2 k (show Fin 9216 from i 1))

theorem G_ix {w : BitVec 32} (h : w = 0#32 ∨ w = 1#32) (a b) (i : Fin 2048) (j : Fin 9216) :
    G h a b (ix2 i j) = ∑ k : Fin 4352, a (ix2 k (colOf h i)) * b (ix2 k j) := rfl

/-- What a point computes from its two blocks. -/
theorem pay (x0 : Vec Ideal S4352x512 .bf16) (x1 : Vec Ideal S4352x1024 .bf16) (a : Fin 512) (b : Fin 1024) :
    k0_pay1 x0 x1 (ix2 a b) = ∑ k : Fin 4352, x0 (ix2 k a) * x1 (ix2 k b) := by
  unfold_payloads
  pointwise

theorem out_eq (c : Dev nD) (i : grid0.Coords) (arg3 : Memref sig .tc .vmem S4352x512 .bf16) (harg3 : arg3.IsWhole)
    (arg4 : Memref sig .tc .vmem S4352x1024 .bf16) (harg4 : arg4.IsWhole) (arg5 : Memref sig .tc .vmem S512x1024 .bf16) (harg5 : arg5.IsWhole)
    (x0 : Vec Ideal S4352x512 .bf16) (x1 : Vec Ideal S4352x1024 .bf16) (xt : TbBuf0 (F := Ideal) c tbM0_0) :
    out0_A_2 c i arg3 harg3 arg4 harg4 arg5 harg5 x0 x1 xt = k0_pay1 x0 x1 := by
  unfold out0_A_2
  rw [View.read_writes_eq_canon _ _ _ (cover0_A_2 c i arg3 harg3 arg4 harg4 arg5 harg5 x0 x1 xt)]
  unfold kernelRun0_A
  dsimp only
  simp only [View.readAt_eq_ld, harg3.read_unread, harg4.read_unread]
  refine (View.canon_cons_unit_lit' (S := S512x1024) _ _ _ (by intro a; fin_cases a <;> rfl)).trans ?_
  exact congrArg₂ k0_pay1 (View.ld_unit_lit' (S := S4352x512) _ _ (by intro a; fin_cases a <;> rfl))
    (View.ld_unit_lit' (S := S4352x1024) _ _ (by intro a; fin_cases a <;> rfl))

variable (m : (ℓ : Loc nD τ sig) → Buf (Elt Ideal) ℓ) (c : Dev nD)

theorem index0 (h : word m = 0#32 ∨ word m = 1#32) (t : Fin grid0.N) :
    cc0_transform_0 Gen.inb_S1_S1_0 Gen.numel1_S1 (tbl m) (grid0.coords t) = ![0, (word m).toNat * 4 + t.val / 9] := by
  refine (transform_eq m _).trans ?_
  rcases h with h | h <;> rw [h]
  · rw [first_half, (coords_eq t).1]; simp
  · rw [second_half, (coords_eq t).1]; simp

theorem read0 (h : word m = 0#32 ∨ word m = 1#32) (hO : Ok m) (t : Fin grid0.N) (k : Fin 4352) (a : Fin 512) :
    iblk m hO c 0 t (ix2 k a) = V m c main_v4 (ix2 k (colOf h ⟨t.val / 9 * 512 + a.val, row_lt t a⟩)) := by
  blk_ext [iblk]
  · exact (congrArg (· * 4352 + k.val) (congrFun (index0 m h t) 0)).trans (by simp)
  · refine (congrArg (· * 512 + a.val) (congrFun (index0 m h t) 1)).trans ?_
    show ((word m).toNat * 4 + t.val / 9) * 512 + a.val = (word m).toNat * 2048 + (t.val / 9 * 512 + a.val)
    omega

theorem read1 (hO : Ok m) (t : Fin grid0.N) (k : Fin 4352) (b : Fin 1024) :
    iblk m hO c 1 t (ix2 k b) = V m c main_v2 (ix2 k ⟨t.val % 9 * 1024 + b.val, col_lt t b⟩) := by
  blk_ext [iblk]
  · exact (congrArg (· * 4352 + k.val) (congrFun (index1 t) 0)).trans (by simp)
  · exact congrArg (· * 1024 + b.val) (congrFun (index1 t) 1)

theorem emb (hO : Ok m) (t : Fin grid0.N) (a : Fin 512) (b : Fin 1024) :
    ((((cfgM m hO).win 2).blk t).view.emb (ix2 a b) : S2048x9216.Idx) = ix2 ⟨t.val / 9 * 512 + a.val, row_lt t a⟩ ⟨t.val % 9 * 1024 + b.val, col_lt t b⟩ := by
  blk_ext
  · exact congrArg (· * 512 + a.val) (congrFun (index2 t) 0)
  · exact congrArg (· * 1024 + b.val) (congrFun (index2 t) 1)

/-- The kernel's result. -/
theorem final (h : word m = 0#32 ∨ word m = 1#32) (hO : Ok m) :
    (dats m hO 0 c).arrAt 2 (cfgM m hO).N = G h (V m c main_v4) (V m c main_v2) := by
  refine (dats m hO 0 c).arrAt_eq_of_covers 2 _ (of_decide_eq_true (by sl_kernel_rfl)) fun t hf y => ?_
  blk_simp
  rw [after0_2]
  have hy : ∃ (a : Fin 512) (b : Fin 1024), (y : S512x1024.Idx) = ix2 a b := ⟨(show S512x1024.Idx from y) 0, (show S512x1024.Idx from y) 1, eq_ix2 (show S512x1024.Idx from y)⟩
  obtain ⟨a, b, rfl⟩ := hy
  rw [emb m hO t a b, G_ix]
  unfold outsAt0
  refine (congrFun (out_eq c (grid0.coords t) (ms0_0 m hO t) (hs0_0 m hO t) (ms0_1 m hO t) (hs0_1 m hO t) (ms0_2 m hO t) (hs0_2 m hO t)
    (iblk m hO c 0 t) (iblk m hO c 1 t) (tbl m 0)) (ix2 a b)).trans ?_
  refine (pay _ _ a b).trans (Finset.sum_congr rfl fun k _ => ?_)
  rw [← read0 m c h hO, ← read1 m c hO]

theorem V_left : (V m c main_v4 : FVec Ideal S4352x4096 .bf16)
    = truncf (F := Ideal) .bf16 (concatenate S4352x4096 0 [⟨S256x4096, (m ((c : Thread nD τ).loc main_arg1) : FVec Ideal S256x4096 .f32)⟩,
      ⟨S4096x4096, (m ((c : Thread nD τ).loc main_arg0) : FVec Ideal S4096x4096 .f32)⟩] Gen.concatenates_S256x4096_S4096x4096_S4352x4096_d0) Gen.bitsLt_bf16_f32 := by
  show (StableHlo.after (List.flatten [hostOps0, hostOps0_1, hostOps0_2]) (fun b => m (c, b)) main_v4 : FVec Ideal S4352x4096 .bf16) = _
  simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
  after_results

theorem V_right : (V m c main_v2 : FVec Ideal S4352x9216 .bf16)
    = truncf (F := Ideal) .bf16 (concatenate S4352x9216 0 [⟨S256x9216, pad S256x9216 ![0, 2048] ![0, 6144] ![0, 0]
        (m ((c : Thread nD τ).loc main_arg4) : FVec Ideal S256x1024 .f32) (sitofp (F := Ideal) .f32 (constantI S_ 32 0#32)) Gen.pads_S256x1024_S256x9216_000_204861440 Gen.h_S_⟩,
      ⟨S4096x9216, (m ((c : Thread nD τ).loc main_arg3) : FVec Ideal S4096x9216 .f32)⟩] Gen.concatenates_S256x9216_S4096x9216_S4352x9216_d0) Gen.bitsLt_bf16_f32 := by
  show (StableHlo.after (List.flatten [hostOps0, hostOps0_1, hostOps0_2]) (fun b => m (c, b)) main_v2 : FVec Ideal S4352x9216 .bf16) = _
  simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
  after_results

/-- The left array's rows: the context's, then the sequence's. -/
theorem left_top (x : FVec Ideal S256x4096 .f32) (y : FVec Ideal S4096x4096 .f32) (t) (k : Fin 256) (j : Fin 4096) :
    (truncf (F := Ideal) .bf16 (concatenate S4352x4096 0 [⟨S256x4096, x⟩, ⟨S4096x4096, y⟩] t) Gen.bitsLt_bf16_f32 : FVec Ideal S4352x4096 .bf16)
      (ix2 (show Fin 4352 from Fin.castAdd 4096 k) j) = x (ix2 k j) := by
  pointwise
  exact dif_pos k.isLt

theorem left_bottom (x : FVec Ideal S256x4096 .f32) (y : FVec Ideal S4096x4096 .f32) (t) (k : Fin 4096) (j : Fin 4096) :
    (truncf (F := Ideal) .bf16 (concatenate S4352x4096 0 [⟨S256x4096, x⟩, ⟨S4096x4096, y⟩] t) Gen.bitsLt_bf16_f32 : FVec Ideal S4352x4096 .bf16)
      (ix2 (show Fin 4352 from Fin.natAdd 256 k) j) = y (ix2 k j) := by
  pointwise
  refine (dif_neg (Nat.not_lt.2 (Nat.le_add_right 256 k.val))).trans ?_
  exact congrArg (fun k => y (ix2 k j)) (Fin.ext (Nat.add_sub_cancel_left 256 k.val))

/-- A row of context cotangents, written into its columns of a row of zeros. -/
def wide (x : FVec Ideal S256x1024 .f32) (k : Fin 256) (j : Fin 9216) : EReal :=
  if h : 2048 ≤ j.val ∧ j.val < 3072 then x (ix2 k ⟨j.val - 2048, by omega⟩) else 0

/-- The right array's rows: the context's cotangents in their columns, then the sequence's. -/
theorem right_top (x : FVec Ideal S256x1024 .f32) (y : FVec Ideal S4096x9216 .f32) (k : Fin 256) (j : Fin 9216) :
    (truncf (F := Ideal) .bf16 (concatenate S4352x9216 0 [⟨S256x9216, pad S256x9216 ![0, 2048] ![0, 6144] ![0, 0] x
        (sitofp (F := Ideal) .f32 (constantI S_ 32 0#32)) Gen.pads_S256x1024_S256x9216_000_204861440 Gen.h_S_⟩, ⟨S4096x9216, y⟩]
        Gen.concatenates_S256x9216_S4096x9216_S4352x9216_d0) Gen.bitsLt_bf16_f32 : FVec Ideal S4352x9216 .bf16)
      (ix2 (show Fin 4352 from Fin.castAdd 4096 k) j) = wide x k j := by
  pointwise
  refine (dif_pos k.isLt).trans ?_
  unfold wide
  pointwise
  by_cases hj : 2048 ≤ j.val ∧ j.val < 3072
  · rw [dif_pos hj]
    exact dif_pos ⟨k.isLt, hj.1, by omega⟩
  · rw [dif_neg hj]
    refine (dif_neg fun hh => hj ⟨hh.2.1, ?_⟩).trans ?_
    · have := hh.2.2
      omega
    · show (((0#32 : BitVec 32).toInt : ℝ) : EReal) = 0
      simp

theorem right_bottom (x : FVec Ideal S256x9216 .f32) (y : FVec Ideal S4096x9216 .f32) (t) (k : Fin 4096) (j : Fin 9216) :
    (truncf (F := Ideal) .bf16 (concatenate S4352x9216 0 [⟨S256x9216, x⟩, ⟨S4096x9216, y⟩] t) Gen.bitsLt_bf16_f32 : FVec Ideal S4352x9216 .bf16)
      (ix2 (show Fin 4352 from Fin.natAdd 256 k) j) = y (ix2 k j) := by
  pointwise
  refine (dif_neg (Nat.not_lt.2 (Nat.le_add_right 256 k.val))).trans ?_
  exact congrArg (fun k => y (ix2 k j)) (Fin.ext (Nat.add_sub_cancel_left 256 k.val))

/-- The product at an index, the context's rows and the sequence's apart. -/
def gradIn (x0 : FVec Ideal S4096x4096 .f32) (x1 : FVec Ideal S256x4096 .f32) (x3 : FVec Ideal S4096x9216 .f32) (x4 : FVec Ideal S256x1024 .f32)
    (i : Fin 4096) (j : Fin 9216) : EReal :=
  (∑ k : Fin 256, x1 (ix2 k i) * wide x4 k j) + ∑ k : Fin 4096, x0 (ix2 k i) * x3 (ix2 k j)

theorem G_eq {w : BitVec 32} (h : w = 0#32 ∨ w = 1#32) (a : FVec Ideal S4352x4096 .bf16) (b : FVec Ideal S4352x9216 .bf16) (x0 x1 x3 x4)
    (a1 : ∀ (k : Fin 256) (j : Fin 4096), a (ix2 (show Fin 4352 from Fin.castAdd 4096 k) j) = x1 (ix2 k j))
    (a0 : ∀ (k : Fin 4096) (j : Fin 4096), a (ix2 (show Fin 4352 from Fin.natAdd 256 k) j) = x0 (ix2 k j))
    (b1 : ∀ (k : Fin 256) (j : Fin 9216), b (ix2 (show Fin 4352 from Fin.castAdd 4096 k) j) = wide x4 k j)
    (b0 : ∀ (k : Fin 4096) (j : Fin 9216), b (ix2 (show Fin 4352 from Fin.natAdd 256 k) j) = x3 (ix2 k j)) (i : Fin 2048) (j : Fin 9216) :
    G h a b (ix2 i j) = gradIn x0 x1 x3 x4 (colOf h i) j := by
  rw [G_ix]
  refine (Fin.sum_univ_add (a := 256) (b := 4096) fun k => a (ix2 (show Fin 4352 from k) (colOf h i)) * b (ix2 (show Fin 4352 from k) j)).trans ?_
  unfold gradIn
  exact congrArg₂ (· + ·) (Finset.sum_congr rfl fun k _ => congrArg₂ (· * ·) (a1 k _) (b1 k j))
    (Finset.sum_congr rfl fun k _ => congrArg₂ (· * ·) (a0 k _) (b0 k j))

/-- The reference's gradient at an index. -/
theorem ref_ix (x0 : FVec Ideal S4096x4096 .f32) (x1 : FVec Ideal S256x4096 .f32) (x3 : FVec Ideal S4096x9216 .f32) (x4 : FVec Ideal S256x1024 .f32)
    (t u v w) (i : Fin 4096) (j : Fin 9216) :
    (truncf (F := Ideal) .bf16 (addf (pad Cert.Reference5Ideal.S4096x9216 ![0, 2048] ![0, 6144] ![0, 0]
          (transpose Cert.Reference5Ideal.S4096x1024 [1, 0]
            (Host.dotGeneral (F := Ideal) (φ₁ := .f32) (φ₂ := .f32) Cert.Reference5Ideal.dot_S256x1024_S256x4096_S1024x4096_0_0_1_1_n_n none x4 x1) t)
          (constant (F := Ideal) S_ .f32 0x00000000#32) u v)
        (transpose Cert.Reference5Ideal.S4096x9216 [1, 0]
          (Host.dotGeneral (F := Ideal) (φ₁ := .f32) (φ₂ := .f32) Cert.Reference5Ideal.dot_S4096x9216_S4096x4096_S9216x4096_0_0_1_1_n_n none x3 x0) w)) Gen.bitsLt_bf16_f32
      : FVec Ideal S4096x9216 .bf16) (ix2 i j) = gradIn x0 x1 x3 x4 i j := by
  unfold gradIn
  pointwise
  refine congrArg₂ (· + ·) ?_ (Finset.sum_congr rfl fun k _ => mul_comm _ _)
  unfold wide
  by_cases hj : 2048 ≤ j.val ∧ j.val < 3072
  · simp only [dif_pos hj]
    refine (dif_pos ⟨hj.1, by omega⟩).trans ?_
    exact Finset.sum_congr rfl fun k _ => mul_comm _ _
  · simp only [dif_neg hj, mul_zero, Finset.sum_const_zero]
    refine (dif_neg fun hh => hj ⟨hh.1, ?_⟩).trans ?_
    · have := hh.2
      omega
    · pointwise

/-- The reference's selected half at an index. -/
theorem select_ix (w : IVec S_ 32) (h : w Idealize.ShloMosaic.ix0 = 0#32 ∨ w Idealize.ShloMosaic.ix0 = 1#32) (x : FVec Ideal S4096x9216 .bf16) (t u v)
    (i : Fin 2048) (j : Fin 9216) :
    (select (broadcastInDim Cert.Reference5Ideal.S2048x9216 ![] t (cmpi .eq w (constantI S_ 32 0#32)))
        (extractStridedSlice Cert.Reference5Ideal.S2048x9216 ![0, 0] x u) (extractStridedSlice Cert.Reference5Ideal.S2048x9216 ![2048, 0] x v)
      : FVec Ideal S2048x9216 .bf16) (ix2 i j) = x (ix2 (colOf h i) j) := by
  have hv : (colOf h i).val = (w Idealize.ShloMosaic.ix0).toNat * 2048 + i.val := rfl
  generalize colOf h i = p at hv
  have z : (0#32 : BitVec 32).toNat = 0 := by decide
  have o : (1#32 : BitVec 32).toNat = 1 := by decide
  rcases h with h | h <;> rw [h] at hv
  · pointwise [h]
    rw [z] at hv
    refine congrArg (fun k => x (ix2 k j)) (Fin.ext ?_)
    show i.val = p.val
    omega
  · pointwise [h]
    rw [o] at hv
    rw [show IntOp.cmpi .eq 1#32 0#32 = 0#1 from by decide]
    refine (if_neg (by decide)).trans ?_
    refine congrArg (fun k => x (ix2 k j)) (Fin.ext ?_)
    show 2048 + i.val = p.val
    omega

/-- The kernel's result is the reference's. -/
theorem algebraic : Cert.algebraic_Kernel5Ideal_Reference5Ideal (hKernel5Ideal := Cert.Kernel5Ideal.Gen.facts)
    (hReference5Ideal := Cert.Reference5Ideal.Gen.facts) (hPre_a_half := Cert.In.half_facts) := by
  intro m g m' g' hpre hargs
  have h := word_of_pre m hpre
  have hO := ok m h
  refine ⟨fun c => (dats m hO 0 c).arrAt 2 (cfgM m hO).N, ?_, ?_⟩
  · exact (θ_run defs _ _).mono (fun r hr c => ⟨(hr.1 c).1 2, hr.2 c⟩) (θ_run_and (run_main m g hO) (unchanged m g hO))
  refine (θ_run Cert.Reference5Ideal.defs _ _).mono (fun r hr c => ⟨(hr c).1.trans ?_, (hr c).2⟩)
    (Cert.Reference5Ideal.Value.run (F := Ideal) m' g')
  obtain rfl : c = 0 := Subsingleton.elim _ _
  obtain ⟨e0, e1, e2, e3, e4, e5⟩ := hargs 0
  rw [e0, e1, e3, e4, e5]
  refine Eq.trans ?_ (final m 0 h hO).symm
  funext y
  obtain ⟨i, j, rfl⟩ : ∃ (i : Fin 2048) (j : Fin 9216), y = ix2 i j := ⟨y 0, y 1, eq_ix2 (show S2048x9216.Idx from y)⟩
  refine (select_ix _ h _ _ _ _ i j).trans ((ref_ix _ _ _ _ _ _ _ _ _ j).trans (G_eq h _ _ _ _ _ _ ?_ ?_ ?_ ?_ i j).symm)
  · intro k j; exact (congrFun (V_left m 0) _).trans (left_top _ _ _ k j)
  · intro k j; exact (congrFun (V_left m 0) _).trans (left_bottom _ _ _ k j)
  · intro k j; exact (congrFun (V_right m 0) _).trans (right_top _ _ k j)
  · intro k j; exact (congrFun (V_right m 0) _).trans (right_bottom _ _ _ k j)

end Cert.WgradIn
end
-- ==== Proof.In.Table.lean ====
/- The input gradient's call reads the order of the four column blocks from a table, which the program fills with
   0, 2, 1, 3; its blocks lie inside the array. -/
module
public import proofs.«01_k».proof.Proof.Gen.Kernel6.Frame
public import proofs.«01_k».proof.Proof.Gen.Kernel6Ideal.Frame
public import Idealize.ShloMosaic.Lib.Pointwise
@[expose] public section
set_option maxRecDepth 16384
noncomputable section

namespace Cert.Kernel6.Table
open Cert.Kernel6 Cert.Kernel6.Gen
open Idealize.ShloMosaic Idealize.ShloMosaic.TcCoe Idealize.SL.Sem
variable {F : FTy → Type} [FloatOps F] (m : (ℓ : Loc nD τ sig) → Buf (Elt F) ℓ)

/-- The table holds the blocks' order. -/
theorem table (i : S4.Idx) : (tbl m 0 : IVec S4 32) i = lit0 (S4.rowMajor i) := by
  show (StableHlo.after (List.flatten [hostOps0, hostOps0_1, hostOps0_2]) (fun b => m (0, b)) main_c : IVec S4 32) i = _
  have h : (StableHlo.after (List.flatten [hostOps0, hostOps0_1, hostOps0_2]) (fun b => m (0, b)) main_c : IVec S4 32)
      = fun i => lit0 (S4.rowMajor i) := by
    simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
    after_results
    rfl
  rw [h]

theorem tile_eq : ∀ i : grid0.Coords, (BitVec.ofNat 32 (i 0).val).toNat = (i 0).val := by decide +kernel

theorem transform0 (i : grid0.Coords) : cc0_transform_0 Gen.inb_S4_S1_0 Gen.numel1_S1 (tbl m) i = ![(i 0).val, 0] := by
  have h : (tbl m).at 0 (Rect.unit (s := S4) ![0] S1.size Gen.inb_S4_S1_0) Gen.numel1_S1 = 0#32 := (table m _).trans rfl
  unfold cc0_transform_0
  dsimp only
  rw [h, tile_eq]
  rfl

theorem transform1 (i : grid0.Coords) : cc0_transform_1 Gen.inb_S4_S1_1 Gen.numel1_S1 (tbl m) i = ![(i 0).val, 2] := by
  have h : (tbl m).at 0 (Rect.unit (s := S4) ![1] S1.size Gen.inb_S4_S1_1) Gen.numel1_S1 = 2#32 := (table m _).trans rfl
  unfold cc0_transform_1
  dsimp only
  rw [h, tile_eq]
  rfl

theorem transform2 (i : grid0.Coords) : cc0_transform_2 Gen.inb_S4_S1_2 Gen.numel1_S1 (tbl m) i = ![(i 0).val, 1] := by
  have h : (tbl m).at 0 (Rect.unit (s := S4) ![2] S1.size Gen.inb_S4_S1_2) Gen.numel1_S1 = 1#32 := (table m _).trans rfl
  unfold cc0_transform_2
  dsimp only
  rw [h, tile_eq]
  rfl

theorem transform3 (i : grid0.Coords) : cc0_transform_3 Gen.inb_S4_S1_3 Gen.numel1_S1 (tbl m) i = ![(i 0).val, 3] := by
  have h : (tbl m).at 0 (Rect.unit (s := S4) ![3] S1.size Gen.inb_S4_S1_3) Gen.numel1_S1 = 3#32 := (table m _).trans rfl
  unfold cc0_transform_3
  dsimp only
  rw [h, tile_eq]
  rfl

/-- A block of one of the four columns lies inside the array. -/
theorem inside (f : grid0.Coords → Fin 2 → Nat) (n : Nat) (hn : n < 4) (hf : ∀ i, f i = ![(i 0).val, n]) (i : grid0.Coords) :
    ∃ h : (∀ a, (f i a + 1) * S544x2304.size a ≤ S4352x9216.size a),
      EltTy.bits .bf16 = 32 ∨ (Rect.block (s := S4352x9216) S544x2304.size (f i) h).WholeWords (EltTy.packing .bf16) := by
  have hi : (i 0).val < 8 := (i 0).isLt
  refine ⟨fun a => ?_, .inr (Affine.block_words_dvd (of_decide_eq_true rfl) (by decide))⟩
  rw [hf]
  fin_cases a
  · show ((i 0).val + 1) * 544 ≤ 4352
    omega
  · show (n + 1) * 2304 ≤ 9216
    omega

theorem ok : Ok m :=
  ⟨inside _ 0 (by decide) (transform0 m), inside _ 2 (by decide) (transform1 m), inside _ 1 (by decide) (transform2 m), inside _ 3 (by decide) (transform3 m)⟩

end Cert.Kernel6.Table

namespace Cert.Kernel6Ideal.Table
open Cert.Kernel6Ideal Cert.Kernel6Ideal.Gen
open Idealize.ShloMosaic Idealize.ShloMosaic.TcCoe Idealize.SL.Sem
variable {F : FTy → Type} [FloatOps F] (m : (ℓ : Loc nD τ sig) → Buf (Elt F) ℓ)

/-- The table holds the blocks' order. -/
theorem table (i : S4.Idx) : (tbl m 0 : IVec S4 32) i = lit0 (S4.rowMajor i) := by
  show (StableHlo.after (List.flatten [hostOps0, hostOps0_1, hostOps0_2]) (fun b => m (0, b)) main_c : IVec S4 32) i = _
  have h : (StableHlo.after (List.flatten [hostOps0, hostOps0_1, hostOps0_2]) (fun b => m (0, b)) main_c : IVec S4 32)
      = fun i => lit0 (S4.rowMajor i) := by
    simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
    after_results
    rfl
  rw [h]

theorem tile_eq : ∀ i : grid0.Coords, (BitVec.ofNat 32 (i 0).val).toNat = (i 0).val := by decide +kernel

theorem transform0 (i : grid0.Coords) : cc0_transform_0 Gen.inb_S4_S1_0 Gen.numel1_S1 (tbl m) i = ![(i 0).val, 0] := by
  have h : (tbl m).at 0 (Rect.unit (s := S4) ![0] S1.size Gen.inb_S4_S1_0) Gen.numel1_S1 = 0#32 := (table m _).trans rfl
  unfold cc0_transform_0
  dsimp only
  rw [h, tile_eq]
  rfl

theorem transform1 (i : grid0.Coords) : cc0_transform_1 Gen.inb_S4_S1_1 Gen.numel1_S1 (tbl m) i = ![(i 0).val, 2] := by
  have h : (tbl m).at 0 (Rect.unit (s := S4) ![1] S1.size Gen.inb_S4_S1_1) Gen.numel1_S1 = 2#32 := (table m _).trans rfl
  unfold cc0_transform_1
  dsimp only
  rw [h, tile_eq]
  rfl

theorem transform2 (i : grid0.Coords) : cc0_transform_2 Gen.inb_S4_S1_2 Gen.numel1_S1 (tbl m) i = ![(i 0).val, 1] := by
  have h : (tbl m).at 0 (Rect.unit (s := S4) ![2] S1.size Gen.inb_S4_S1_2) Gen.numel1_S1 = 1#32 := (table m _).trans rfl
  unfold cc0_transform_2
  dsimp only
  rw [h, tile_eq]
  rfl

theorem transform3 (i : grid0.Coords) : cc0_transform_3 Gen.inb_S4_S1_3 Gen.numel1_S1 (tbl m) i = ![(i 0).val, 3] := by
  have h : (tbl m).at 0 (Rect.unit (s := S4) ![3] S1.size Gen.inb_S4_S1_3) Gen.numel1_S1 = 3#32 := (table m _).trans rfl
  unfold cc0_transform_3
  dsimp only
  rw [h, tile_eq]
  rfl

/-- A block of one of the four columns lies inside the array. -/
theorem inside (f : grid0.Coords → Fin 2 → Nat) (n : Nat) (hn : n < 4) (hf : ∀ i, f i = ![(i 0).val, n]) (i : grid0.Coords) :
    ∃ h : (∀ a, (f i a + 1) * S544x2304.size a ≤ S4352x9216.size a),
      EltTy.bits .bf16 = 32 ∨ (Rect.block (s := S4352x9216) S544x2304.size (f i) h).WholeWords (EltTy.packing .bf16) := by
  have hi : (i 0).val < 8 := (i 0).isLt
  refine ⟨fun a => ?_, .inr (Affine.block_words_dvd (of_decide_eq_true rfl) (by decide))⟩
  rw [hf]
  fin_cases a
  · show ((i 0).val + 1) * 544 ≤ 4352
    omega
  · show (n + 1) * 2304 ≤ 9216
    omega

theorem ok : Ok m :=
  ⟨inside _ 0 (by decide) (transform0 m), inside _ 2 (by decide) (transform1 m), inside _ 1 (by decide) (transform2 m), inside _ 3 (by decide) (transform3 m)⟩

end Cert.Kernel6Ideal.Table

end
-- ==== Proof.In.Dgrad.lean ====
/- The input projection's input gradient: each grid point adds the products of four column blocks of the cotangent
   with the weights' blocks, taken in the order of the table; together they are the contraction over all columns. -/
module
public import proofs.«01_k».proof.Proof.In.Table
public import proofs.«01_k».proof.Proof.In.Wgrad
public import proofs.«01_k».proof.Proof.Gen.Reference6Ideal.Run
public import proofs.«01_k».proof.Defs
public import Idealize.ShloMosaic.Lib.Pointwise
public import Idealize.ShloMosaic.Lib.Pipeline.ValueKit
public import Idealize.ShloMosaic.Lib.Pipeline.ValueKit.Acc
@[expose] public section
set_option maxRecDepth 16384
noncomputable section
namespace Cert.DgradIn
open Cert.Kernel6Ideal Cert.Kernel6Ideal.Gen Cert.Kernel6Ideal.Table
open Idealize.ShloMosaic Idealize.ShloMosaic.TcCoe Idealize.SL.Sem

theorem coords_eq : ∀ t : Fin grid0.N, (grid0.coords t 0).val = t.val / 8 := by decide +kernel
theorem index4 : ∀ t : Fin grid0.N, cc0_transform_4 (grid0.coords t) = ![t.val % 8, 0] := by decide +kernel
theorem index5 : ∀ t : Fin grid0.N, cc0_transform_5 (grid0.coords t) = ![t.val % 8, 0] := by decide +kernel
theorem index6 : ∀ t : Fin grid0.N, cc0_transform_6 (grid0.coords t) = ![t.val % 8, 0] := by decide +kernel
theorem index7 : ∀ t : Fin grid0.N, cc0_transform_7 (grid0.coords t) = ![t.val % 8, 0] := by decide +kernel
theorem index8 : ∀ t : Fin grid0.N, cc0_transform_8 (grid0.coords t) = ![t.val / 8, t.val % 8] := by decide +kernel

theorem tile_lt (t : Fin grid0.N) : t.val / 8 < 8 := by
  have h : t.val < 64 := t.isLt
  omega

theorem row_lt (t : Fin grid0.N) (a : Fin 544) : t.val / 8 * 544 + a.val < 4352 := by
  have h := tile_lt t
  omega

theorem col_lt (t : Fin grid0.N) (b : Fin 512) : t.val % 8 * 512 + b.val < 4096 := by omega

/-- Column `k` of block `s`. -/
def colIn (s : Fin 4) (k : Fin 2304) : Fin 9216 := ⟨s.val * 2304 + k.val, by omega⟩

/-- The part of the product that block `s` of the columns gives. -/
def part (d : FVec Ideal S4352x9216 .bf16) (w : FVec Ideal S4096x2304 .bf16) (s : Fin 4) (i : Fin 4352) (j : Fin 4096) : EReal :=
  ∑ k : Fin 2304, d (ix2 i (colIn s k)) * w (ix2 j k)

/-- What the call computes from its arrays. -/
def G (d : FVec Ideal S4352x9216 .bf16) (w0 w1 w2 w3 : FVec Ideal S4096x2304 .bf16) : FVec Ideal S4352x4096 .bf16 := fun i =>
  part d w0 0 (show Fin 4352 from i 0) (show Fin 4096 from i 1) + part d w1 2 (show Fin 4352 from i 0) (show Fin 4096 from i 1)
    + part d w2 1 (show Fin 4352 from i 0) (show Fin 4096 from i 1) + part d w3 3 (show Fin 4352 from i 0) (show Fin 4096 from i 1)

theorem G_ix (d) (w0 w1 w2 w3) (i : Fin 4352) (j : Fin 4096) :
    G d w0 w1 w2 w3 (ix2 i j) = part d w0 0 i j + part d w1 2 i j + part d w2 1 i j + part d w3 3 i j := rfl

/-- What a point computes from its blocks. -/
theorem pay (x0 : Vec Ideal S544x2304 .bf16) (x1 : Vec Ideal S544x2304 .bf16) (x2 : Vec Ideal S544x2304 .bf16) (x3 : Vec Ideal S544x2304 .bf16) (x4 : Vec Ideal S512x2304 .bf16) (x5 : Vec Ideal S512x2304 .bf16) (x6 : Vec Ideal S512x2304 .bf16) (x7 : Vec Ideal S512x2304 .bf16) (a : Fin 544) (b : Fin 512) :
    k0_pay1 x0 x4 x1 x5 x2 x6 x3 x7 (ix2 a b) = (∑ k : Fin 2304, x0 (ix2 a k) * x4 (ix2 b k)) + (∑ k : Fin 2304, x1 (ix2 a k) * x5 (ix2 b k))
      + (∑ k : Fin 2304, x2 (ix2 a k) * x6 (ix2 b k)) + ∑ k : Fin 2304, x3 (ix2 a k) * x7 (ix2 b k) := by
  unfold_payloads
  pointwise

theorem pay_congr {x0 x1 x2 x3 : Vec Ideal S544x2304 .bf16} {x4 x5 x6 x7 : Vec Ideal S512x2304 .bf16} {y0 y1 y2 y3 : Vec Ideal S544x2304 .bf16} {y4 y5 y6 y7 : Vec Ideal S512x2304 .bf16}
    (h0 : x0 = y0) (h1 : x1 = y1) (h2 : x2 = y2) (h3 : x3 = y3) (h4 : x4 = y4) (h5 : x5 = y5) (h6 : x6 = y6) (h7 : x7 = y7) :
    k0_pay1 x0 x4 x1 x5 x2 x6 x3 x7 = k0_pay1 y0 y4 y1 y5 y2 y6 y3 y7 := by
  rw [h0, h1, h2, h3, h4, h5, h6, h7]

theorem out_eq (c : Dev nD) (i : grid0.Coords) (arg3 : Memref sig .tc .vmem S544x2304 .bf16) (harg3 : arg3.IsWhole) (arg4 : Memref sig .tc .vmem S544x2304 .bf16) (harg4 : arg4.IsWhole) (arg5 : Memref sig .tc .vmem S544x2304 .bf16) (harg5 : arg5.IsWhole) (arg6 : Memref sig .tc .vmem S544x2304 .bf16) (harg6 : arg6.IsWhole) (arg7 : Memref sig .tc .vmem S512x2304 .bf16) (harg7 : arg7.IsWhole) (arg8 : Memref sig .tc .vmem S512x2304 .bf16) (harg8 : arg8.IsWhole) (arg9 : Memref sig .tc .vmem S512x2304 .bf16) (harg9 : arg9.IsWhole) (arg10 : Memref sig .tc .vmem S512x2304 .bf16) (harg10 : arg10.IsWhole) (arg11 : Memref sig .tc .vmem S544x512 .bf16) (harg11 : arg11.IsWhole)
    (x0 : Vec Ideal S544x2304 .bf16) (x1 : Vec Ideal S544x2304 .bf16) (x2 : Vec Ideal S544x2304 .bf16) (x3 : Vec Ideal S544x2304 .bf16) (x4 : Vec Ideal S512x2304 .bf16) (x5 : Vec Ideal S512x2304 .bf16) (x6 : Vec Ideal S512x2304 .bf16) (x7 : Vec Ideal S512x2304 .bf16) (xt : TbBuf0 (F := Ideal) c tbM0_0) :
    out0_A_8 c i arg3 harg3 arg4 harg4 arg5 harg5 arg6 harg6 arg7 harg7 arg8 harg8 arg9 harg9 arg10 harg10 arg11 harg11 x0 x1 x2 x3 x4 x5 x6 x7 xt = k0_pay1 x0 x4 x1 x5 x2 x6 x3 x7 := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 x5 x6 x7 xt)]
  unfold kernelRun0_A
  dsimp only
  simp only [View.readAt_eq_ld, harg3.read_unread, harg4.read_unread, harg5.read_unread, harg6.read_unread, harg7.read_unread, harg8.read_unread, harg9.read_unread, harg10.read_unread]
  refine (View.canon_cons_unit_lit' (S := S544x512) _ _ _ (by intro a; fin_cases a <;> rfl)).trans ?_
  refine pay_congr ?_ ?_ ?_ ?_ ?_ ?_ ?_ ?_ <;>
    first
    | exact View.ld_unit_lit' (S := S544x2304) _ _ (by intro a; fin_cases a <;> rfl)
    | exact View.ld_unit_lit' (S := S512x2304) _ _ (by intro a; fin_cases a <;> rfl)

variable (m : (ℓ : Loc nD τ sig) → Buf (Elt Ideal) ℓ) (c : Dev nD)

theorem read0 (hO : Ok m) (t : Fin grid0.N) (a : Fin 544) (k : Fin 2304) :
    iblk m hO c 0 t (ix2 a k) = V m c main_v2 (ix2 ⟨t.val / 8 * 544 + a.val, row_lt t a⟩ (colIn 0 k)) := by
  blk_ext [iblk]
  · refine (congrArg (· * 544 + a.val) (congrFun (transform0 m (grid0.coords t)) 0)).trans ?_
    exact congrArg (· * 544 + a.val) (coords_eq t)
  · exact congrArg (· * 2304 + k.val) (congrFun (transform0 m (grid0.coords t)) 1)

theorem read1 (hO : Ok m) (t : Fin grid0.N) (a : Fin 544) (k : Fin 2304) :
    iblk m hO c 1 t (ix2 a k) = V m c main_v2 (ix2 ⟨t.val / 8 * 544 + a.val, row_lt t a⟩ (colIn 2 k)) := by
  blk_ext [iblk]
  · refine (congrArg (· * 544 + a.val) (congrFun (transform1 m (grid0.coords t)) 0)).trans ?_
    exact congrArg (· * 544 + a.val) (coords_eq t)
  · exact congrArg (· * 2304 + k.val) (congrFun (transform1 m (grid0.coords t)) 1)

theorem read2 (hO : Ok m) (t : Fin grid0.N) (a : Fin 544) (k : Fin 2304) :
    iblk m hO c 2 t (ix2 a k) = V m c main_v2 (ix2 ⟨t.val / 8 * 544 + a.val, row_lt t a⟩ (colIn 1 k)) := by
  blk_ext [iblk]
  · refine (congrArg (· * 544 + a.val) (congrFun (transform2 m (grid0.coords t)) 0)).trans ?_
    exact congrArg (· * 544 + a.val) (coords_eq t)
  · exact congrArg (· * 2304 + k.val) (congrFun (transform2 m (grid0.coords t)) 1)

theorem read3 (hO : Ok m) (t : Fin grid0.N) (a : Fin 544) (k : Fin 2304) :
    iblk m hO c 3 t (ix2 a k) = V m c main_v2 (ix2 ⟨t.val / 8 * 544 + a.val, row_lt t a⟩ (colIn 3 k)) := by
  blk_ext [iblk]
  · refine (congrArg (· * 544 + a.val) (congrFun (transform3 m (grid0.coords t)) 0)).trans ?_
    exact congrArg (· * 544 + a.val) (coords_eq t)
  · exact congrArg (· * 2304 + k.val) (congrFun (transform3 m (grid0.coords t)) 1)

theorem read4 (hO : Ok m) (t : Fin grid0.N) (b : Fin 512) (k : Fin 2304) :
    iblk m hO c 4 t (ix2 b k) = V m c main_v4 (ix2 ⟨t.val % 8 * 512 + b.val, col_lt t b⟩ k) := by
  blk_ext [iblk]
  · exact congrArg (· * 512 + b.val) (congrFun (index4 t) 0)
  · exact (congrArg (· * 2304 + k.val) (congrFun (index4 t) 1)).trans (by simp)

theorem read5 (hO : Ok m) (t : Fin grid0.N) (b : Fin 512) (k : Fin 2304) :
    iblk m hO c 5 t (ix2 b k) = V m c main_v6 (ix2 ⟨t.val % 8 * 512 + b.val, col_lt t b⟩ k) := by
  blk_ext [iblk]
  · exact congrArg (· * 512 + b.val) (congrFun (index5 t) 0)
  · exact (congrArg (· * 2304 + k.val) (congrFun (index5 t) 1)).trans (by simp)

theorem read6 (hO : Ok m) (t : Fin grid0.N) (b : Fin 512) (k : Fin 2304) :
    iblk m hO c 6 t (ix2 b k) = V m c main_v8 (ix2 ⟨t.val % 8 * 512 + b.val, col_lt t b⟩ k) := by
  blk_ext [iblk]
  · exact congrArg (· * 512 + b.val) (congrFun (index6 t) 0)
  · exact (congrArg (· * 2304 + k.val) (congrFun (index6 t) 1)).trans (by simp)

theorem read7 (hO : Ok m) (t : Fin grid0.N) (b : Fin 512) (k : Fin 2304) :
    iblk m hO c 7 t (ix2 b k) = V m c main_v10 (ix2 ⟨t.val % 8 * 512 + b.val, col_lt t b⟩ k) := by
  blk_ext [iblk]
  · exact congrArg (· * 512 + b.val) (congrFun (index7 t) 0)
  · exact (congrArg (· * 2304 + k.val) (congrFun (index7 t) 1)).trans (by simp)

theorem emb (hO : Ok m) (t : Fin grid0.N) (a : Fin 544) (b : Fin 512) :
    ((((cfgM m hO).win 8).blk t).view.emb (ix2 a b) : S4352x4096.Idx) = ix2 ⟨t.val / 8 * 544 + a.val, row_lt t a⟩ ⟨t.val % 8 * 512 + b.val, col_lt t b⟩ := by
  blk_ext
  · exact congrArg (· * 544 + a.val) (congrFun (index8 t) 0)
  · exact congrArg (· * 512 + b.val) (congrFun (index8 t) 1)

/-- The kernel's result. -/
theorem final (hO : Ok m) :
    (dats m hO 0 c).arrAt 8 (cfgM m hO).N = G (V m c main_v2) (V m c main_v4) (V m c main_v6) (V m c main_v8) (V m c main_v10) := by
  refine (dats m hO 0 c).arrAt_eq_of_covers 8 _ (of_decide_eq_true (by sl_kernel_rfl)) fun t hf y => ?_
  blk_simp
  rw [after0_8]
  have hy : ∃ (a : Fin 544) (b : Fin 512), (y : S544x512.Idx) = ix2 a b :=
    ⟨(show S544x512.Idx from y) 0, (show S544x512.Idx from y) 1, eq_ix2 (show S544x512.Idx from y)⟩
  obtain ⟨a, b, rfl⟩ := hy
  rw [emb m hO t a b, G_ix]
  unfold outsAt0
  refine (congrFun (out_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (iblk m hO c 0 t) (iblk m hO c 1 t) (iblk m hO c 2 t) (iblk m hO c 3 t) (iblk m hO c 4 t) (iblk m hO c 5 t) (iblk m hO c 6 t) (iblk m hO c 7 t) (tbl m 0)) (ix2 a b)).trans ?_
  refine (pay (iblk m hO c 0 t) (iblk m hO c 1 t) (iblk m hO c 2 t) (iblk m hO c 3 t) (iblk m hO c 4 t) (iblk m hO c 5 t) (iblk m hO c 6 t) (iblk m hO c 7 t) a b).trans ?_
  unfold part
  exact congrArg₂ (· + ·) (congrArg₂ (· + ·) (congrArg₂ (· + ·) (Finset.sum_congr rfl fun k _ => congrArg₂ (· * ·) (read0 m c hO t a k) (read4 m c hO t b k))
    (Finset.sum_congr rfl fun k _ => congrArg₂ (· * ·) (read1 m c hO t a k) (read5 m c hO t b k))) (Finset.sum_congr rfl fun k _ => congrArg₂ (· * ·) (read2 m c hO t a k) (read6 m c hO t b k)))
    (Finset.sum_congr rfl fun k _ => congrArg₂ (· * ·) (read3 m c hO t a k) (read7 m c hO t b k))

theorem V_cotangent : (V m c main_v2 : FVec Ideal S4352x9216 .bf16)
    = truncf (F := Ideal) .bf16 (concatenate S4352x9216 0 [⟨S256x9216, pad S256x9216 ![0, 2048] ![0, 6144] ![0, 0]
        (m ((c : Thread nD τ).loc main_arg4) : FVec Ideal S256x1024 .f32) (sitofp (F := Ideal) .f32 (constantI S_ 32 0#32)) Gen.pads_S256x1024_S256x9216_000_204861440 Gen.h_S_⟩,
      ⟨S4096x9216, (m ((c : Thread nD τ).loc main_arg3) : FVec Ideal S4096x9216 .f32)⟩] Gen.concatenates_S256x9216_S4096x9216_S4352x9216_d0) Gen.bitsLt_bf16_f32 := by
  show (StableHlo.after (List.flatten [hostOps0, hostOps0_1, hostOps0_2]) (fun b => m (c, b)) main_v2 : FVec Ideal S4352x9216 .bf16) = _
  simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
  after_results

theorem V_weights0 : (V m c main_v4 : FVec Ideal S4096x2304 .bf16) = truncf (F := Ideal) .bf16 (extractStridedSlice S4096x2304 ![0, 0]
      (m ((c : Thread nD τ).loc main_arg2) : FVec Ideal S4096x9216 .f32) Gen.slices_S4096x9216_S4096x2304_0_0) Gen.bitsLt_bf16_f32 := by
  show (StableHlo.after (List.flatten [hostOps0, hostOps0_1, hostOps0_2]) (fun b => m (c, b)) main_v4 : FVec Ideal S4096x2304 .bf16) = _
  simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
  after_results

theorem weights0 (j : Fin 4096) (k : Fin 2304) : (V m c main_v4 : FVec Ideal S4096x2304 .bf16) (ix2 j k)
    = (m ((c : Thread nD τ).loc main_arg2) : FVec Ideal S4096x9216 .f32) (ix2 j (colIn 0 k)) := by
  refine (congrFun (V_weights0 m c) _).trans ?_
  pointwise
  refine congrArg (fun q => (m ((c : Thread nD τ).loc main_arg2) : FVec Ideal S4096x9216 .f32) (ix2 j q)) (Fin.ext ?_)
  show _ = 0 * 2304 + k.val
  simp

theorem V_weights1 : (V m c main_v6 : FVec Ideal S4096x2304 .bf16) = truncf (F := Ideal) .bf16 (extractStridedSlice S4096x2304 ![0, 4608]
      (m ((c : Thread nD τ).loc main_arg2) : FVec Ideal S4096x9216 .f32) Gen.slices_S4096x9216_S4096x2304_0_4608) Gen.bitsLt_bf16_f32 := by
  show (StableHlo.after (List.flatten [hostOps0, hostOps0_1, hostOps0_2]) (fun b => m (c, b)) main_v6 : FVec Ideal S4096x2304 .bf16) = _
  simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
  after_results

theorem weights1 (j : Fin 4096) (k : Fin 2304) : (V m c main_v6 : FVec Ideal S4096x2304 .bf16) (ix2 j k)
    = (m ((c : Thread nD τ).loc main_arg2) : FVec Ideal S4096x9216 .f32) (ix2 j (colIn 2 k)) := by
  refine (congrFun (V_weights1 m c) _).trans ?_
  pointwise
  refine congrArg (fun q => (m ((c : Thread nD τ).loc main_arg2) : FVec Ideal S4096x9216 .f32) (ix2 j q)) (Fin.ext ?_)
  show _ = 2 * 2304 + k.val
  simp

theorem V_weights2 : (V m c main_v8 : FVec Ideal S4096x2304 .bf16) = truncf (F := Ideal) .bf16 (extractStridedSlice S4096x2304 ![0, 2304]
      (m ((c : Thread nD τ).loc main_arg2) : FVec Ideal S4096x9216 .f32) Gen.slices_S4096x9216_S4096x2304_0_2304) Gen.bitsLt_bf16_f32 := by
  show (StableHlo.after (List.flatten [hostOps0, hostOps0_1, hostOps0_2]) (fun b => m (c, b)) main_v8 : FVec Ideal S4096x2304 .bf16) = _
  simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
  after_results

theorem weights2 (j : Fin 4096) (k : Fin 2304) : (V m c main_v8 : FVec Ideal S4096x2304 .bf16) (ix2 j k)
    = (m ((c : Thread nD τ).loc main_arg2) : FVec Ideal S4096x9216 .f32) (ix2 j (colIn 1 k)) := by
  refine (congrFun (V_weights2 m c) _).trans ?_
  pointwise
  refine congrArg (fun q => (m ((c : Thread nD τ).loc main_arg2) : FVec Ideal S4096x9216 .f32) (ix2 j q)) (Fin.ext ?_)
  show _ = 1 * 2304 + k.val
  simp

theorem V_weights3 : (V m c main_v10 : FVec Ideal S4096x2304 .bf16) = truncf (F := Ideal) .bf16 (extractStridedSlice S4096x2304 ![0, 6912]
      (m ((c : Thread nD τ).loc main_arg2) : FVec Ideal S4096x9216 .f32) Gen.slices_S4096x9216_S4096x2304_0_6912) Gen.bitsLt_bf16_f32 := by
  show (StableHlo.after (List.flatten [hostOps0, hostOps0_1, hostOps0_2]) (fun b => m (c, b)) main_v10 : FVec Ideal S4096x2304 .bf16) = _
  simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
  after_results

theorem weights3 (j : Fin 4096) (k : Fin 2304) : (V m c main_v10 : FVec Ideal S4096x2304 .bf16) (ix2 j k)
    = (m ((c : Thread nD τ).loc main_arg2) : FVec Ideal S4096x9216 .f32) (ix2 j (colIn 3 k)) := by
  refine (congrFun (V_weights3 m c) _).trans ?_
  pointwise
  refine congrArg (fun q => (m ((c : Thread nD τ).loc main_arg2) : FVec Ideal S4096x9216 .f32) (ix2 j q)) (Fin.ext ?_)
  show _ = 3 * 2304 + k.val
  simp

/-- The four blocks of columns, in the table's order, are all the columns. -/
theorem sum_blocks (f : Fin 9216 → EReal) :
    (∑ k : Fin 2304, f (colIn 0 k)) + (∑ k : Fin 2304, f (colIn 2 k)) + (∑ k : Fin 2304, f (colIn 1 k)) + (∑ k : Fin 2304, f (colIn 3 k))
      = ∑ k : Fin 9216, f k := by
  have e (s : Fin 4) (k : Fin 2304) : (finProdFinEquiv (s, k) : Fin (4 * 2304)) = colIn s k := by
    refine Fin.ext ?_
    show k.val + 2304 * s.val = s.val * 2304 + k.val
    omega
  refine Eq.trans ?_ (Equiv.sum_comp (finProdFinEquiv (m := 4) (n := 2304)) (fun k => f (show Fin 9216 from k)))
  rw [Fintype.sum_prod_type, Fin.sum_univ_four]
  simp only [e]
  rw [add_right_comm (∑ k : Fin 2304, f (colIn 0 k))]

/-- Only the columns the context's cotangents were written into count. -/
theorem sum_wide (x : FVec Ideal S256x1024 .f32) (r : Fin 256) (w : Fin 9216 → EReal) :
    ∑ k : Fin 9216, Cert.WgradIn.wide x r k * w k = ∑ k : Fin 1024, x (ix2 r k) * w ⟨2048 + k.val, by omega⟩ := by
  refine (Fin.sum_univ_add (a := 2048) (b := 7168) fun k => Cert.WgradIn.wide x r (show Fin 9216 from k) * w (show Fin 9216 from k)).trans ?_
  have h0 : ∑ k : Fin 2048, Cert.WgradIn.wide x r (show Fin 9216 from Fin.castAdd 7168 k) * w (show Fin 9216 from Fin.castAdd 7168 k) = 0 := by
    refine Finset.sum_eq_zero fun k _ => ?_
    have hk : Cert.WgradIn.wide x r (show Fin 9216 from Fin.castAdd 7168 k) = 0 :=
      dif_neg fun hh => absurd (show 2048 ≤ k.val from hh.1) (Nat.not_le.2 k.isLt)
    rw [hk, zero_mul]
  have h1 : ∑ k : Fin 6144, Cert.WgradIn.wide x r (show Fin 9216 from Fin.natAdd 2048 (Fin.natAdd 1024 k))
      * w (show Fin 9216 from Fin.natAdd 2048 (Fin.natAdd 1024 k)) = 0 := by
    refine Finset.sum_eq_zero fun k _ => ?_
    have hk : Cert.WgradIn.wide x r (show Fin 9216 from Fin.natAdd 2048 (Fin.natAdd 1024 k)) = 0 := by
      refine dif_neg fun hh => ?_
      have h2 : 2048 + (1024 + k.val) < 3072 := hh.2
      omega
    rw [hk, zero_mul]
  have h2 := (Fin.sum_univ_add (a := 1024) (b := 6144) fun k =>
    Cert.WgradIn.wide x r (show Fin 9216 from Fin.natAdd 2048 k) * w (show Fin 9216 from Fin.natAdd 2048 k)).trans (congrArg₂ (· + ·) rfl h1)
  refine (congrArg₂ (· + ·) h0 h2).trans ?_
  rw [zero_add, add_zero]
  refine Finset.sum_congr rfl fun k _ => ?_
  have hk : Cert.WgradIn.wide x r (show Fin 9216 from Fin.natAdd 2048 (Fin.castAdd 6144 k)) = x (ix2 r k) := by
    refine (dif_pos (show 2048 ≤ 2048 + k.val ∧ 2048 + k.val < 3072 by omega)).trans ?_
    exact congrArg (fun q => x (ix2 r q)) (Fin.ext (Nat.add_sub_cancel_left 2048 k.val))
  exact congrArg₂ (· * ·) hk rfl

/-- One row of the result from a row of the cotangent. -/
theorem G_row (d : FVec Ideal S4352x9216 .bf16) (w0 w1 w2 w3) (w : FVec Ideal S4096x9216 .f32) (y : Fin 9216 → EReal) (i : Fin 4352) (j : Fin 4096)
    (hd : ∀ k, d (ix2 i k) = y k)
    (h0 : ∀ k, w0 (ix2 j k) = w (ix2 j (colIn 0 k))) (h1 : ∀ k, w1 (ix2 j k) = w (ix2 j (colIn 2 k)))
    (h2 : ∀ k, w2 (ix2 j k) = w (ix2 j (colIn 1 k))) (h3 : ∀ k, w3 (ix2 j k) = w (ix2 j (colIn 3 k))) :
    G d w0 w1 w2 w3 (ix2 i j) = ∑ k : Fin 9216, y k * w (ix2 j k) := by
  rw [G_ix]
  unfold part
  refine Eq.trans ?_ (sum_blocks fun k => y k * w (ix2 j k))
  simp only [hd, h0, h1, h2, h3]

/-- The reference's gradient of a context row. -/
theorem ref_top (x2 : FVec Ideal S4096x9216 .f32) (x3 : FVec Ideal S4096x9216 .f32) (x4 : FVec Ideal S256x1024 .f32) (t u) (r : Fin 256) (j : Fin 4096) :
    (truncf (F := Ideal) .bf16 (concatenate Cert.Reference6Ideal.S4352x4096 0 [
        ⟨Cert.Reference6Ideal.S256x4096, Host.dotGeneral (F := Ideal) (φ₁ := .f32) (φ₂ := .f32) Cert.Reference6Ideal.dot_S256x1024_S4096x1024_S256x4096_1_1_0_0_n_n none x4
          (extractStridedSlice Cert.Reference6Ideal.S4096x1024 ![0, 2048] x2 t)⟩,
        ⟨Cert.Reference6Ideal.S4096x4096, Host.dotGeneral (F := Ideal) (φ₁ := .f32) (φ₂ := .f32) Cert.Reference6Ideal.dot_S4096x9216_S4096x9216_S4096x4096_1_1_0_0_n_n none x3 x2⟩] u)
        Gen.bitsLt_bf16_f32 : FVec Ideal S4352x4096 .bf16) (ix2 (show Fin 4352 from Fin.castAdd 4096 r) j)
      = ∑ k : Fin 1024, x4 (ix2 r k) * x2 (ix2 j ⟨2048 + k.val, by omega⟩) := by
  pointwise
  exact dif_pos r.isLt

/-- The reference's gradient of a sequence row. -/
theorem ref_bottom (x2 : FVec Ideal S4096x9216 .f32) (x3 : FVec Ideal S4096x9216 .f32) (x4 : FVec Ideal S256x1024 .f32) (t u) (r : Fin 4096) (j : Fin 4096) :
    (truncf (F := Ideal) .bf16 (concatenate Cert.Reference6Ideal.S4352x4096 0 [
        ⟨Cert.Reference6Ideal.S256x4096, Host.dotGeneral (F := Ideal) (φ₁ := .f32) (φ₂ := .f32) Cert.Reference6Ideal.dot_S256x1024_S4096x1024_S256x4096_1_1_0_0_n_n none x4
          (extractStridedSlice Cert.Reference6Ideal.S4096x1024 ![0, 2048] x2 t)⟩,
        ⟨Cert.Reference6Ideal.S4096x4096, Host.dotGeneral (F := Ideal) (φ₁ := .f32) (φ₂ := .f32) Cert.Reference6Ideal.dot_S4096x9216_S4096x9216_S4096x4096_1_1_0_0_n_n none x3 x2⟩] u)
        Gen.bitsLt_bf16_f32 : FVec Ideal S4352x4096 .bf16) (ix2 (show Fin 4352 from Fin.natAdd 256 r) j)
      = ∑ k : Fin 9216, x3 (ix2 r k) * x2 (ix2 j k) := by
  pointwise
  refine (dif_neg (Nat.not_lt.2 (Nat.le_add_right 256 r.val))).trans ?_
  have e : (⟨256 + r.val - 256, by omega⟩ : Fin 4096) = r := Fin.ext (Nat.add_sub_cancel_left 256 r.val)
  exact congrArg (fun q => ∑ k : Fin 9216, x3 (ix2 q k) * x2 (ix2 j k)) e

/-- The kernel's result is the reference's. -/
theorem algebraic : Cert.algebraic_Kernel6Ideal_Reference6Ideal (hKernel6Ideal := Cert.Kernel6Ideal.Gen.facts)
    (hReference6Ideal := Cert.Reference6Ideal.Gen.facts) := by
  intro m g m' g' _ hargs
  have hO := ok m
  refine ⟨fun c => (dats m hO 0 c).arrAt 8 (cfgM m hO).N, ?_, ?_⟩
  · exact (θ_run defs _ _).mono (fun r hr c => ⟨(hr.1 c).1 8, hr.2 c⟩) (θ_run_and (run_main m g hO) (unchanged m g hO))
  refine (θ_run Cert.Reference6Ideal.defs _ _).mono (fun r hr c => ⟨(hr c).1.trans ?_, (hr c).2⟩)
    (Cert.Reference6Ideal.Value.run (F := Ideal) m' g')
  obtain rfl : c = 0 := Subsingleton.elim _ _
  obtain ⟨e0, e1, e2, e3, e4⟩ := hargs 0
  rw [e2, e3, e4]
  refine Eq.trans ?_ (final m 0 hO).symm
  funext y
  obtain ⟨i, j, rfl⟩ : ∃ (i : Fin 4352) (j : Fin 4096), y = ix2 i j := ⟨y 0, y 1, eq_ix2 (show S4352x4096.Idx from y)⟩
  obtain ⟨r, rfl⟩ | ⟨r, rfl⟩ : (∃ r : Fin 256, i = (show Fin 4352 from Fin.castAdd 4096 r)) ∨ ∃ r : Fin 4096, i = (show Fin 4352 from Fin.natAdd 256 r) := by
    by_cases hi : i.val < 256
    · exact Or.inl ⟨⟨i.val, hi⟩, Fin.ext rfl⟩
    · refine Or.inr ⟨⟨i.val - 256, by omega⟩, Fin.ext ?_⟩
      show i.val = 256 + (i.val - 256)
      omega
  · refine (ref_top _ _ _ _ _ r j).trans ((sum_wide _ r fun k => _).symm.trans
      (G_row _ _ _ _ _ _ _ _ j ?_ (weights0 m 0 j) (weights1 m 0 j) (weights2 m 0 j) (weights3 m 0 j)).symm)
    intro k
    exact (congrFun (V_cotangent m 0) _).trans (Cert.WgradIn.right_top _ _ r k)
  · refine (ref_bottom _ _ _ _ _ r j).trans
      (G_row _ _ _ _ _ _ _ _ j ?_ (weights0 m 0 j) (weights1 m 0 j) (weights2 m 0 j) (weights3 m 0 j)).symm
    intro k
    exact (congrFun (V_cotangent m 0) _).trans (Cert.WgradIn.right_bottom _ _ _ r k)

end Cert.DgradIn
end
-- ==== Proof.In.Run7Ideal.lean ====
/- The run of the call `in_proj_xy`: each point writes the product of its block of rows with its block of one part's
   columns into the columns the table gives it; every run ends, with the arguments unchanged. -/
module
public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
@[expose] public section
set_option maxRecDepth 16384
noncomputable section
namespace Cert.Kernel7Ideal.Parts
open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Assertions about this program's state. -/
abbrev Pr (F : FTy → Type) [FloatOps F] : Type := sProp (MT nD τ sig Unit (Elt F) ℕ (UR sig nD τ) ℕ)

variable (m : (ℓ : Loc nD τ sig) → Buf (Elt F) ℓ) (ρ : Dev nD → PrngReg)

/-- The device's buffers when the call starts. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]
  repeat' constructor

set_option maxHeartbeats 800000 in
/-- The host's part of the program. -/
theorem host (𝒱 : Variants) : Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub fresh main_chain

/-- The host writes no argument. -/
theorem V_arg (c : Dev nD) (b : Ref sig .tc) (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem V_arg0 (c : Dev nD) : V m c main_arg0 = m ((c : Thread nD τ).loc main_arg0) :=
  V_arg m c main_arg0 (by
    simp only [hostOps0, List.Forall, StableHlo.nullary_writes, StableHlo.unary_writes, StableHlo.binary_writes, Finset.mem_singleton]
    repeat' apply And.intro
    all_goals exact StableHlo.devRef_ne_of_ne (by decide))

theorem V_arg1 (c : Dev nD) : V m c main_arg1 = m ((c : Thread nD τ).loc main_arg1) :=
  V_arg m c main_arg1 (by
    simp only [hostOps0, List.Forall, StableHlo.nullary_writes, StableHlo.unary_writes, StableHlo.binary_writes, Finset.mem_singleton]
    repeat' apply And.intro
    all_goals exact StableHlo.devRef_ne_of_ne (by decide))

theorem V_arg2 (c : Dev nD) : V m c main_arg2 = m ((c : Thread nD τ).loc main_arg2) :=
  V_arg m c main_arg2 (by
    simp only [hostOps0, List.Forall, StableHlo.nullary_writes, StableHlo.unary_writes, StableHlo.binary_writes, Finset.mem_singleton]
    repeat' apply And.intro
    all_goals exact StableHlo.devRef_ne_of_ne (by decide))

theorem V_arg3 (c : Dev nD) : V m c main_arg3 = m ((c : Thread nD τ).loc main_arg3) :=
  V_arg m c main_arg3 (by
    simp only [hostOps0, List.Forall, StableHlo.nullary_writes, StableHlo.unary_writes, StableHlo.binary_writes, Finset.mem_singleton]
    repeat' apply And.intro
    all_goals exact StableHlo.devRef_ne_of_ne (by decide))

/-- The table when the call starts. -/
def tbl : pre0.Contents (Elt F) := fun j => V m (0 : Dev nD) (pre0.ref j)

theorem V_tbl (c : Dev nD) (j : Fin 1) : V m c (pre0.ref j) = tbl m j := by
  obtain rfl : c = 0 := Subsingleton.elim _ _
  rfl

/-- The numbers in the table. -/
def numbers : IVec S2 32 := fun i => lit0 (S2.rowMajor i)

theorem tbl_eq : (tbl m 0 : IVec S2 32) = numbers := by
  show (StableHlo.after hostOps0 (fun b => m ((0 : Dev nD), b)) main_c : IVec S2 32) = numbers
  simp only [hostOps0]
  after_results
  try rfl

/-- The table as the literal. -/
def tab : pre0.Contents (Elt F) := fun | 0 => numbers

theorem tbl_tab : (tbl m : pre0.Contents (Elt F)) = tab := by
  funext j
  obtain rfl : j = 0 := Subsingleton.elim _ _
  exact tbl_eq m

/-- The block of the result that a point writes. -/
theorem cells_ideal : ∀ i : grid0.Coords, cc0_transform_4 Gen.k0_off1_inb Gen.numel1_S1 (tab (F := Ideal)) i = ![(i 1).val, (2 - (i 0).val) * 3 + (i 2).val] := by decide +kernel

theorem cells (i : grid0.Coords) : cc0_transform_4 Gen.k0_off1_inb Gen.numel1_S1 (tab (F := F)) i = ![(i 1).val, (2 - (i 0).val) * 3 + (i 2).val] :=
  Eq.trans rfl (cells_ideal i)

theorem ok_tab : ok0 (F := F) tab := fun i => by
  have h0 : (i 0).val < 2 := (i 0).isLt
  have h1 : (i 1).val < 8 := (i 1).isLt
  have h2 : (i 2).val < 3 := (i 2).isLt
  refine ⟨fun a => ?_, .inr (Affine.block_words_dvd (of_decide_eq_true rfl) (by decide))⟩
  rw [cells]
  fin_cases a
  · show ((i 1).val + 1) * 544 ≤ 4352
    omega
  · show ((2 - (i 0).val) * 3 + (i 2).val + 1) * 768 ≤ 9216
    omega

theorem ok : ok0 (F := F) (tbl m) := by
  rw [tbl_tab]
  exact ok_tab

/-- The table, its blocks inside the arrays. -/
abbrev adm : (pcfg0 (F := F)).Adm := ⟨tbl m, ok m⟩
/-- The call's pipeline. -/
abbrev cfgM : Pipeline.Cfg sig Λ₀ := cfg0 (adm m)

/-- The table's buffer. -/
abbrev tM : Memref sig .tc .smem S2 .i32 := Memref.whole main_c

/-- Half the table's share, which the body is lent. -/
abbrev tPt (c : Dev nD) {S : Shape} {e : EltTy} (M : Memref sig .tc .smem S e) (f : Buf (Elt F) (M.view.loc (c : Thread nD τ))) : Pr F :=
  M.view.loc (c : Thread nD τ) ↦{fullShare.right} f

theorem lent (c : Dev nD) : (Pipeline.ΦT pre0 (tbl m) c : Pr F) = iprop(tPt c tM (tbl m 0)) := by
  unfold Pipeline.ΦT Pipeline.prefHeld
  rw [show (Finset.univ : Finset (Fin 1)) = {(0 : Fin 1)} from by decide, bigSep_singleton]
  rfl

/-- A window's block at a point. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S544x4096 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4096x768 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S4096x768 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S544x768 .bf16 := spec0_3.stage ((cfgM m).slots t 3)
abbrev hs3 (t : Fin (cfgM m).N) : (ms3 m t).IsWhole := hstage0_3 (((cfgM m).slots t 3).cast nbuf0_3)

set_option maxHeartbeats 1000000 in
/-- The body where it multiplies with part 0. -/
theorem runA (c : Dev nD) (i : grid0.Coords) (h1 : k0_cond1 i = 1#1) (h2 : ¬k0_cond2 i = 1#1) (arg4 : Memref sig .tc .vmem S544x4096 .bf16) (harg4 : arg4.IsWhole) (arg5 : Memref sig .tc .vmem S4096x768 .bf16) (harg5 : arg5.IsWhole) (arg6 : Memref sig .tc .vmem S4096x768 .bf16) (harg6 : arg6.IsWhole) (arg8 : Memref sig .tc .vmem S544x768 .bf16) (harg8 : arg8.IsWhole)
    (x0 : Vec F S544x4096 .bf16) (x1 : Vec F S4096x768 .bf16) (x2 : Vec F S4096x768 .bf16) (xt : Buf (Elt F) ((tM).view.loc (c : Thread nD τ))) (E : Set ℕ) (K : PUnit → Pr F) :
    iprop(owns (c : Thread nD τ) arg4 fullShare x0 ∗ owns (c : Thread nD τ) arg5 fullShare x1 ∗ owns (c : Thread nD τ) arg6 fullShare x2 ∗ (∃ d, owns (c : Thread nD τ) arg8 fullShare d) ∗ tPt c tM xt
        ∗ (iprop(owns (c : Thread nD τ) arg4 fullShare x0 ∗ owns (c : Thread nD τ) arg5 fullShare x1 ∗ owns (c : Thread nD τ) arg6 fullShare x2 ∗ owns (c : Thread nD τ) arg8 fullShare (k0_pay1 x0 x1) ∗ tPt c tM xt) -∗ K ⟨⟩))
      ⊢ wp frame (wpE (defs₀ (F := F)) Variants.none c none) E
          (cc0_in_proj_xy i tM (Memref.isWhole_whole _) arg4 harg4 arg5 harg5 arg6 harg6 (Memref.whole main_v6) (Memref.isWhole_whole _) arg8 harg8) K := by
  simp only [cc0_in_proj_xy_eq_skeleton]
  unfold cc0_in_proj_xy_skel
  unfold owns
  iintro ⟨⟨%f0, %hf0, H0⟩, ⟨%f1, %hf1, H1⟩, ⟨%f2, %hf2, H2⟩, ⟨%d, %f, -, HO⟩, HT, Hk⟩
  obtain rfl := harg4.eq_unread hf0; obtain rfl := harg5.eq_unread hf1; obtain rfl := harg6.eq_unread hf2
  sl_exec (disch := first | sl_exact h1 | sl_exact h2)
  sl_step
  iapply Hk
  isplitl [H0]
  · iexists _
    isplitr
    · ipureintro
      exact harg4.read_unread _
    iexact H0
  isplitl [H1]
  · iexists _
    isplitr
    · ipureintro
      exact harg5.read_unread _
    iexact H1
  isplitl [H2]
  · iexists _
    isplitr
    · ipureintro
      exact harg6.read_unread _
    iexact H2
  isplitl [HO]
  · iexists _
    isplitr
    swap
    · iexact HO
    ipureintro
    refine (View.read_writes_eq_canon _ _ _ fun y => View.cover_of_tiledL _ S544x768.size (by sl_kernel_rfl) y).trans ?_
    dsimp only
    simp only [View.readAt_eq_ld, harg4.read_unread, harg5.read_unread, harg6.read_unread]
    refine (View.canon_cons_unit_lit' (S := S544x768) _ _ _ (by intro a; fin_cases a <;> rfl)).trans ?_
    exact congrArg₂ k0_pay1 (View.ld_unit_lit' (S := S544x4096) _ _ (by intro a; fin_cases a <;> rfl))
      (View.ld_unit_lit' (S := S4096x768) _ _ (by intro a; fin_cases a <;> rfl))
  iexact HT

set_option maxHeartbeats 1000000 in
/-- The body where it multiplies with part 1. -/
theorem runB (c : Dev nD) (i : grid0.Coords) (h1 : ¬k0_cond1 i = 1#1) (h2 : k0_cond2 i = 1#1) (arg4 : Memref sig .tc .vmem S544x4096 .bf16) (harg4 : arg4.IsWhole) (arg5 : Memref sig .tc .vmem S4096x768 .bf16) (harg5 : arg5.IsWhole) (arg6 : Memref sig .tc .vmem S4096x768 .bf16) (harg6 : arg6.IsWhole) (arg8 : Memref sig .tc .vmem S544x768 .bf16) (harg8 : arg8.IsWhole)
    (x0 : Vec F S544x4096 .bf16) (x1 : Vec F S4096x768 .bf16) (x2 : Vec F S4096x768 .bf16) (xt : Buf (Elt F) ((tM).view.loc (c : Thread nD τ))) (E : Set ℕ) (K : PUnit → Pr F) :
    iprop(owns (c : Thread nD τ) arg4 fullShare x0 ∗ owns (c : Thread nD τ) arg5 fullShare x1 ∗ owns (c : Thread nD τ) arg6 fullShare x2 ∗ (∃ d, owns (c : Thread nD τ) arg8 fullShare d) ∗ tPt c tM xt
        ∗ (iprop(owns (c : Thread nD τ) arg4 fullShare x0 ∗ owns (c : Thread nD τ) arg5 fullShare x1 ∗ owns (c : Thread nD τ) arg6 fullShare x2 ∗ owns (c : Thread nD τ) arg8 fullShare (k0_pay2 x0 x2) ∗ tPt c tM xt) -∗ K ⟨⟩))
      ⊢ wp frame (wpE (defs₀ (F := F)) Variants.none c none) E
          (cc0_in_proj_xy i tM (Memref.isWhole_whole _) arg4 harg4 arg5 harg5 arg6 harg6 (Memref.whole main_v6) (Memref.isWhole_whole _) arg8 harg8) K := by
  simp only [cc0_in_proj_xy_eq_skeleton]
  unfold cc0_in_proj_xy_skel
  unfold owns
  iintro ⟨⟨%f0, %hf0, H0⟩, ⟨%f1, %hf1, H1⟩, ⟨%f2, %hf2, H2⟩, ⟨%d, %f, -, HO⟩, HT, Hk⟩
  obtain rfl := harg4.eq_unread hf0; obtain rfl := harg5.eq_unread hf1; obtain rfl := harg6.eq_unread hf2
  sl_exec (disch := first | sl_exact h1 | sl_exact h2)
  sl_step
  iapply Hk
  isplitl [H0]
  · iexists _
    isplitr
    · ipureintro
      exact harg4.read_unread _
    iexact H0
  isplitl [H1]
  · iexists _
    isplitr
    · ipureintro
      exact harg5.read_unread _
    iexact H1
  isplitl [H2]
  · iexists _
    isplitr
    · ipureintro
      exact harg6.read_unread _
    iexact H2
  isplitl [HO]
  · iexists _
    isplitr
    swap
    · iexact HO
    ipureintro
    refine (View.read_writes_eq_canon _ _ _ fun y => View.cover_of_tiledL _ S544x768.size (by sl_kernel_rfl) y).trans ?_
    dsimp only
    simp only [View.readAt_eq_ld, harg4.read_unread, harg5.read_unread, harg6.read_unread]
    refine (View.canon_cons_unit_lit' (S := S544x768) _ _ _ (by intro a; fin_cases a <;> rfl)).trans ?_
    exact congrArg₂ k0_pay2 (View.ld_unit_lit' (S := S544x4096) _ _ (by intro a; fin_cases a <;> rfl))
      (View.ld_unit_lit' (S := S4096x768) _ _ (by intro a; fin_cases a <;> rfl))
  iexact HT

theorem cond_first : ∀ t : Fin grid0.N, (grid0.coords t 0).val = 0 → k0_cond1 (grid0.coords t) = 1#1 ∧ ¬k0_cond2 (grid0.coords t) = 1#1 := by decide +kernel
theorem cond_second : ∀ t : Fin grid0.N, ¬(grid0.coords t 0).val = 0 → ¬k0_cond1 (grid0.coords t) = 1#1 ∧ k0_cond2 (grid0.coords t) = 1#1 := by decide +kernel

/-- No point leaves the result's block unwritten. -/
theorem busy : ∀ t : Fin grid0.N, idle0 3 (grid0.coords t) = false := by decide +kernel

/-- What a point leaves in the result's block. -/
def outAt (c : Dev nD) (t : Fin (cfgM m).N) : Vec F S544x768 .bf16 :=
  if (grid0.coords t 0).val = 0 then k0_pay1 (iblk m c 0 t) (iblk m c 1 t) else k0_pay2 (iblk m c 0 t) (iblk m c 2 t)

/-- What the windows hold around each point. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by dsimp only [dats]
theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = outAt m c t := by dsimp only [dats]; try rfl
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0]; unfold Dat.blockOf iblk; rw [A_eq m c 0]; try rfl) t d).trans (by unfold Dat.fetched Dat.blockOf iblk; rw [A_eq m c 0]; try rfl)
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [A_eq m c 1]; try rfl) t d).trans (by unfold Dat.fetched Dat.blockOf iblk; rw [A_eq m c 1]; try rfl)
theorem before2 (c : Dev nD) (t : Fin (cfgM m).N) (d) : (dats m 0 c).before 2 t d = iblk m c 2 t :=
  ((dats m 0 c).before_in_eq_fetched 2 rfl (fun _ => rfl) (fun _ _ _ => rfl)
    (fun t => by rw [after2]; unfold Dat.blockOf iblk; rw [A_eq m c 2]; try rfl) t d).trans (by unfold Dat.fetched Dat.blockOf iblk; rw [A_eq m c 2]; try rfl)

/-- The body at a point. -/
abbrev bodyAt (t : Fin (cfgM m).N) : Prog (TpuEff nD τ sig (Elt F) Λ₀ .tc) PUnit :=
  cc0_in_proj_xy (grid0.coords t) (Memref.whole main_c) (Memref.isWhole_whole _) (ms0 m t) (hs0 m t) (ms1 m t) (hs1 m t) (ms2 m t) (hs2 m t) (Memref.whole main_v6) (Memref.isWhole_whole _) (ms3 m t) (hs3 m t)

/-- Before the body. -/
def pre (c : Dev nD) (t : Fin (cfgM m).N) : Pr F :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- After the body. -/
def post (c : Dev nD) (t : Fin (cfgM m).N) : Pr F :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem body_ends (c : Dev nD) (t : Fin (cfgM m).N) :
    pre m c t ⊢ wp frame (wpE (defs₀ (F := F)) Variants.none c none) Set.univ (bodyAt m t) (fun _ => post m c t) := by
  unfold pre post bodyAt
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = iprop(Pipeline.ΦA spec0 c ∗ Pipeline.ΦT pre0 (tbl m) c) from rfl, lent]
  unfold outAt
  by_cases hp : (grid0.coords t 0).val = 0
  · rw [if_pos hp]
    iintro ⟨⟨HΦ, HT⟩, Ho, ⟨%d0, H0⟩, ⟨%d1, H1⟩, ⟨%d2, H2⟩, ⟨%d3, H3⟩⟩
    iapply (runA c (grid0.coords t) (cond_first t hp).1 (cond_first t hp).2 (ms0 m t) (hs0 m t) (ms1 m t) (hs1 m t) (ms2 m t) (hs2 m t) (ms3 m t) (hs3 m t) (iblk m c 0 t) (iblk m c 1 t) (iblk m c 2 t) (tbl m 0) Set.univ _)
    isplitl [H0]; · iexact H0
    isplitl [H1]; · iexact H1
    isplitl [H2]; · iexact H2
    isplitl [H3]; · iexists _; iexact H3
    isplitl [HT]; · iexact HT
    iintro ⟨H0, H1, H2, H3, HT⟩
    isplitl [HΦ HT]
    · isplitl [HΦ]
      · iexact HΦ
      iexact HT
    isplitl [Ho]; · iexact Ho
    isplitl [H0]; · iexact H0
    isplitl [H1]; · iexact H1
    isplitl [H2]; · iexact H2
    iexact H3
  · rw [if_neg hp]
    iintro ⟨⟨HΦ, HT⟩, Ho, ⟨%d0, H0⟩, ⟨%d1, H1⟩, ⟨%d2, H2⟩, ⟨%d3, H3⟩⟩
    iapply (runB c (grid0.coords t) (cond_second t hp).1 (cond_second t hp).2 (ms0 m t) (hs0 m t) (ms1 m t) (hs1 m t) (ms2 m t) (hs2 m t) (ms3 m t) (hs3 m t) (iblk m c 0 t) (iblk m c 1 t) (iblk m c 2 t) (tbl m 0) Set.univ _)
    isplitl [H0]; · iexact H0
    isplitl [H1]; · iexact H1
    isplitl [H2]; · iexact H2
    isplitl [H3]; · iexists _; iexact H3
    isplitl [HT]; · iexact HT
    iintro ⟨H0, H1, H2, H3, HT⟩
    isplitl [HΦ HT]
    · isplitl [HΦ]
      · iexact HΦ
      iexact HT
    isplitl [Ho]; · iexact Ho
    isplitl [H0]; · iexact H0
    isplitl [H1]; · iexact H1
    isplitl [H2]; · iexact H2
    iexact H3

theorem row (t : Fin (cfgM m).N) : defs₀ (F := F) .tc (cfgM m).body ((cfgM m).bodyArgs t ((cfgM m).slots t)) = bodyAt m t := by
  unfold defs₀
  rw [Defs.onTc_tc]

/-- What a window that is written at the point is left at. -/
theorem written (P R : Pr F) (b : Bool) : b = false → (P ⊢ (match b with | true => R | false => P)) := by
  rintro rfl
  exact .rfl

theorem obligation (c : Dev nD) : BodyObligation (dats (F := F) m 0 c) (defs₀ (F := F)) Variants.none () Set.univ := fun t => by
  rw [bigSep_W0, bigSep_W0, row m]
  exact triple_restated (body_ends m c t) rfl .rfl fun _ => sep_mono .rfl (sep_mono .rfl (sep_mono .rfl (sep_mono .rfl (sep_mono .rfl (written _ _ _ (busy t))))))

set_option backward.isDefEq.respectTransparency.types false in
/-- Every run ends, with the arrays at what the points wrote and every counter at zero. -/
theorem run_all : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (obligation m c).loose) (hshare := fun c => (dats m 0 c).share_full fun _ => rfl)
    (howed := fun _ _ => rfl) (V := V m) (hmain := host m Variants.none) (hA := A_eq m) (hpf := V_tbl m)
    (hΦ := fun _ _ => rfl)

/-- The result, and the arguments as they were. -/
theorem run_result : θ_run defs (onTc (τ := τ) (main (F := F))) ⟨m, fun _ => 0, ρ⟩ (fun r => (∀ c : Dev nD,
      r.2.mem ((c.tc : Thread nD τ).loc (Pipeline.arrRef spec0 3)) = (dats m 0 c).arrAt 3 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 3,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩, h.2⟩) (run_all m ρ)

/-- Every run ends with the arguments as they were and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_result m ρ)

end Cert.Kernel7Ideal.Parts
end
-- ==== Proof.In.Run8Ideal.lean ====
/- The run of the call `in_proj_diag`: each point writes the product of its block of rows with its block of one part's
   columns into the columns the table gives it; every run ends, with the arguments unchanged. -/
module
public import proofs.«01_k».proof.Proof.Gen.Kernel8Ideal.Launch
public import proofs.«01_k».proof.Proof.Gen.Kernel8Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
@[expose] public section
set_option maxRecDepth 16384
noncomputable section
namespace Cert.Kernel8Ideal.Parts
open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- Assertions about this program's state. -/
abbrev Pr (F : FTy → Type) [FloatOps F] : Type := sProp (MT nD τ sig Unit (Elt F) ℕ (UR sig nD τ) ℕ)

variable (m : (ℓ : Loc nD τ sig) → Buf (Elt F) ℓ) (ρ : Dev nD → PrngReg)

/-- The device's buffers when the call starts. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]
  repeat' constructor

set_option maxHeartbeats 800000 in
/-- The host's part of the program. -/
theorem host (𝒱 : Variants) : Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub fresh main_chain

/-- The host writes no argument. -/
theorem V_arg (c : Dev nD) (b : Ref sig .tc) (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem V_arg0 (c : Dev nD) : V m c main_arg0 = m ((c : Thread nD τ).loc main_arg0) :=
  V_arg m c main_arg0 (by
    simp only [hostOps0, List.Forall, StableHlo.nullary_writes, StableHlo.unary_writes, StableHlo.binary_writes, Finset.mem_singleton]
    repeat' apply And.intro
    all_goals exact StableHlo.devRef_ne_of_ne (by decide))

theorem V_arg1 (c : Dev nD) : V m c main_arg1 = m ((c : Thread nD τ).loc main_arg1) :=
  V_arg m c main_arg1 (by
    simp only [hostOps0, List.Forall, StableHlo.nullary_writes, StableHlo.unary_writes, StableHlo.binary_writes, Finset.mem_singleton]
    repeat' apply And.intro
    all_goals exact StableHlo.devRef_ne_of_ne (by decide))

theorem V_arg2 (c : Dev nD) : V m c main_arg2 = m ((c : Thread nD τ).loc main_arg2) :=
  V_arg m c main_arg2 (by
    simp only [hostOps0, List.Forall, StableHlo.nullary_writes, StableHlo.unary_writes, StableHlo.binary_writes, Finset.mem_singleton]
    repeat' apply And.intro
    all_goals exact StableHlo.devRef_ne_of_ne (by decide))

theorem V_arg3 (c : Dev nD) : V m c main_arg3 = m ((c : Thread nD τ).loc main_arg3) :=
  V_arg m c main_arg3 (by
    simp only [hostOps0, List.Forall, StableHlo.nullary_writes, StableHlo.unary_writes, StableHlo.binary_writes, Finset.mem_singleton]
    repeat' apply And.intro
    all_goals exact StableHlo.devRef_ne_of_ne (by decide))

/-- The table when the call starts. -/
def tbl : pre0.Contents (Elt F) := fun j => V m (0 : Dev nD) (pre0.ref j)

theorem V_tbl (c : Dev nD) (j : Fin 1) : V m c (pre0.ref j) = tbl m j := by
  obtain rfl : c = 0 := Subsingleton.elim _ _
  rfl

/-- The numbers in the table. -/
def numbers : IVec S1 32 := constantI S1 32 3#32

theorem tbl_eq : (tbl m 0 : IVec S1 32) = numbers := by
  show (StableHlo.after hostOps0 (fun b => m ((0 : Dev nD), b)) main_c : IVec S1 32) = numbers
  simp only [hostOps0]
  after_results
  try rfl

/-- The table as the literal. -/
def tab : pre0.Contents (Elt F) := fun | 0 => numbers

theorem tbl_tab : (tbl m : pre0.Contents (Elt F)) = tab := by
  funext j
  obtain rfl : j = 0 := Subsingleton.elim _ _
  exact tbl_eq m

/-- The block of the result that a point writes. -/
theorem cells_ideal : ∀ i : grid0.Coords, cc0_transform_3 Gen.k0_off1_inb Gen.numel1_S1 (tab (F := Ideal)) i = ![(i 1).val, 9 + (i 2).val] := by decide +kernel

theorem cells (i : grid0.Coords) : cc0_transform_3 Gen.k0_off1_inb Gen.numel1_S1 (tab (F := F)) i = ![(i 1).val, 9 + (i 2).val] :=
  Eq.trans rfl (cells_ideal i)

theorem ok_tab : ok0 (F := F) tab := fun i => by
  have h0 : (i 0).val < 1 := (i 0).isLt
  have h1 : (i 1).val < 8 := (i 1).isLt
  have h2 : (i 2).val < 3 := (i 2).isLt
  refine ⟨fun a => ?_, .inr (Affine.block_words_dvd (of_decide_eq_true rfl) (by decide))⟩
  rw [cells]
  fin_cases a
  · show ((i 1).val + 1) * 544 ≤ 4352
    omega
  · show (9 + (i 2).val + 1) * 768 ≤ 9216
    omega

theorem ok : ok0 (F := F) (tbl m) := by
  rw [tbl_tab]
  exact ok_tab

/-- The table, its blocks inside the arrays. -/
abbrev adm : (pcfg0 (F := F)).Adm := ⟨tbl m, ok m⟩
/-- The call's pipeline. -/
abbrev cfgM : Pipeline.Cfg sig Λ₀ := cfg0 (adm m)

/-- The table's buffer. -/
abbrev tM : Memref sig .tc .smem S1 .i32 := Memref.whole main_c

/-- Half the table's share, which the body is lent. -/
abbrev tPt (c : Dev nD) {S : Shape} {e : EltTy} (M : Memref sig .tc .smem S e) (f : Buf (Elt F) (M.view.loc (c : Thread nD τ))) : Pr F :=
  M.view.loc (c : Thread nD τ) ↦{fullShare.right} f

theorem lent (c : Dev nD) : (Pipeline.ΦT pre0 (tbl m) c : Pr F) = iprop(tPt c tM (tbl m 0)) := by
  unfold Pipeline.ΦT Pipeline.prefHeld
  rw [show (Finset.univ : Finset (Fin 1)) = {(0 : Fin 1)} from by decide, bigSep_singleton]
  rfl

/-- A window's block at a point. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S544x4096 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4096x768 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S544x768 .bf16 := spec0_2.stage ((cfgM m).slots t 2)
abbrev hs2 (t : Fin (cfgM m).N) : (ms2 m t).IsWhole := hstage0_2 (((cfgM m).slots t 2).cast nbuf0_2)

set_option maxHeartbeats 1000000 in
/-- The body where it multiplies with part 0. -/
theorem runA (c : Dev nD) (i : grid0.Coords) (h1 : k0_cond1 i = 1#1) (arg4 : Memref sig .tc .vmem S544x4096 .bf16) (harg4 : arg4.IsWhole) (arg5 : Memref sig .tc .vmem S4096x768 .bf16) (harg5 : arg5.IsWhole) (arg7 : Memref sig .tc .vmem S544x768 .bf16) (harg7 : arg7.IsWhole)
    (x0 : Vec F S544x4096 .bf16) (x1 : Vec F S4096x768 .bf16) (xt : Buf (Elt F) ((tM).view.loc (c : Thread nD τ))) (E : Set ℕ) (K : PUnit → Pr F) :
    iprop(owns (c : Thread nD τ) arg4 fullShare x0 ∗ owns (c : Thread nD τ) arg5 fullShare x1 ∗ (∃ d, owns (c : Thread nD τ) arg7 fullShare d) ∗ tPt c tM xt
        ∗ (iprop(owns (c : Thread nD τ) arg4 fullShare x0 ∗ owns (c : Thread nD τ) arg5 fullShare x1 ∗ owns (c : Thread nD τ) arg7 fullShare (k0_pay1 x0 x1) ∗ tPt c tM xt) -∗ K ⟨⟩))
      ⊢ wp frame (wpE (defs₀ (F := F)) Variants.none c none) E
          (cc0_in_proj_diag i tM (Memref.isWhole_whole _) arg4 harg4 arg5 harg5 (Memref.whole main_v4) (Memref.isWhole_whole _) arg7 harg7) K := by
  simp only [cc0_in_proj_diag_eq_skeleton]
  unfold cc0_in_proj_diag_skel
  unfold owns
  iintro ⟨⟨%f0, %hf0, H0⟩, ⟨%f1, %hf1, H1⟩, ⟨%d, %f, -, HO⟩, HT, Hk⟩
  obtain rfl := harg4.eq_unread hf0; obtain rfl := harg5.eq_unread hf1
  sl_exec (disch := sl_exact h1)
  sl_step
  iapply Hk
  isplitl [H0]
  · iexists _
    isplitr
    · ipureintro
      exact harg4.read_unread _
    iexact H0
  isplitl [H1]
  · iexists _
    isplitr
    · ipureintro
      exact harg5.read_unread _
    iexact H1
  isplitl [HO]
  · iexists _
    isplitr
    swap
    · iexact HO
    ipureintro
    refine (View.read_writes_eq_canon _ _ _ fun y => View.cover_of_tiledL _ S544x768.size (by sl_kernel_rfl) y).trans ?_
    dsimp only
    simp only [View.readAt_eq_ld, harg4.read_unread, harg5.read_unread]
    refine (View.canon_cons_unit_lit' (S := S544x768) _ _ _ (by intro a; fin_cases a <;> rfl)).trans ?_
    exact congrArg₂ k0_pay1 (View.ld_unit_lit' (S := S544x4096) _ _ (by intro a; fin_cases a <;> rfl))
      (View.ld_unit_lit' (S := S4096x768) _ _ (by intro a; fin_cases a <;> rfl))
  iexact HT

theorem cond_first : ∀ t : Fin grid0.N, k0_cond1 (grid0.coords t) = 1#1 := by decide +kernel

/-- No point leaves the result's block unwritten. -/
theorem busy : ∀ t : Fin grid0.N, idle0 2 (grid0.coords t) = false := by decide +kernel

/-- What a point leaves in the result's block. -/
def outAt (c : Dev nD) (t : Fin (cfgM m).N) : Vec F S544x768 .bf16 := k0_pay1 (iblk m c 0 t) (iblk m c 1 t)

/-- What the windows hold around each point. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by dsimp only [dats]
theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outAt m c t := by dsimp only [dats]; try rfl
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0]; unfold Dat.blockOf iblk; rw [A_eq m c 0]; try rfl) t d).trans (by unfold Dat.fetched Dat.blockOf iblk; rw [A_eq m c 0]; try rfl)
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [A_eq m c 1]; try rfl) t d).trans (by unfold Dat.fetched Dat.blockOf iblk; rw [A_eq m c 1]; try rfl)

/-- The body at a point. -/
abbrev bodyAt (t : Fin (cfgM m).N) : Prog (TpuEff nD τ sig (Elt F) Λ₀ .tc) PUnit :=
  cc0_in_proj_diag (grid0.coords t) (Memref.whole main_c) (Memref.isWhole_whole _) (ms0 m t) (hs0 m t) (ms1 m t) (hs1 m t) (Memref.whole main_v4) (Memref.isWhole_whole _) (ms2 m t) (hs2 m t)

/-- Before the body. -/
def pre (c : Dev nD) (t : Fin (cfgM m).N) : Pr F :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- After the body. -/
def post (c : Dev nD) (t : Fin (cfgM m).N) : Pr F :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

theorem body_ends (c : Dev nD) (t : Fin (cfgM m).N) :
    pre m c t ⊢ wp frame (wpE (defs₀ (F := F)) Variants.none c none) Set.univ (bodyAt m t) (fun _ => post m c t) := by
  unfold pre post bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, lent]
  unfold outAt
  iintro ⟨⟨HΦ, HT⟩, Ho, ⟨%d0, H0⟩, ⟨%d1, H1⟩, ⟨%d2, H2⟩⟩
  iapply (runA c (grid0.coords t) (cond_first t) (ms0 m t) (hs0 m t) (ms1 m t) (hs1 m t) (ms2 m t) (hs2 m t) (iblk m c 0 t) (iblk m c 1 t) (tbl m 0) Set.univ _)
  isplitl [H0]; · iexact H0
  isplitl [H1]; · iexact H1
  isplitl [H2]; · iexists _; iexact H2
  isplitl [HT]; · iexact HT
  iintro ⟨H0, H1, H2, HT⟩
  isplitl [HΦ HT]
  · isplitl [HΦ]
    · iexact HΦ
    iexact HT
  isplitl [Ho]; · iexact Ho
  isplitl [H0]; · iexact H0
  isplitl [H1]; · iexact H1
  iexact H2

theorem row (t : Fin (cfgM m).N) : defs₀ (F := F) .tc (cfgM m).body ((cfgM m).bodyArgs t ((cfgM m).slots t)) = bodyAt m t := by
  unfold defs₀
  rw [Defs.onTc_tc]

/-- What a window that is written at the point is left at. -/
theorem written (P R : Pr F) (b : Bool) : b = false → (P ⊢ (match b with | true => R | false => P)) := by
  rintro rfl
  exact .rfl

theorem obligation (c : Dev nD) : BodyObligation (dats (F := F) m 0 c) (defs₀ (F := F)) Variants.none () Set.univ := fun t => by
  rw [bigSep_W0, bigSep_W0, row m]
  exact triple_restated (body_ends m c t) rfl .rfl fun _ => sep_mono .rfl (sep_mono .rfl (sep_mono .rfl (sep_mono .rfl (written _ _ _ (busy t)))))

set_option backward.isDefEq.respectTransparency.types false in
/-- Every run ends, with the arrays at what the points wrote and every counter at zero. -/
theorem run_all : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (obligation m c).loose) (hshare := fun c => (dats m 0 c).share_full fun _ => rfl)
    (howed := fun _ _ => rfl) (V := V m) (hmain := host m Variants.none) (hA := A_eq m) (hpf := V_tbl m)
    (hΦ := fun _ _ => rfl)

/-- The result, and the arguments as they were. -/
theorem run_result : θ_run defs (onTc (τ := τ) (main (F := F))) ⟨m, fun _ => 0, ρ⟩ (fun r => (∀ c : Dev nD,
      r.2.mem ((c.tc : Thread nD τ).loc (Pipeline.arrRef spec0 2)) = (dats m 0 c).arrAt 2 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 2,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩, h.2⟩) (run_all m ρ)

/-- Every run ends with the arguments as they were and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_result m ρ)

end Cert.Kernel8Ideal.Parts
end
-- ==== Proof.In.Parts7.lean ====
/- The values of the call `in_proj_xy`: the columns it writes are the product of the rows with the weights' same columns;
   the others stay as they were. -/
module
public import proofs.«01_k».proof.Proof.In.Run7Ideal
public import proofs.«01_k».proof.Proof.Gen.Reference7Ideal.Run
public import proofs.«01_k».proof.Defs
public import Idealize.ShloMosaic.Lib.Pointwise
public import Idealize.ShloMosaic.Lib.Pipeline.ValueKit
public import Idealize.ShloMosaic.Lib.Pipeline.ValueKit.Partial
@[expose] public section
set_option maxRecDepth 16384
noncomputable section
namespace Cert.XyProj
open Cert.Kernel7Ideal Cert.Kernel7Ideal.Gen Cert.Kernel7Ideal.Parts
open Idealize.ShloMosaic Idealize.ShloMosaic.TcCoe Idealize.SL.Sem

theorem index0 : ∀ i : grid0.Coords, cc0_transform_0 i = ![(i 1).val, 0] := by decide +kernel
theorem index1 : ∀ i : grid0.Coords, (i 0).val = 0 → cc0_transform_1 i = ![0, (i 2).val] := by decide +kernel
theorem index2 : ∀ i : grid0.Coords, ¬(i 0).val = 0 → cc0_transform_2 i = ![0, (i 2).val] := by decide +kernel

theorem row_lt (t : Fin grid0.N) (a : Fin 544) : (grid0.coords t 1).val * 544 + a.val < 4352 := by
  have h : (grid0.coords t 1).val < 8 := (grid0.coords t 1).isLt
  omega

theorem in_lt (t : Fin grid0.N) (b : Fin 768) : (grid0.coords t 2).val * 768 + b.val < 2304 := by
  have h : (grid0.coords t 2).val < 3 := (grid0.coords t 2).isLt
  omega

theorem out_lt (t : Fin grid0.N) (b : Fin 768) : ((2 - (grid0.coords t 0).val) * 3 + (grid0.coords t 2).val) * 768 + b.val < 9216 := by
  have h : (grid0.coords t 2).val < 3 := (grid0.coords t 2).isLt
  omega

/-- The rows the call multiplies: the context's, then the sequence's. -/
def rows (x : FVec Ideal S256x4096 .f32) (y : FVec Ideal S4096x4096 .f32) (i : Fin 4352) (k : Fin 4096) : EReal :=
  if hi : i.val < 256 then x (ix2 ⟨i.val, hi⟩ k) else y (ix2 ⟨i.val - 256, by omega⟩ k)

/-- The call's result from the rows, the weights and the earlier contents. -/
def G (x : Fin 4352 → Fin 4096 → EReal) (w : FVec Ideal S4096x9216 .f32) (old : FVec Ideal S4352x9216 .f32) : FVec Ideal S4352x9216 .bf16 := fun i =>
  if 2304 ≤ (show Fin 9216 from i 1).val ∧ (show Fin 9216 from i 1).val < 6912 then ∑ k : Fin 4096, x (show Fin 4352 from i 0) k * w (ix2 k (show Fin 9216 from i 1)) else old i

theorem G_in (x w old) (i : Fin 4352) (n : Fin 9216) (hn : 2304 ≤ n.val ∧ n.val < 6912) : G x w old (ix2 i n) = ∑ k : Fin 4096, x i k * w (ix2 k n) := if_pos hn
theorem G_out (x w old) (i : Fin 4352) (n : Fin 9216) (hn : ¬(2304 ≤ n.val ∧ n.val < 6912)) : G x w old (ix2 i n) = old (ix2 i n) := if_neg hn

theorem pay1 (x0 : Vec Ideal S544x4096 .bf16) (x1 : Vec Ideal S4096x768 .bf16) (a : Fin 544) (b : Fin 768) :
    k0_pay1 x0 x1 (ix2 a b) = ∑ k : Fin 4096, x0 (ix2 a k) * x1 (ix2 k b) := by
  unfold_payloads
  pointwise

theorem pay2 (x0 : Vec Ideal S544x4096 .bf16) (x1 : Vec Ideal S4096x768 .bf16) (a : Fin 544) (b : Fin 768) :
    k0_pay2 x0 x1 (ix2 a b) = ∑ k : Fin 4096, x0 (ix2 a k) * x1 (ix2 k b) := by
  unfold_payloads
  pointwise

variable (m : (ℓ : Loc nD τ sig) → Buf (Elt Ideal) ℓ) (c : Dev nD)

theorem read0 (t : Fin grid0.N) (a : Fin 544) (k : Fin 4096) :
    iblk m c 0 t (ix2 a k) = V m c main_v1 (ix2 ⟨(grid0.coords t 1).val * 544 + a.val, row_lt t a⟩ k) := by
  blk_ext [iblk]
  · exact congrArg (· * 544 + a.val) (congrFun (index0 (grid0.coords t)) 0)
  · exact (congrArg (· * 4096 + k.val) (congrFun (index0 (grid0.coords t)) 1)).trans (by simp)

theorem read1 (t : Fin grid0.N) (hp : (grid0.coords t 0).val = 0) (k : Fin 4096) (b : Fin 768) :
    iblk m c 1 t (ix2 k b) = V m c main_v3 (ix2 k ⟨(grid0.coords t 2).val * 768 + b.val, in_lt t b⟩) := by
  blk_ext [iblk]
  · exact (congrArg (· * 4096 + k.val) (congrFun (index1 (grid0.coords t) hp) 0)).trans (by simp)
  · exact congrArg (· * 768 + b.val) (congrFun (index1 (grid0.coords t) hp) 1)

theorem read2 (t : Fin grid0.N) (hp : ¬(grid0.coords t 0).val = 0) (k : Fin 4096) (b : Fin 768) :
    iblk m c 2 t (ix2 k b) = V m c main_v5 (ix2 k ⟨(grid0.coords t 2).val * 768 + b.val, in_lt t b⟩) := by
  blk_ext [iblk]
  · exact (congrArg (· * 4096 + k.val) (congrFun (index2 (grid0.coords t) hp) 0)).trans (by simp)
  · exact congrArg (· * 768 + b.val) (congrFun (index2 (grid0.coords t) hp) 1)

theorem place (t : Fin grid0.N) : cc0_transform_4 Gen.k0_off1_inb Gen.numel1_S1 (tbl m) (grid0.coords t)
    = ![(grid0.coords t 1).val, (2 - (grid0.coords t 0).val) * 3 + (grid0.coords t 2).val] := by
  rw [tbl_tab]
  exact cells _

theorem emb (t : Fin grid0.N) (a : Fin 544) (b : Fin 768) :
    ((((cfgM m).win 3).blk t).view.emb (ix2 a b) : S4352x9216.Idx)
      = ix2 ⟨(grid0.coords t 1).val * 544 + a.val, row_lt t a⟩ ⟨((2 - (grid0.coords t 0).val) * 3 + (grid0.coords t 2).val) * 768 + b.val, out_lt t b⟩ := by
  blk_ext
  · exact congrArg (· * 544 + a.val) (congrFun (place m t) 0)
  · exact congrArg (· * 768 + b.val) (congrFun (place m t) 1)

/-- The blocks of the result that the call writes. -/
abbrev Written (β : Fin 2 → Nat) : Prop := 3 ≤ β 1 ∧ β 1 < 9

/-- The blocks the points write are those of the written columns. -/
theorem covers_tab : ((cfg0 (F := Ideal) ⟨tab, ok_tab⟩).win 3).CoversWhere Written := by decide +kernel

theorem covers_of : ∀ a : (pcfg0 (F := Ideal)).Adm, a.1 = tab → ((cfg0 a).win 3).CoversWhere Written := by
  rintro ⟨_, h⟩ rfl
  exact covers_tab

theorem covers : ((cfgM m).win 3).CoversWhere Written := covers_of (adm m) (tbl_tab m)

theorem V_rows : (V m c main_v1 : FVec Ideal S4352x4096 .bf16) = truncf (F := Ideal) .bf16 (concatenate S4352x4096 0 [
      ⟨S256x4096, (m ((c : Thread nD τ).loc main_arg1) : FVec Ideal S256x4096 .f32)⟩,
      ⟨S4096x4096, (m ((c : Thread nD τ).loc main_arg0) : FVec Ideal S4096x4096 .f32)⟩] Gen.concatenates_S256x4096_S4096x4096_S4352x4096_d0) Gen.bitsLt_bf16_f32 := by
  show (StableHlo.after hostOps0 (fun b => m (c, b)) main_v1 : FVec Ideal S4352x4096 .bf16) = _
  simp only [hostOps0]
  after_results

theorem rows_eq (i : Fin 4352) (k : Fin 4096) : (V m c main_v1 : FVec Ideal S4352x4096 .bf16) (ix2 i k)
    = rows (m ((c : Thread nD τ).loc main_arg1)) (m ((c : Thread nD τ).loc main_arg0)) i k := by
  refine (congrFun (V_rows m c) _).trans ?_
  pointwise
  rfl

theorem V_weights1 : (V m c main_v3 : FVec Ideal S4096x2304 .bf16) = truncf (F := Ideal) .bf16 (extractStridedSlice S4096x2304 ![0, 4608]
      (m ((c : Thread nD τ).loc main_arg2) : FVec Ideal S4096x9216 .f32) Gen.slices_S4096x9216_S4096x2304_0_4608) Gen.bitsLt_bf16_f32 := by
  show (StableHlo.after hostOps0 (fun b => m (c, b)) main_v3 : FVec Ideal S4096x2304 .bf16) = _
  simp only [hostOps0]
  after_results

theorem weights1 (k : Fin 4096) (j : Fin 2304) (n : Fin 9216) (hn : n.val = 4608 + j.val) : (V m c main_v3 : FVec Ideal S4096x2304 .bf16) (ix2 k j)
    = (m ((c : Thread nD τ).loc main_arg2) : FVec Ideal S4096x9216 .f32) (ix2 k n) := by
  refine (congrFun (V_weights1 m c) _).trans ?_
  pointwise
  exact congrArg (fun q => (m ((c : Thread nD τ).loc main_arg2) : FVec Ideal S4096x9216 .f32) (ix2 k q)) (Fin.ext hn.symm)

theorem V_weights2 : (V m c main_v5 : FVec Ideal S4096x2304 .bf16) = truncf (F := Ideal) .bf16 (extractStridedSlice S4096x2304 ![0, 2304]
      (m ((c : Thread nD τ).loc main_arg2) : FVec Ideal S4096x9216 .f32) Gen.slices_S4096x9216_S4096x2304_0_2304) Gen.bitsLt_bf16_f32 := by
  show (StableHlo.after hostOps0 (fun b => m (c, b)) main_v5 : FVec Ideal S4096x2304 .bf16) = _
  simp only [hostOps0]
  after_results

theorem weights2 (k : Fin 4096) (j : Fin 2304) (n : Fin 9216) (hn : n.val = 2304 + j.val) : (V m c main_v5 : FVec Ideal S4096x2304 .bf16) (ix2 k j)
    = (m ((c : Thread nD τ).loc main_arg2) : FVec Ideal S4096x9216 .f32) (ix2 k n) := by
  refine (congrFun (V_weights2 m c) _).trans ?_
  pointwise
  exact congrArg (fun q => (m ((c : Thread nD τ).loc main_arg2) : FVec Ideal S4096x9216 .f32) (ix2 k q)) (Fin.ext hn.symm)

theorem V_old : (V m c main_v7 : FVec Ideal S4352x9216 .bf16) = truncf (F := Ideal) .bf16 (m ((c : Thread nD τ).loc main_arg3) : FVec Ideal S4352x9216 .f32) Gen.bitsLt_bf16_f32 := by
  show (StableHlo.after hostOps0 (fun b => m (c, b)) main_v7 : FVec Ideal S4352x9216 .bf16) = _
  simp only [hostOps0]
  after_results
  rfl

theorem written_col (t : Fin grid0.N) (b : Fin 768) : 2304 ≤ (((2 - (grid0.coords t 0).val) * 3 + (grid0.coords t 2).val) * 768 + b.val) ∧ (((2 - (grid0.coords t 0).val) * 3 + (grid0.coords t 2).val) * 768 + b.val) < 6912 := by
  have h2 : (grid0.coords t 2).val < 3 := (grid0.coords t 2).isLt
  have h0 : (grid0.coords t 0).val < 2 := (grid0.coords t 0).isLt
  omega

/-- A point's block of the result. -/
theorem tile (t : Fin grid0.N) (a : Fin 544) (b : Fin 768) : outAt m c t (ix2 a b)
    = G (rows (m ((c : Thread nD τ).loc main_arg1)) (m ((c : Thread nD τ).loc main_arg0))) (m ((c : Thread nD τ).loc main_arg2)) (m ((c : Thread nD τ).loc main_arg3)) (ix2 ⟨(grid0.coords t 1).val * 544 + a.val, row_lt t a⟩ ⟨((2 - (grid0.coords t 0).val) * 3 + (grid0.coords t 2).val) * 768 + b.val, out_lt t b⟩) := by
  rw [G_in _ _ _ _ _ (written_col t b)]
  unfold outAt
  have h2 : (grid0.coords t 2).val < 3 := (grid0.coords t 2).isLt
  have h0 : (grid0.coords t 0).val < 2 := (grid0.coords t 0).isLt
  by_cases hp : (grid0.coords t 0).val = 0
  · rw [if_pos hp]
    refine (pay1 (iblk m c 0 t) (iblk m c 1 t) a b).trans (Finset.sum_congr rfl fun k _ => congrArg₂ (· * ·) ?_ ?_)
    · exact (read0 m c t a k).trans (rows_eq m c _ k)
    · refine (read1 m c t hp k b).trans (weights1 m c k _ _ ?_)
      show ((2 - (grid0.coords t 0).val) * 3 + (grid0.coords t 2).val) * 768 + b.val = 4608 + ((grid0.coords t 2).val * 768 + b.val)
      omega
  · rw [if_neg hp]
    refine (pay2 (iblk m c 0 t) (iblk m c 2 t) a b).trans (Finset.sum_congr rfl fun k _ => congrArg₂ (· * ·) ?_ ?_)
    · exact (read0 m c t a k).trans (rows_eq m c _ k)
    · refine (read2 m c t hp k b).trans (weights2 m c k _ _ ?_)
      show ((2 - (grid0.coords t 0).val) * 3 + (grid0.coords t 2).val) * 768 + b.val = 2304 + ((grid0.coords t 2).val * 768 + b.val)
      omega

/-- The kernel's result. -/
theorem final : (dats m 0 c).arrAt 3 (cfgM m).N = G (rows (m ((c : Thread nD τ).loc main_arg1)) (m ((c : Thread nD τ).loc main_arg0))) (m ((c : Thread nD τ).loc main_arg2)) (m ((c : Thread nD τ).loc main_arg3)) := by
  refine (dats m 0 c).arrAt_eq_of_coversWhere_of_agree 3 _ Written (covers m) (fun t hf y => ?_) (fun j hj => ?_)
  · blk_simp
    rw [after3]
    have hy : ∃ (a : Fin 544) (b : Fin 768), (y : S544x768.Idx) = ix2 a b :=
      ⟨(show S544x768.Idx from y) 0, (show S544x768.Idx from y) 1, eq_ix2 (show S544x768.Idx from y)⟩
    obtain ⟨a, b, rfl⟩ := hy
    rw [emb m t a b]
    exact tile m c t a b
  · have hy : ∃ (r : Fin 4352) (n : Fin 9216), (j : S4352x9216.Idx) = ix2 r n :=
      ⟨(show S4352x9216.Idx from j) 0, (show S4352x9216.Idx from j) 1, eq_ix2 (show S4352x9216.Idx from j)⟩
    obtain ⟨r, n, rfl⟩ := hy
    have hn : ¬(2304 ≤ n.val ∧ n.val < 6912) := by
      have : ¬(3 ≤ n.val / 768 ∧ n.val / 768 < 9) := hj
      omega
    rw [A_eq]
    exact (congrFun (V_old m c) (ix2 r n)).trans (G_out _ _ _ r n hn).symm

/-- The reference's result at an index. -/
theorem reference_at (x0 : FVec Ideal S4096x4096 .f32) (x1 : FVec Ideal S256x4096 .f32) (x2 : FVec Ideal S4096x9216 .f32) (x3 : FVec Ideal S4352x9216 .f32) (s1 s2 s3 s4 s5)
    (i : Fin 4352) (n : Fin 9216) :
    (concatenate Cert.Reference7Ideal.S4352x9216 1 [
        ⟨Cert.Reference7Ideal.S4352x2304, (extractStridedSlice Cert.Reference7Ideal.S4352x2304 ![0, 0] (truncf (F := Ideal) .bf16 x3 Gen.bitsLt_bf16_f32) s1 : FVec Ideal Cert.Reference7Ideal.S4352x2304 .bf16)⟩,
        ⟨Cert.Reference7Ideal.S4352x4608, (truncf (F := Ideal) .bf16 (Host.dotGeneral (F := Ideal) (φ₁ := .f32) (φ₂ := .f32) Cert.Reference7Ideal.dot_S4352x4096_S4096x4608_S4352x4608_1_0_0_1_n_n none
          (concatenate Cert.Reference7Ideal.S4352x4096 0 [⟨Cert.Reference7Ideal.S256x4096, x1⟩, ⟨Cert.Reference7Ideal.S4096x4096, x0⟩] s2)
          (extractStridedSlice Cert.Reference7Ideal.S4096x4608 ![0, 2304] x2 s3)) Gen.bitsLt_bf16_f32 : FVec Ideal Cert.Reference7Ideal.S4352x4608 .bf16)⟩,
        ⟨Cert.Reference7Ideal.S4352x2304, (extractStridedSlice Cert.Reference7Ideal.S4352x2304 ![0, 6912] (truncf (F := Ideal) .bf16 x3 Gen.bitsLt_bf16_f32) s4 : FVec Ideal Cert.Reference7Ideal.S4352x2304 .bf16)⟩] s5
        : FVec Ideal Cert.Reference7Ideal.S4352x9216 .bf16) (ix2 i n)
      = G (rows x1 x0) x2 x3 (ix2 i n) := by
  pointwise
  by_cases h1 : n.val < 2304
  · rw [dif_pos h1, G_out _ _ _ _ _ (by omega)]
  rw [dif_neg h1]
  by_cases h2 : n.val - 2304 < 4608
  · rw [dif_pos h2, G_in _ _ _ _ _ (by omega)]
    refine Finset.sum_congr rfl fun k _ => congrArg₂ (· * ·) rfl (congrArg (fun q => x2 (ix2 k q)) (Fin.ext ?_))
    show 2304 + (n.val - 2304) = n.val
    omega
  · rw [dif_neg h2, G_out _ _ _ _ _ (by omega)]
    refine congrArg (fun q => x3 (ix2 i q)) (Fin.ext ?_)
    show 6912 + (n.val - 2304 - 4608) = n.val
    omega

/-- The kernel's result is the reference's. -/
theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => (dats m 0 c).arrAt 3 (cfgM m).N, ?_, ?_⟩
  · exact (θ_run defs _ _).mono (fun r hr c => hr.1 c) (run_result m g)
  refine (θ_run Cert.Reference7Ideal.defs _ _).mono (fun r hr c => ⟨(hr c).1.trans ?_, (hr c).2⟩)
    (Cert.Reference7Ideal.Value.run (F := Ideal) m' g')
  obtain rfl : c = 0 := Subsingleton.elim _ _
  obtain ⟨e0, e1, e2, e3⟩ := hargs 0
  rw [e0, e1, e2, e3]
  refine Eq.trans ?_ (final m 0).symm
  funext y
  obtain ⟨i, n, rfl⟩ : ∃ (i : Fin 4352) (n : Fin 9216), y = ix2 i n := ⟨y 0, y 1, eq_ix2 (show S4352x9216.Idx from y)⟩
  exact reference_at _ _ _ _ _ _ _ _ _ i n

end Cert.XyProj
end
-- ==== Proof.In.Parts8.lean ====
/- The values of the call `in_proj_diag`: the columns it writes are the product of the rows with the weights' same columns;
   the others stay as they were. -/
module
public import proofs.«01_k».proof.Proof.In.Run8Ideal
public import proofs.«01_k».proof.Proof.Gen.Reference8Ideal.Run
public import proofs.«01_k».proof.Defs
public import Idealize.ShloMosaic.Lib.Pointwise
public import Idealize.ShloMosaic.Lib.Pipeline.ValueKit
public import Idealize.ShloMosaic.Lib.Pipeline.ValueKit.Partial
@[expose] public section
set_option maxRecDepth 16384
noncomputable section
namespace Cert.DiagProj
open Cert.Kernel8Ideal Cert.Kernel8Ideal.Gen Cert.Kernel8Ideal.Parts
open Idealize.ShloMosaic Idealize.ShloMosaic.TcCoe Idealize.SL.Sem

theorem index0 : ∀ i : grid0.Coords, cc0_transform_0 i = ![(i 1).val, 0] := by decide +kernel
theorem index1 : ∀ i : grid0.Coords, cc0_transform_1 i = ![0, (i 2).val] := by decide +kernel

theorem row_lt (t : Fin grid0.N) (a : Fin 544) : (grid0.coords t 1).val * 544 + a.val < 4352 := by
  have h : (grid0.coords t 1).val < 8 := (grid0.coords t 1).isLt
  omega

theorem in_lt (t : Fin grid0.N) (b : Fin 768) : (grid0.coords t 2).val * 768 + b.val < 2304 := by
  have h : (grid0.coords t 2).val < 3 := (grid0.coords t 2).isLt
  omega

theorem out_lt (t : Fin grid0.N) (b : Fin 768) : (9 + (grid0.coords t 2).val) * 768 + b.val < 9216 := by
  have h : (grid0.coords t 2).val < 3 := (grid0.coords t 2).isLt
  omega

/-- The rows the call multiplies: the context's, then the sequence's. -/
def rows (x : FVec Ideal S256x4096 .f32) (y : FVec Ideal S4096x4096 .f32) (i : Fin 4352) (k : Fin 4096) : EReal :=
  if hi : i.val < 256 then x (ix2 ⟨i.val, hi⟩ k) else y (ix2 ⟨i.val - 256, by omega⟩ k)

/-- The call's result from the rows, the weights and the earlier contents. -/
def G (x : Fin 4352 → Fin 4096 → EReal) (w : FVec Ideal S4096x9216 .f32) (old : FVec Ideal S4352x9216 .f32) : FVec Ideal S4352x9216 .bf16 := fun i =>
  if 6912 ≤ (show Fin 9216 from i 1).val then ∑ k : Fin 4096, x (show Fin 4352 from i 0) k * w (ix2 k (show Fin 9216 from i 1)) else old i

theorem G_in (x w old) (i : Fin 4352) (n : Fin 9216) (hn : 6912 ≤ n.val) : G x w old (ix2 i n) = ∑ k : Fin 4096, x i k * w (ix2 k n) := if_pos hn
theorem G_out (x w old) (i : Fin 4352) (n : Fin 9216) (hn : ¬(6912 ≤ n.val)) : G x w old (ix2 i n) = old (ix2 i n) := if_neg hn

theorem pay1 (x0 : Vec Ideal S544x4096 .bf16) (x1 : Vec Ideal S4096x768 .bf16) (a : Fin 544) (b : Fin 768) :
    k0_pay1 x0 x1 (ix2 a b) = ∑ k : Fin 4096, x0 (ix2 a k) * x1 (ix2 k b) := by
  unfold_payloads
  pointwise

variable (m : (ℓ : Loc nD τ sig) → Buf (Elt Ideal) ℓ) (c : Dev nD)

theorem read0 (t : Fin grid0.N) (a : Fin 544) (k : Fin 4096) :
    iblk m c 0 t (ix2 a k) = V m c main_v1 (ix2 ⟨(grid0.coords t 1).val * 544 + a.val, row_lt t a⟩ k) := by
  blk_ext [iblk]
  · exact congrArg (· * 544 + a.val) (congrFun (index0 (grid0.coords t)) 0)
  · exact (congrArg (· * 4096 + k.val) (congrFun (index0 (grid0.coords t)) 1)).trans (by simp)

theorem read1 (t : Fin grid0.N) (k : Fin 4096) (b : Fin 768) :
    iblk m c 1 t (ix2 k b) = V m c main_v3 (ix2 k ⟨(grid0.coords t 2).val * 768 + b.val, in_lt t b⟩) := by
  blk_ext [iblk]
  · exact (congrArg (· * 4096 + k.val) (congrFun (index1 (grid0.coords t)) 0)).trans (by simp)
  · exact congrArg (· * 768 + b.val) (congrFun (index1 (grid0.coords t)) 1)

theorem place (t : Fin grid0.N) : cc0_transform_3 Gen.k0_off1_inb Gen.numel1_S1 (tbl m) (grid0.coords t)
    = ![(grid0.coords t 1).val, 9 + (grid0.coords t 2).val] := by
  rw [tbl_tab]
  exact cells _

theorem emb (t : Fin grid0.N) (a : Fin 544) (b : Fin 768) :
    ((((cfgM m).win 2).blk t).view.emb (ix2 a b) : S4352x9216.Idx)
      = ix2 ⟨(grid0.coords t 1).val * 544 + a.val, row_lt t a⟩ ⟨(9 + (grid0.coords t 2).val) * 768 + b.val, out_lt t b⟩ := by
  blk_ext
  · exact congrArg (· * 544 + a.val) (congrFun (place m t) 0)
  · exact congrArg (· * 768 + b.val) (congrFun (place m t) 1)

/-- The blocks of the result that the call writes. -/
abbrev Written (β : Fin 2 → Nat) : Prop := 9 ≤ β 1

/-- The blocks the points write are those of the written columns. -/
theorem covers_tab : ((cfg0 (F := Ideal) ⟨tab, ok_tab⟩).win 2).CoversWhere Written := by decide +kernel

theorem covers_of : ∀ a : (pcfg0 (F := Ideal)).Adm, a.1 = tab → ((cfg0 a).win 2).CoversWhere Written := by
  rintro ⟨_, h⟩ rfl
  exact covers_tab

theorem covers : ((cfgM m).win 2).CoversWhere Written := covers_of (adm m) (tbl_tab m)

theorem V_rows : (V m c main_v1 : FVec Ideal S4352x4096 .bf16) = truncf (F := Ideal) .bf16 (concatenate S4352x4096 0 [
      ⟨S256x4096, (m ((c : Thread nD τ).loc main_arg1) : FVec Ideal S256x4096 .f32)⟩,
      ⟨S4096x4096, (m ((c : Thread nD τ).loc main_arg0) : FVec Ideal S4096x4096 .f32)⟩] Gen.concatenates_S256x4096_S4096x4096_S4352x4096_d0) Gen.bitsLt_bf16_f32 := by
  show (StableHlo.after hostOps0 (fun b => m (c, b)) main_v1 : FVec Ideal S4352x4096 .bf16) = _
  simp only [hostOps0]
  after_results

theorem rows_eq (i : Fin 4352) (k : Fin 4096) : (V m c main_v1 : FVec Ideal S4352x4096 .bf16) (ix2 i k)
    = rows (m ((c : Thread nD τ).loc main_arg1)) (m ((c : Thread nD τ).loc main_arg0)) i k := by
  refine (congrFun (V_rows m c) _).trans ?_
  pointwise
  rfl

theorem V_weights1 : (V m c main_v3 : FVec Ideal S4096x2304 .bf16) = truncf (F := Ideal) .bf16 (extractStridedSlice S4096x2304 ![0, 6912]
      (m ((c : Thread nD τ).loc main_arg2) : FVec Ideal S4096x9216 .f32) Gen.slices_S4096x9216_S4096x2304_0_6912) Gen.bitsLt_bf16_f32 := by
  show (StableHlo.after hostOps0 (fun b => m (c, b)) main_v3 : FVec Ideal S4096x2304 .bf16) = _
  simp only [hostOps0]
  after_results

theorem weights1 (k : Fin 4096) (j : Fin 2304) (n : Fin 9216) (hn : n.val = 6912 + j.val) : (V m c main_v3 : FVec Ideal S4096x2304 .bf16) (ix2 k j)
    = (m ((c : Thread nD τ).loc main_arg2) : FVec Ideal S4096x9216 .f32) (ix2 k n) := by
  refine (congrFun (V_weights1 m c) _).trans ?_
  pointwise
  exact congrArg (fun q => (m ((c : Thread nD τ).loc main_arg2) : FVec Ideal S4096x9216 .f32) (ix2 k q)) (Fin.ext hn.symm)

theorem V_old : (V m c main_v5 : FVec Ideal S4352x9216 .bf16) = truncf (F := Ideal) .bf16 (m ((c : Thread nD τ).loc main_arg3) : FVec Ideal S4352x9216 .f32) Gen.bitsLt_bf16_f32 := by
  show (StableHlo.after hostOps0 (fun b => m (c, b)) main_v5 : FVec Ideal S4352x9216 .bf16) = _
  simp only [hostOps0]
  after_results
  rfl

theorem written_col (t : Fin grid0.N) (b : Fin 768) : 6912 ≤ ((9 + (grid0.coords t 2).val) * 768 + b.val) := by
  have h2 : (grid0.coords t 2).val < 3 := (grid0.coords t 2).isLt
  have h0 : (grid0.coords t 0).val < 1 := (grid0.coords t 0).isLt
  omega

/-- A point's block of the result. -/
theorem tile (t : Fin grid0.N) (a : Fin 544) (b : Fin 768) : outAt m c t (ix2 a b)
    = G (rows (m ((c : Thread nD τ).loc main_arg1)) (m ((c : Thread nD τ).loc main_arg0))) (m ((c : Thread nD τ).loc main_arg2)) (m ((c : Thread nD τ).loc main_arg3)) (ix2 ⟨(grid0.coords t 1).val * 544 + a.val, row_lt t a⟩ ⟨(9 + (grid0.coords t 2).val) * 768 + b.val, out_lt t b⟩) := by
  rw [G_in _ _ _ _ _ (written_col t b)]
  unfold outAt
  refine (pay1 (iblk m c 0 t) (iblk m c 1 t) a b).trans (Finset.sum_congr rfl fun k _ => congrArg₂ (· * ·) ?_ ?_)
  · exact (read0 m c t a k).trans (rows_eq m c _ k)
  · refine (read1 m c t k b).trans (weights1 m c k _ _ ?_)
    show (9 + (grid0.coords t 2).val) * 768 + b.val = 6912 + ((grid0.coords t 2).val * 768 + b.val)
    omega

/-- The kernel's result. -/
theorem final : (dats m 0 c).arrAt 2 (cfgM m).N = G (rows (m ((c : Thread nD τ).loc main_arg1)) (m ((c : Thread nD τ).loc main_arg0))) (m ((c : Thread nD τ).loc main_arg2)) (m ((c : Thread nD τ).loc main_arg3)) := by
  refine (dats m 0 c).arrAt_eq_of_coversWhere_of_agree 2 _ Written (covers m) (fun t hf y => ?_) (fun j hj => ?_)
  · blk_simp
    rw [after2]
    have hy : ∃ (a : Fin 544) (b : Fin 768), (y : S544x768.Idx) = ix2 a b :=
      ⟨(show S544x768.Idx from y) 0, (show S544x768.Idx from y) 1, eq_ix2 (show S544x768.Idx from y)⟩
    obtain ⟨a, b, rfl⟩ := hy
    rw [emb m t a b]
    exact tile m c t a b
  · have hy : ∃ (r : Fin 4352) (n : Fin 9216), (j : S4352x9216.Idx) = ix2 r n :=
      ⟨(show S4352x9216.Idx from j) 0, (show S4352x9216.Idx from j) 1, eq_ix2 (show S4352x9216.Idx from j)⟩
    obtain ⟨r, n, rfl⟩ := hy
    have hn : ¬(6912 ≤ n.val) := by
      have : ¬(9 ≤ n.val / 768) := hj
      omega
    rw [A_eq]
    exact (congrFun (V_old m c) (ix2 r n)).trans (G_out _ _ _ r n hn).symm

/-- The reference's result at an index. -/
theorem reference_at (x0 : FVec Ideal S4096x4096 .f32) (x1 : FVec Ideal S256x4096 .f32) (x2 : FVec Ideal S4096x9216 .f32) (x3 : FVec Ideal S4352x9216 .f32) (s1 s2 s3 s4)
    (i : Fin 4352) (n : Fin 9216) :
    (concatenate Cert.Reference8Ideal.S4352x9216 1 [
        ⟨Cert.Reference8Ideal.S4352x6912, (extractStridedSlice Cert.Reference8Ideal.S4352x6912 ![0, 0] (truncf (F := Ideal) .bf16 x3 Gen.bitsLt_bf16_f32) s1 : FVec Ideal Cert.Reference8Ideal.S4352x6912 .bf16)⟩,
        ⟨Cert.Reference8Ideal.S4352x2304, (truncf (F := Ideal) .bf16 (Host.dotGeneral (F := Ideal) (φ₁ := .f32) (φ₂ := .f32) Cert.Reference8Ideal.dot_S4352x4096_S4096x2304_S4352x2304_1_0_0_1_n_n none
          (concatenate Cert.Reference8Ideal.S4352x4096 0 [⟨Cert.Reference8Ideal.S256x4096, x1⟩, ⟨Cert.Reference8Ideal.S4096x4096, x0⟩] s2)
          (extractStridedSlice Cert.Reference8Ideal.S4096x2304 ![0, 6912] x2 s3)) Gen.bitsLt_bf16_f32 : FVec Ideal Cert.Reference8Ideal.S4352x2304 .bf16)⟩] s4
        : FVec Ideal Cert.Reference8Ideal.S4352x9216 .bf16) (ix2 i n)
      = G (rows x1 x0) x2 x3 (ix2 i n) := by
  pointwise
  by_cases h1 : n.val < 6912
  · rw [dif_pos h1, G_out _ _ _ _ _ (by omega)]
  · rw [dif_neg h1, G_in _ _ _ _ _ (by omega)]
    refine Finset.sum_congr rfl fun k _ => congrArg₂ (· * ·) rfl (congrArg (fun q => x2 (ix2 k q)) (Fin.ext ?_))
    show 6912 + (n.val - 6912) = n.val
    omega

/-- The kernel's result is the reference's. -/
theorem algebraic : Cert.algebraic_Kernel8Ideal_Reference8Ideal (hKernel8Ideal := Cert.Kernel8Ideal.Gen.facts) (hReference8Ideal := Cert.Reference8Ideal.Gen.facts) := by
  intro m g m' g' _ hargs
  refine ⟨fun c => (dats m 0 c).arrAt 2 (cfgM m).N, ?_, ?_⟩
  · exact (θ_run defs _ _).mono (fun r hr c => hr.1 c) (run_result m g)
  refine (θ_run Cert.Reference8Ideal.defs _ _).mono (fun r hr c => ⟨(hr c).1.trans ?_, (hr c).2⟩)
    (Cert.Reference8Ideal.Value.run (F := Ideal) m' g')
  obtain rfl : c = 0 := Subsingleton.elim _ _
  obtain ⟨e0, e1, e2, e3⟩ := hargs 0
  rw [e0, e1, e2, e3]
  refine Eq.trans ?_ (final m 0).symm
  funext y
  obtain ⟨i, n, rfl⟩ : ∃ (i : Fin 4352) (n : Fin 9216), y = ix2 i n := ⟨y 0, y 1, eq_ix2 (show S4352x9216.Idx from y)⟩
  exact reference_at _ _ _ _ _ _ _ _ i n

end Cert.DiagProj
end
-- ==== Proof.Pool.Wgrad.lean ====
/- The weight gradient of the pooling mixer's groups: the points of a group add up, in one buffer, the products of eight
   tiles of rows, and the last one writes the sum, which is the contraction over all rows. -/
module
public import proofs.«01_k».proof.Proof.Gen.Kernel9Ideal.Value
public import proofs.«01_k».proof.Proof.Gen.Reference9Ideal.Run
public import proofs.«01_k».proof.Defs
public import Idealize.ShloMosaic.Lib.Pointwise
public import Idealize.ShloMosaic.Lib.Pipeline.ValueKit
public import Idealize.ShloMosaic.Lib.Pipeline.ValueKit.Acc
@[expose] public section
set_option maxRecDepth 16384
noncomputable section
namespace Cert.PoolWgrad
open Cert.Kernel9Ideal Cert.Kernel9Ideal.Gen Cert.Kernel9Ideal.Facts
open Idealize.ShloMosaic Idealize.ShloMosaic.TcCoe Idealize.SL.Sem

/-- Each window's block at grid point `t`: group `t / 8`, tile `t % 8` of the rows. -/
theorem index_facts : ∀ t : Fin grid0.N, win0_0.index t = ![t.val % 8, t.val / 8] ∧ win0_1.index t = ![t.val % 8, 4 + t.val / 8]
    ∧ win0_2.index t = ![t.val / 8, 0, 0] := by decide +kernel

theorem group_lt (t : Fin cfg0.N) : t.val / 8 < 4 := by
  have h : t.val < 32 := t.isLt
  omega

/-- Column `p` of group `g` among the pooled columns. -/
def colA (g : Fin 4) (p : Fin 512) : Fin 2048 := ⟨g.val * 512 + p.val, by omega⟩
/-- Column `q` of group `g` among the merged columns, the attention's 2048 before them. -/
def colB (g : Fin 4) (q : Fin 512) : Fin 4096 := ⟨(4 + g.val) * 512 + q.val, by omega⟩

/-- Each group's product, contracted over the rows. -/
def G (a : Vec Ideal S4096x2048 .f32) (b : Vec Ideal S4096x4096 .f32) : FVec Ideal S4x512x512 .bf16 := fun i =>
  ∑ k : Fin 4096, a (ix2 k (colA (show Fin 4 from i 0) (show Fin 512 from i 1))) * b (ix2 k (colB (show Fin 4 from i 0) (show Fin 512 from i 2)))

theorem G_ix (a b) (g : Fin 4) (p q : Fin 512) : G a b (ix3 g p q) = ∑ k : Fin 4096, a (ix2 k (colA g p)) * b (ix2 k (colB g q)) := rfl

theorem zeros (p q : Fin 512) : k0_pay1 (F := Ideal) (ix2 p q) = (0 : EReal) := by
  unfold_payloads
  pointwise

theorem pay (acc : Vec Ideal S512x512 .f32) (x0 x1 : Vec Ideal S512x512 .bf16) (p q : Fin 512) :
    k0_pay2 acc x0 x1 (ix2 p q) = (show EReal from acc (ix2 p q)) + ∑ k : Fin 512, x0 (ix2 k p) * x1 (ix2 k q) := by
  unfold_payloads
  pointwise

theorem written (acc : Vec Ideal S512x512 .f32) (p q : Fin 512) : k0_pay3 acc (ix3 0 p q) = acc (ix2 p q) := by
  unfold_payloads
  pointwise

section Points
variable (c : Dev nD) (i : grid0.Coords) (arg2 : Memref sig .tc .vmem S512x512 .bf16) (harg2 : arg2.IsWhole) (arg3 : Memref sig .tc .vmem S512x512 .bf16) (harg3 : arg3.IsWhole)
  (arg4 : Memref sig .tc .vmem S1x512x512 .bf16) (harg4 : arg4.IsWhole) (arg5 : Memref sig .tc .vmem S512x512 .f32) (harg5 : arg5.IsWhole)
  (x0 x1 : Vec Ideal S512x512 .bf16) (xs : Vec Ideal S512x512 .f32)

theorem first (hc0 : cond0_0 i) (hc1 : ¬cond0_1 i) :
    sout0_A_0 c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  simp only [View.readAt_eq_ld, harg2.read_unread, harg3.read_unread]
  refine (View.canon_cons_unit_lit' (S := S512x512) _ _ _ (by intro a; fin_cases a <;> rfl)).trans ?_
  congr 1
  · exact View.readCov_unit_lit' (S := S512x512) _ _ _ (by intro a; fin_cases a <;> rfl)
  · exact View.ld_unit_lit' (S := S512x512) _ _ (by intro a; fin_cases a <;> rfl)
  · exact View.ld_unit_lit' (S := S512x512) _ _ (by intro a; fin_cases a <;> rfl)

theorem middle (hc0 : ¬cond0_0 i) (hc1 : ¬cond0_1 i) :
    sout0_B_0 c i arg2 harg2 arg3 harg3 arg4 harg4 arg5 harg5 hc0 hc1 x0 x1 xs = k0_pay2 xs x0 x1 := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  simp only [View.readAt_eq_ld, harg2.read_unread, harg3.read_unread, harg5.read_unread]
  refine (View.canon_cons_unit_lit' (S := S512x512) _ _ _ (by intro a; fin_cases a <;> rfl)).trans ?_
  congr 1 <;> exact View.ld_unit_lit' (S := S512x512) _ _ (by intro a; fin_cases a <;> rfl)

theorem last (hc0 : ¬cond0_0 i) (hc1 : cond0_1 i) :
    sout0_C_0 c i arg2 harg2 arg3 harg3 arg4 harg4 arg5 harg5 hc0 hc1 x0 x1 xs = k0_pay2 xs x0 x1 := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  simp only [View.readAt_eq_ld, harg2.read_unread, harg3.read_unread, harg5.read_unread]
  refine (View.canon_cons_unit_lit' (S := S512x512) _ _ _ (by intro a; fin_cases a <;> rfl)).trans ?_
  congr 1 <;> exact View.ld_unit_lit' (S := S512x512) _ _ (by intro a; fin_cases a <;> rfl)

theorem last_out (hc0 : ¬cond0_0 i) (hc1 : cond0_1 i) :
    out0_C_2 c i arg2 harg2 arg3 harg3 arg4 harg4 arg5 harg5 hc0 hc1 x0 x1 xs = k0_pay3 (k0_pay2 xs x0 x1) := by
  unfold out0_C_2
  rw [View.read_writes_eq_canon _ _ _ (cover0_C_2 c i arg2 harg2 arg3 harg3 arg4 harg4 arg5 harg5 hc0 hc1 x0 x1 xs)]
  unfold kernelRun0_C
  dsimp only
  sl_unfold_words
  simp only [View.readAt_eq_ld, harg2.read_unread, harg3.read_unread, harg5.read_unread]
  refine (View.canon_cons_unit_lit' (S := S1x512x512) _ _ _ (by intro a; fin_cases a <;> rfl)).trans ?_
  refine congrArg k0_pay3 ((View.readCov_unit_lit' (S := S512x512) _ _ _ (by intro a; fin_cases a <;> rfl)).trans ?_)
  congr 1 <;> exact View.ld_unit_lit' (S := S512x512) _ _ (by intro a; fin_cases a <;> rfl)

end Points

variable (m : (ℓ : Loc nD τ sig) → Buf (Elt Ideal) ℓ) (c : Dev nD)

theorem sA (t : Fin cfg0.N) (h0 : t.val % 8 = 0) (h1 : ¬t.val % 8 = 7) :
    (outsAt0 m c t.val t.isLt).2 = k0_pay2 (k0_pay1 (F := Ideal)) (iblk m c 0 t) (iblk m c 1 t) := by
  simp only [outsAt0_A m c t h0 h1]
  exact first c _ _ _ _ _ _ _ _ _ _ _ _ _

theorem sB (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  generalize (outsAt0 m c (t.val - 1) _).2 = prev
  exact middle c _ _ _ _ _ _ _ _ _ _ _ _ _ _

theorem sC (t : Fin cfg0.N) (h0 : ¬t.val % 8 = 0) (h1 : t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  generalize (outsAt0 m c (t.val - 1) _).2 = prev
  exact last c _ _ _ _ _ _ _ _ _ _ _ _ _ _

theorem oC (t : Fin cfg0.N) (h0 : ¬t.val % 8 = 0) (h1 : t.val % 8 = 7) :
    (outsAt0 m c t.val t.isLt).1 = k0_pay3 (outsAt0 m c t.val t.isLt).2 := by
  rw [sC m c t h0 h1, outsAt0_C m c t h0 h1]
  dsimp only
  generalize (outsAt0 m c (t.val - 1) _).2 = prev
  exact last_out c _ _ _ _ _ _ _ _ _ _ _ _ _ _

/-- What grid point `n` adds. -/
def term (p q : Fin 512) (n : ℕ) : EReal :=
  if hn : n < cfg0.N then ∑ k : Fin 512, (show EReal from iblk m c 0 ⟨n, hn⟩ (ix2 k p)) * (show EReal from iblk m c 1 ⟨n, hn⟩ (ix2 k q)) else 0

theorem term_of (p q : Fin 512) (t : Fin cfg0.N) :
    term m c p q t.val = ∑ k : Fin 512, (show EReal from iblk m c 0 t (ix2 k p)) * (show EReal from iblk m c 1 t (ix2 k q)) := by
  unfold term
  rw [dif_pos t.isLt]

/-- The sum after a point. -/
theorem sums (p q : Fin 512) (t : Fin cfg0.N) : (show EReal from (outsAt0 m c t.val t.isLt).2 (ix2 p q))
    = 0 + ∑ s ∈ Finset.range (t.val % 8 + 1), term m c p q (8 * (t.val / 8) + s) := by
  refine Pipeline.eq_sum_of_reset_step (fun n hn => (show EReal from (outsAt0 m c n hn).2 (ix2 p q))) 8 0 (term m c p q) (fun t h0 => ?_) (fun t h0 => ?_) t
  · rw [term_of]
    have h1 : ¬t.val % 8 = 7 := by omega
    show (outsAt0 m c t.val t.isLt).2 (ix2 p q) = _
    rw [sA m c t h0 h1, pay]
    exact congrArg₂ (· + ·) (zeros p q) rfl
  · rw [term_of]
    show (outsAt0 m c t.val t.isLt).2 (ix2 p q) = _
    by_cases h1 : t.val % 8 = 7
    · rw [sC m c t h0 h1, pay]
    · rw [sB m c t h0 h1, pay]

/-- The last point of a group writes the sum. -/
theorem out_last (p q : Fin 512) (t : Fin cfg0.N) (h1 : t.val % 8 = 7) :
    (show EReal from (outsAt0 m c t.val t.isLt).1 (ix3 0 p q)) = ∑ s ∈ Finset.range 8, term m c p q (8 * (t.val / 8) + s) := by
  have h0 : ¬t.val % 8 = 0 := by omega
  rw [oC m c t h0 h1]
  refine (written _ p q).trans ?_
  refine (sums m c p q t).trans ?_
  rw [h1, zero_add]

theorem read0 (t : Fin cfg0.N) (g : Fin 4) (hg : g.val = t.val / 8) (r : Fin 4096) (k p : Fin 512) (hr : r.val = t.val % 8 * 512 + k.val) :
    iblk m c 0 t (ix2 k p) = V m c main_v0 (ix2 r (colA g p)) := by
  obtain ⟨g, hlt⟩ := g
  obtain ⟨r, hrt⟩ := r
  subst hg hr
  blk_ext [iblk, (index_facts t).1, colA]

theorem read1 (t : Fin cfg0.N) (g : Fin 4) (hg : g.val = t.val / 8) (r : Fin 4096) (k q : Fin 512) (hr : r.val = t.val % 8 * 512 + k.val) :
    iblk m c 1 t (ix2 k q) = V m c main_v1 (ix2 r (colB g q)) := by
  obtain ⟨g, hlt⟩ := g
  obtain ⟨r, hrt⟩ := r
  subst hg hr
  blk_ext [iblk, (index_facts t).2.1, colB]

/-- A group's terms are the contraction over all rows. -/
theorem total (p q : Fin 512) (g : Fin 4) :
    ∑ s ∈ Finset.range 8, term m c p q (8 * g.val + s)
      = ∑ k : Fin 4096, (show EReal from V m c main_v0 (ix2 k (colA g p))) * (show EReal from V m c main_v1 (ix2 k (colB g q))) := by
  rw [Finset.sum_range]
  refine Eq.trans ?_ (Equiv.sum_comp (finProdFinEquiv (m := 8) (n := 512)) (fun k => (show EReal from V m c main_v0 (ix2 (show Fin 4096 from k) (colA g p)))
    * (show EReal from V m c main_v1 (ix2 (show Fin 4096 from k) (colB g q)))))
  rw [Fintype.sum_prod_type]
  refine Finset.sum_congr rfl fun s _ => ?_
  have hN : 8 * g.val + s.val < cfg0.N := by
    show 8 * g.val + s.val < 32
    omega
  refine (term_of m c p q ⟨8 * g.val + s.val, hN⟩).trans (Finset.sum_congr rfl fun k _ => congrArg₂ (· * ·) ?_ ?_)
  · exact read0 m c _ g (by show g.val = (8 * g.val + s.val) / 8; omega) _ k p (by show k.val + 512 * s.val = (8 * g.val + s.val) % 8 * 512 + k.val; omega)
  · exact read1 m c _ g (by show g.val = (8 * g.val + s.val) / 8; omega) _ k q (by show k.val + 512 * s.val = (8 * g.val + s.val) % 8 * 512 + k.val; omega)

theorem V_left : V m c main_v0 = (m ((c : Thread nD τ).loc main_arg0) : Vec Ideal S4096x2048 .f32) := by
  show StableHlo.after hostOps0 (fun b => m (c, b)) main_v0 = truncf (F := Ideal) .bf16 (m ((c : Thread nD τ).loc main_arg0)) bitsLt_bf16_f32
  after_results

theorem V_right : V m c main_v1 = (m ((c : Thread nD τ).loc main_arg1) : Vec Ideal S4096x4096 .f32) := by
  show StableHlo.after hostOps0 (fun b => m (c, b)) main_v1 = truncf (F := Ideal) .bf16 (m ((c : Thread nD τ).loc main_arg1)) bitsLt_bf16_f32
  after_results

theorem emb (t : Fin cfg0.N) (p q : Fin 512) :
    ((win0_2.blk t).view.emb (ix3 0 p q) : S4x512x512.Idx) = ix3 ⟨t.val / 8, group_lt t⟩ p q := by
  blk_ext [(index_facts t).2.2]

theorem final : (dats m 0 c).arrAt 2 cfg0.N = G (V m c main_v0) (V m c main_v1) := by
  refine (dats m 0 c).arrAt_eq_of_covers 2 _ (by decide +kernel) fun t hf y => ?_
  blk_simp
  rw [after0_2]
  have hy : ∃ (p q : Fin 512), (y : S1x512x512.Idx) = ix3 0 p q := by
    refine ⟨y 1, y 2, (eq_ix3 (show S1x512x512.Idx from y)).trans ?_⟩
    exact congrArg (fun z => ix3 z _ _) (Subsingleton.elim (α := Fin 1) _ _)
  obtain ⟨p, q, rfl⟩ := hy
  rw [emb t p q, G_ix]
  exact (out_last m c p q t ((flush0_2 t).mp hf)).trans (total m c p q ⟨t.val / 8, group_lt t⟩)

/-- The reference's result at an index. -/
theorem ref_eq (a : FVec Ideal S4096x2048 .f32) (b : FVec Ideal S4096x4096 .f32) (t0a t0b t0c t0d t1a t1b t1c t1d t2a t2b t2c t2d t3a t3b t3c t3d s) :
    (truncf (F := Ideal) .bf16 (concatenate (α := Ideal .f32) Cert.Reference9Ideal.S4x512x512 0 [
        ⟨Cert.Reference9Ideal.S1x512x512, broadcastInDim Cert.Reference9Ideal.S1x512x512 ![1, 2] t0b (transpose Cert.Reference9Ideal.S512x512 [1, 0] (Host.dotGeneral (F := Ideal) (φ₁ := .f32) (φ₂ := .f32)
          Cert.Reference9Ideal.dot_S4096x512_S4096x512_S512x512_0_0_1_1_n_n none (extractStridedSlice Cert.Reference9Ideal.S4096x512 ![0, 2048] b t0d) (extractStridedSlice Cert.Reference9Ideal.S4096x512 ![0, 0] a t0c)) t0a)⟩,
        ⟨Cert.Reference9Ideal.S1x512x512, broadcastInDim Cert.Reference9Ideal.S1x512x512 ![1, 2] t1b (transpose Cert.Reference9Ideal.S512x512 [1, 0] (Host.dotGeneral (F := Ideal) (φ₁ := .f32) (φ₂ := .f32)
          Cert.Reference9Ideal.dot_S4096x512_S4096x512_S512x512_0_0_1_1_n_n none (extractStridedSlice Cert.Reference9Ideal.S4096x512 ![0, 2560] b t1d) (extractStridedSlice Cert.Reference9Ideal.S4096x512 ![0, 512] a t1c)) t1a)⟩,
        ⟨Cert.Reference9Ideal.S1x512x512, broadcastInDim Cert.Reference9Ideal.S1x512x512 ![1, 2] t2b (transpose Cert.Reference9Ideal.S512x512 [1, 0] (Host.dotGeneral (F := Ideal) (φ₁ := .f32) (φ₂ := .f32)
          Cert.Reference9Ideal.dot_S4096x512_S4096x512_S512x512_0_0_1_1_n_n none (extractStridedSlice Cert.Reference9Ideal.S4096x512 ![0, 3072] b t2d) (extractStridedSlice Cert.Reference9Ideal.S4096x512 ![0, 1024] a t2c)) t2a)⟩,
        ⟨Cert.Reference9Ideal.S1x512x512, broadcastInDim Cert.Reference9Ideal.S1x512x512 ![1, 2] t3b (transpose Cert.Reference9Ideal.S512x512 [1, 0] (Host.dotGeneral (F := Ideal) (φ₁ := .f32) (φ₂ := .f32)
          Cert.Reference9Ideal.dot_S4096x512_S4096x512_S512x512_0_0_1_1_n_n none (extractStridedSlice Cert.Reference9Ideal.S4096x512 ![0, 3584] b t3d) (extractStridedSlice Cert.Reference9Ideal.S4096x512 ![0, 1536] a t3c)) t3a)⟩] s) bitsLt_bf16_f32
      : FVec Ideal S4x512x512 .bf16) = G a b := by
  funext j
  obtain ⟨g, p, q, rfl⟩ : ∃ (g : Fin 4) (p q : Fin 512), j = ix3 g p q := ⟨j 0, j 1, j 2, eq_ix3 j⟩
  rw [G_ix]
  obtain rfl | rfl | rfl | rfl : g = 0 ∨ g = 1 ∨ g = 2 ∨ g = 3 := by revert g; decide
  all_goals
    pointwise
    refine Finset.sum_congr rfl fun k _ => (mul_comm _ _).trans (congrArg₂ (· * ·) (congrArg a ?_) (congrArg b ?_)) <;> pointwise [colA, colB]

/-- The kernel's result is the reference's. -/
theorem algebraic : Cert.algebraic_Kernel9Ideal_Reference9Ideal (hKernel9Ideal := Cert.Kernel9Ideal.Gen.facts)
    (hReference9Ideal := Cert.Reference9Ideal.Gen.facts) := by
  intro m g m' g' _ hargs
  have hs : ∀ c : Dev Cert.Kernel9Ideal.nD, (dats m 0 c).arrAt 2 cfg0.N
      = G (m' ((c.tc : Thread Cert.Reference9Ideal.nD Cert.Reference9Ideal.τ).loc Cert.Reference9Ideal.main_arg0))
        (m' ((c.tc : Thread Cert.Reference9Ideal.nD Cert.Reference9Ideal.τ).loc Cert.Reference9Ideal.main_arg1)) := fun c =>
    (final m c).trans (congrArg₂ G ((V_left m c).trans (hargs c).1.symm) ((V_right m c).trans (hargs c).2.symm))
  refine ⟨fun c => (dats m 0 c).arrAt 2 cfg0.N, Cert.Kernel9Ideal.Value.run_blocks (F := Ideal) m g, ?_⟩
  exact (θ_run Cert.Reference9Ideal.defs _ _).mono (fun r h c => ⟨(h c).1.trans ((ref_eq _ _ _ _ _ _ _ _ _ _ _ _ _ _ _ _ _ _ _).trans (hs c).symm), (h c).2⟩)
    (Cert.Reference9Ideal.Value.run (F := Ideal) m' g')

end Cert.PoolWgrad

end
-- ==== Proof.Pool.Map.lean ====
/- The gradient of the windows' sums: each group's cotangent times its transposed weights, over the windows' lengths. -/
module
public import proofs.«01_k».proof.Proof.Gen.Kernel10Ideal.Value
public import proofs.«01_k».proof.Proof.Gen.Reference10Ideal.Run
public import proofs.«01_k».proof.Defs
public import Idealize.ShloMosaic.Lib.Pointwise
public import Idealize.ShloMosaic.Lib.Pipeline.ValueKit
public import Idealize.ShloMosaic.Lib.Pipeline.ValueKit.Acc
@[expose] public section
set_option maxRecDepth 16384
noncomputable section
namespace Cert.PoolMap
open Cert.Kernel10Ideal Cert.Kernel10Ideal.Gen Cert.Kernel10Ideal.Facts
open Idealize.ShloMosaic Idealize.ShloMosaic.TcCoe Idealize.SL.Sem

/-- Each window's block at grid point `t`: tile `t % 4` of the rows, group `t / 4`. -/
theorem index_facts : ∀ t : Fin grid0.N, win0_0.index t = ![t.val % 4, 4 + t.val / 4] ∧ win0_1.index t = ![t.val / 4, 0, 0]
    ∧ win0_2.index t = ![t.val % 4, t.val / 4] := by decide +kernel

theorem coords_eq : ∀ t : Fin grid0.N, (grid0.coords t 0).val = t.val / 4 ∧ (grid0.coords t 1).val = t.val % 4 := by decide +kernel

theorem group_lt (t : Fin cfg0.N) : t.val / 4 < 4 := by
  have h : t.val < 16 := t.isLt
  omega

theorem row_lt (t : Fin cfg0.N) (i : Fin 1024) : t.val % 4 * 1024 + i.val < 4096 := by omega

/-- Column `p` of group `g` among the pooled columns. -/
def colA (g : Fin 4) (p : Fin 512) : Fin 2048 := ⟨g.val * 512 + p.val, by omega⟩
/-- Column `q` of group `g` among the merged columns, the attention's 2048 before them. -/
def colB (g : Fin 4) (q : Fin 512) : Fin 4096 := ⟨(4 + g.val) * 512 + q.val, by omega⟩

/-- How many rows the window of row `n` has in group `g`, cut at the ends. -/
def len (g : Fin 4) (n : ℕ) : BitVec 32 :=
  IntOp.subi (IntOp.minsi 4096#32 (IntOp.maxsi 0#32 (IntOp.addi (BitVec.ofNat 32 n) (BitVec.ofNat 32 (2 ^ g.val)))))
    (IntOp.minsi 4096#32 (IntOp.maxsi 0#32 (IntOp.subi (BitVec.ofNat 32 n) (BitVec.ofNat 32 (2 ^ g.val)))))

/-- The kernel's count is that length. -/
theorem count : ∀ (g r : Fin 4) (n : Fin 1024),
    IntOp.subi (IntOp.minsi (IntOp.addi (IntOp.addi (Scalar.muli (BitVec.ofNat 32 r.val) 1024#32) (BitVec.ofNat 32 n.val))
        (Scalar.shli 1#32 (BitVec.ofNat 32 g.val))) 4096#32)
      (IntOp.maxsi (IntOp.subi (IntOp.addi (Scalar.muli (BitVec.ofNat 32 r.val) 1024#32) (BitVec.ofNat 32 n.val))
        (Scalar.shli 1#32 (BitVec.ofNat 32 g.val))) 0#32) = len g (r.val * 1024 + n.val) := by decide +kernel

/-- A group's cotangent at a row, over the window's length. -/
def el (a : Vec Ideal S4096x4096 .f32) (w : Vec Ideal S4x512x512 .f32) (n : Fin 4096) (g : Fin 4) (q : Fin 512) : EReal :=
  Ideal.div (∑ k : Fin 512, a (ix2 n (colB g k)) * w (ix3 g q k)) (FloatOps.sitofp (F := Ideal) .f32 (len g n.val))

def G (a : Vec Ideal S4096x4096 .f32) (w : Vec Ideal S4x512x512 .f32) : FVec Ideal S4096x2048 .bf16 := fun i =>
  el a w (show Fin 4096 from i 0) ⟨(show Fin 2048 from i 1).val / 512, by have h := (show Fin 2048 from i 1).isLt; omega⟩
    ⟨(show Fin 2048 from i 1).val % 512, by omega⟩

theorem G_ix (a w) (n : Fin 4096) (g : Fin 4) (q : Fin 512) : G a w (ix2 n (colA g q)) = el a w n g q := by
  have e1 : (⟨(g.val * 512 + q.val) / 512, by omega⟩ : Fin 4) = g := Fin.ext (by show (g.val * 512 + q.val) / 512 = g.val; omega)
  have e2 : (⟨(g.val * 512 + q.val) % 512, by omega⟩ : Fin 512) = q := Fin.ext (by show (g.val * 512 + q.val) % 512 = q.val; omega)
  show el a w n ⟨(g.val * 512 + q.val) / 512, _⟩ ⟨(g.val * 512 + q.val) % 512, _⟩ = _
  rw [e1, e2]

theorem split_col (p : Fin 2048) : ∃ (g : Fin 4) (q : Fin 512), p = colA g q :=
  ⟨⟨p.val / 512, by omega⟩, ⟨p.val % 512, by omega⟩, Fin.ext (by show p.val = p.val / 512 * 512 + p.val % 512; omega)⟩

theorem pay (t : Fin cfg0.N) (x0 : Vec Ideal S1024x512 .bf16) (x1 : Vec Ideal S1x512x512 .bf16) (n : Fin 1024) (q : Fin 512) :
    k0_pay1 (grid0.coords t) x0 x1 (ix2 n q) = Ideal.div (∑ k : Fin 512, x0 (ix2 n k) * x1 (ix3 0 q k))
      (FloatOps.sitofp (F := Ideal) .f32 (len ⟨t.val / 4, group_lt t⟩ (t.val % 4 * 1024 + n.val))) := by
  unfold_payloads
  pointwise
  refine congrArg₂ Ideal.div rfl (congrArg (FloatOps.sitofp (F := Ideal) .f32) ?_)
  have h := count ⟨t.val / 4, group_lt t⟩ ⟨t.val % 4, by omega⟩ n
  rw [(coords_eq t).1, (coords_eq t).2]
  exact h

theorem out_eq (i : grid0.Coords) (x0 : Vec Ideal S1024x512 .bf16) (x1 : Vec Ideal S1x512x512 .bf16) :
    out0_2 i x0 x1 = k0_pay1 i x0 x1 := by
  unfold out0_2
  refine (View.canon_cons_unit_lit' (S := S1024x512) _ _ _ (by intro a; fin_cases a <;> rfl)).trans ?_
  exact congrArg₂ (k0_pay1 i) (View.ld_unit_lit' (S := S1024x512) _ _ (by intro a; fin_cases a <;> rfl))
    (View.ld_unit_lit' (S := S1x512x512) _ _ (by intro a; fin_cases a <;> rfl))

variable (m : (ℓ : Loc nD τ sig) → Buf (Elt Ideal) ℓ) (c : Dev nD)

theorem read0 (t : Fin cfg0.N) (n : Fin 1024) (k : Fin 512) :
    iblk m c 0 t (ix2 n k) = V m c main_v0 (ix2 ⟨t.val % 4 * 1024 + n.val, row_lt t n⟩ (colB ⟨t.val / 4, group_lt t⟩ k)) := by
  blk_ext [iblk, (index_facts t).1, colB]

theorem read1 (t : Fin cfg0.N) (q k : Fin 512) :
    iblk m c 1 t (ix3 0 q k) = V m c main_v1 (ix3 ⟨t.val / 4, group_lt t⟩ q k) := by
  blk_ext [iblk, (index_facts t).2.1]

theorem V_left : V m c main_v0 = (m ((c : Thread nD τ).loc main_arg0) : Vec Ideal S4096x4096 .f32) := by
  show StableHlo.after hostOps0 (fun b => m (c, b)) main_v0 = truncf (F := Ideal) .bf16 (m ((c : Thread nD τ).loc main_arg0)) bitsLt_bf16_f32
  after_results

theorem V_right : V m c main_v1 = (m ((c : Thread nD τ).loc main_arg1) : Vec Ideal S4x512x512 .f32) := by
  show StableHlo.after hostOps0 (fun b => m (c, b)) main_v1 = truncf (F := Ideal) .bf16 (m ((c : Thread nD τ).loc main_arg1)) bitsLt_bf16_f32
  after_results

theorem emb (t : Fin cfg0.N) (n : Fin 1024) (q : Fin 512) :
    ((win0_2.blk t).view.emb (ix2 n q) : S4096x2048.Idx) = ix2 ⟨t.val % 4 * 1024 + n.val, row_lt t n⟩ (colA ⟨t.val / 4, group_lt t⟩ q) := by
  blk_ext [(index_facts t).2.2, colA]

theorem final : (dats m 0 c).arrAt 2 cfg0.N = G (V m c main_v0) (V m c main_v1) := by
  refine (dats m 0 c).arrAt_eq_of_covers 2 _ (by decide +kernel) fun t hf y => ?_
  blk_simp
  rw [after0_2]
  have hy : ∃ (n : Fin 1024) (q : Fin 512), (y : S1024x512.Idx) = ix2 n q := ⟨y 0, y 1, eq_ix2 (show S1024x512.Idx from y)⟩
  obtain ⟨n, q, rfl⟩ := hy
  rw [emb t n q, G_ix, out_eq]
  refine (pay t _ _ n q).trans (congrArg₂ Ideal.div (Finset.sum_congr rfl fun k _ => ?_) rfl)
  rw [← read0, ← read1]

/-- The reference's result at an index. -/
theorem ref_eq (a : FVec Ideal S4096x4096 .f32) (w : FVec Ideal S4x512x512 .f32)
    (t0a t0b t0c t0d t0e t0f t0g t0h t0i t0j t0k t1a t1b t1c t1d t1e t1f t1g t1h t1i t1j t1k t2a t2b t2c t2d t2e t2f t2g t2h t2i t2j t2k t3a t3b t3c t3d t3e t3f t3g t3h t3i t3j t3k s) :
    (truncf (F := Ideal) .bf16 (concatenate (α := Ideal .f32) Cert.Reference10Ideal.S4096x2048 1 [
      ⟨Cert.Reference10Ideal.S4096x512, Host.divf (Host.dotGeneral (F := Ideal) (φ₁ := .f32) (φ₂ := .f32) Cert.Reference10Ideal.dot_S4096x512_S512x512_S4096x512_1_1_0_0_n_n none
          (extractStridedSlice Cert.Reference10Ideal.S4096x512 ![0, 2048] a t0a) (shapeCast Cert.Reference10Ideal.S512x512 (extractStridedSlice Cert.Reference10Ideal.S1x512x512 ![0, 0, 0] w t0b) t0c))
        (broadcastInDim Cert.Reference10Ideal.S4096x512 ![0, 1] t0d (broadcastInDim Cert.Reference10Ideal.S4096x1 ![0] t0e (sitofp .f32
          (subi (minsi (broadcastInDim Cert.Reference10Ideal.S4096 ![] t0f (id (constantI Cert.Reference10Ideal.S_ 32 4096#32))) (maxsi (broadcastInDim Cert.Reference10Ideal.S4096 ![] t0g (id (constantI Cert.Reference10Ideal.S_ 32 0#32))) (addi (iotaInDim Cert.Reference10Ideal.S4096 32 0) (broadcastInDim Cert.Reference10Ideal.S4096 ![] t0h (constantI Cert.Reference10Ideal.S_ 32 1#32)))))
            (minsi (broadcastInDim Cert.Reference10Ideal.S4096 ![] t0i (id (constantI Cert.Reference10Ideal.S_ 32 4096#32))) (maxsi (broadcastInDim Cert.Reference10Ideal.S4096 ![] t0j (id (constantI Cert.Reference10Ideal.S_ 32 0#32))) (subi (iotaInDim Cert.Reference10Ideal.S4096 32 0) (broadcastInDim Cert.Reference10Ideal.S4096 ![] t0k (constantI Cert.Reference10Ideal.S_ 32 1#32)))))))))⟩,
      ⟨Cert.Reference10Ideal.S4096x512, Host.divf (Host.dotGeneral (F := Ideal) (φ₁ := .f32) (φ₂ := .f32) Cert.Reference10Ideal.dot_S4096x512_S512x512_S4096x512_1_1_0_0_n_n none
          (extractStridedSlice Cert.Reference10Ideal.S4096x512 ![0, 2560] a t1a) (shapeCast Cert.Reference10Ideal.S512x512 (extractStridedSlice Cert.Reference10Ideal.S1x512x512 ![1, 0, 0] w t1b) t1c))
        (broadcastInDim Cert.Reference10Ideal.S4096x512 ![0, 1] t1d (broadcastInDim Cert.Reference10Ideal.S4096x1 ![0] t1e (sitofp .f32
          (subi (minsi (broadcastInDim Cert.Reference10Ideal.S4096 ![] t1f (id (constantI Cert.Reference10Ideal.S_ 32 4096#32))) (maxsi (broadcastInDim Cert.Reference10Ideal.S4096 ![] t1g (id (constantI Cert.Reference10Ideal.S_ 32 0#32))) (addi (iotaInDim Cert.Reference10Ideal.S4096 32 0) (broadcastInDim Cert.Reference10Ideal.S4096 ![] t1h (constantI Cert.Reference10Ideal.S_ 32 2#32)))))
            (minsi (broadcastInDim Cert.Reference10Ideal.S4096 ![] t1i (id (constantI Cert.Reference10Ideal.S_ 32 4096#32))) (maxsi (broadcastInDim Cert.Reference10Ideal.S4096 ![] t1j (id (constantI Cert.Reference10Ideal.S_ 32 0#32))) (subi (iotaInDim Cert.Reference10Ideal.S4096 32 0) (broadcastInDim Cert.Reference10Ideal.S4096 ![] t1k (constantI Cert.Reference10Ideal.S_ 32 2#32)))))))))⟩,
      ⟨Cert.Reference10Ideal.S4096x512, Host.divf (Host.dotGeneral (F := Ideal) (φ₁ := .f32) (φ₂ := .f32) Cert.Reference10Ideal.dot_S4096x512_S512x512_S4096x512_1_1_0_0_n_n none
          (extractStridedSlice Cert.Reference10Ideal.S4096x512 ![0, 3072] a t2a) (shapeCast Cert.Reference10Ideal.S512x512 (extractStridedSlice Cert.Reference10Ideal.S1x512x512 ![2, 0, 0] w t2b) t2c))
        (broadcastInDim Cert.Reference10Ideal.S4096x512 ![0, 1] t2d (broadcastInDim Cert.Reference10Ideal.S4096x1 ![0] t2e (sitofp .f32
          (subi (minsi (broadcastInDim Cert.Reference10Ideal.S4096 ![] t2f (id (constantI Cert.Reference10Ideal.S_ 32 4096#32))) (maxsi (broadcastInDim Cert.Reference10Ideal.S4096 ![] t2g (id (constantI Cert.Reference10Ideal.S_ 32 0#32))) (addi (iotaInDim Cert.Reference10Ideal.S4096 32 0) (broadcastInDim Cert.Reference10Ideal.S4096 ![] t2h (constantI Cert.Reference10Ideal.S_ 32 4#32)))))
            (minsi (broadcastInDim Cert.Reference10Ideal.S4096 ![] t2i (id (constantI Cert.Reference10Ideal.S_ 32 4096#32))) (maxsi (broadcastInDim Cert.Reference10Ideal.S4096 ![] t2j (id (constantI Cert.Reference10Ideal.S_ 32 0#32))) (subi (iotaInDim Cert.Reference10Ideal.S4096 32 0) (broadcastInDim Cert.Reference10Ideal.S4096 ![] t2k (constantI Cert.Reference10Ideal.S_ 32 4#32)))))))))⟩,
      ⟨Cert.Reference10Ideal.S4096x512, Host.divf (Host.dotGeneral (F := Ideal) (φ₁ := .f32) (φ₂ := .f32) Cert.Reference10Ideal.dot_S4096x512_S512x512_S4096x512_1_1_0_0_n_n none
          (extractStridedSlice Cert.Reference10Ideal.S4096x512 ![0, 3584] a t3a) (shapeCast Cert.Reference10Ideal.S512x512 (extractStridedSlice Cert.Reference10Ideal.S1x512x512 ![3, 0, 0] w t3b) t3c))
        (broadcastInDim Cert.Reference10Ideal.S4096x512 ![0, 1] t3d (broadcastInDim Cert.Reference10Ideal.S4096x1 ![0] t3e (sitofp .f32
          (subi (minsi (broadcastInDim Cert.Reference10Ideal.S4096 ![] t3f (id (constantI Cert.Reference10Ideal.S_ 32 4096#32))) (maxsi (broadcastInDim Cert.Reference10Ideal.S4096 ![] t3g (id (constantI Cert.Reference10Ideal.S_ 32 0#32))) (addi (iotaInDim Cert.Reference10Ideal.S4096 32 0) (broadcastInDim Cert.Reference10Ideal.S4096 ![] t3h (constantI Cert.Reference10Ideal.S_ 32 8#32)))))
            (minsi (broadcastInDim Cert.Reference10Ideal.S4096 ![] t3i (id (constantI Cert.Reference10Ideal.S_ 32 4096#32))) (maxsi (broadcastInDim Cert.Reference10Ideal.S4096 ![] t3j (id (constantI Cert.Reference10Ideal.S_ 32 0#32))) (subi (iotaInDim Cert.Reference10Ideal.S4096 32 0) (broadcastInDim Cert.Reference10Ideal.S4096 ![] t3k (constantI Cert.Reference10Ideal.S_ 32 8#32)))))))))⟩] s) bitsLt_bf16_f32
      : FVec Ideal S4096x2048 .bf16) = G a w := by
  funext j
  obtain ⟨n, p, rfl⟩ : ∃ (n : Fin 4096) (p : Fin 2048), j = ix2 n p := ⟨j 0, j 1, eq_ix2 j⟩
  obtain ⟨g, q, rfl⟩ := split_col p
  rw [G_ix]
  simp only [id]
  obtain rfl | rfl | rfl | rfl : g = 0 ∨ g = 1 ∨ g = 2 ∨ g = 3 := by revert g; decide
  · pointwise [colA]
    refine congrArg₂ Ideal.div (Finset.sum_congr rfl fun k _ => congrArg₂ (· * ·) (congrArg a ?_) (congrArg w ?_)) rfl <;> pointwise [colB]
  · pointwise [colA]
    refine congrArg₂ Ideal.div (Finset.sum_congr rfl fun k _ => congrArg₂ (· * ·) (congrArg a ?_) (congrArg w ?_)) rfl <;> pointwise [colB]
  · pointwise [colA]
    rw [dif_neg (by omega), dif_neg (by omega), dif_pos (by omega)]
    refine congrArg₂ Ideal.div (Finset.sum_congr rfl fun k _ => congrArg₂ (· * ·) (congrArg a ?_) (congrArg w ?_)) rfl
    · pointwise [colB]
    · exact congrArg (fun z => ix3 2 z k) (Fin.ext (by show 1024 + q.val - 512 - 512 = q.val; omega))
  · pointwise [colA]
    rw [dif_neg (by omega), dif_neg (by omega), dif_neg (by omega)]
    refine congrArg₂ Ideal.div (Finset.sum_congr rfl fun k _ => congrArg₂ (· * ·) (congrArg a ?_) (congrArg w ?_)) rfl
    · pointwise [colB]
    · exact congrArg (fun z => ix3 3 z k) (Fin.ext (by show 1536 + q.val - 512 - 512 - 512 = q.val; omega))

/-- The kernel's result is the reference's. -/
theorem algebraic : Cert.algebraic_Kernel10Ideal_Reference10Ideal (hKernel10Ideal := Cert.Kernel10Ideal.Gen.facts)
    (hReference10Ideal := Cert.Reference10Ideal.Gen.facts) := by
  intro m g m' g' _ hargs
  have hs : ∀ c : Dev Cert.Kernel10Ideal.nD, (dats m 0 c).arrAt 2 cfg0.N
      = G (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1)) := fun c =>
    (final m c).trans (congrArg₂ G ((V_left m c).trans (hargs c).1.symm) ((V_right m c).trans (hargs c).2.symm))
  refine ⟨fun c => (dats m 0 c).arrAt 2 cfg0.N, Cert.Kernel10Ideal.Value.run_blocks (F := Ideal) m g, ?_⟩
  exact (θ_run Cert.Reference10Ideal.defs _ _).mono (fun r h c => ⟨(h c).1.trans (by
      unfold Cert.Reference10Ideal.Value.res_main_v78
      exact (ref_eq _ _ _ _ _ _ _ _ _ _ _ _ _ _ _ _ _ _ _ _ _ _ _ _ _ _ _ _ _ _ _ _ _ _ _ _ _ _ _ _ _ _ _ _ _ _ _).trans (hs c).symm), (h c).2⟩)
    (Cert.Reference10Ideal.Value.run (F := Ideal) m' g')

end Cert.PoolMap

end
-- ==== Proof.lean ====
module

public import proofs.«01_k».proof.Proof.Bwd.Claim
public import proofs.«01_k».proof.Proof.Out.Wgrad
public import proofs.«01_k».proof.Proof.Out.Dgrad
public import proofs.«01_k».proof.Proof.Out.OutProj
public import proofs.«01_k».proof.Proof.In.Half
public import proofs.«01_k».proof.Proof.In.Wgrad
public import proofs.«01_k».proof.Proof.In.Table
public import proofs.«01_k».proof.Proof.In.Dgrad
public import proofs.«01_k».proof.Proof.In.Run7
public import proofs.«01_k».proof.Proof.In.Run7Ideal
public import proofs.«01_k».proof.Proof.In.Run8
public import proofs.«01_k».proof.Proof.In.Run8Ideal
public import proofs.«01_k».proof.Proof.In.Parts7
public import proofs.«01_k».proof.Proof.In.Parts8
public import proofs.«01_k».proof.Proof.Pool.Wgrad
public import proofs.«01_k».proof.Proof.Pool.Map
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Launch
public import proofs.«01_k».proof.Proof.Gen.Kernel7Ideal.Launch
public import proofs.«01_k».proof.Proof.Gen.Reference7Ideal.Run
public import proofs.«01_k».proof.Proof.Gen.Kernel8.Launch
public import proofs.«01_k».proof.Proof.Gen.Kernel8Ideal.Launch
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Defs
public import Idealize.ShloMosaic.Lib.Quiescent

@[expose] public section

noncomputable section

namespace Cert.Proof

open Idealize.ShloMosaic Idealize.SL.Sem

/-- The attention's reference runs, keeps its arguments and leaves every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The weight gradient's reference runs, keeps its arguments and leaves every counter at zero. -/
theorem reference2_frame : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The input gradient's reference runs, keeps its arguments and leaves every counter at zero. -/
theorem reference3_frame : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The projection's reference runs, keeps its arguments and leaves every counter at zero. -/
theorem reference4_frame : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The input projection's weight gradient's reference runs, keeps its arguments and leaves every counter at zero. -/
theorem reference5_frame : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The input projection's input gradient's reference runs, keeps its arguments and leaves every counter at zero. -/
theorem reference6_frame : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The reference of the input projection's two middle quarters of columns runs, keeps its arguments and leaves every counter at zero. -/
theorem reference7_frame : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The reference of the input projection's last quarter of columns runs, keeps its arguments and leaves every counter at zero. -/
theorem reference8_frame : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The reference of the pooled groups' weight gradient runs, keeps its arguments and leaves every counter at zero. -/
theorem reference9_frame : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The reference of the gradient of the windows' sums runs, keeps its arguments and leaves every counter at zero. -/
theorem reference10_frame : Cert.quiescent_Reference10Ideal (hReference10Ideal := Cert.Reference10Ideal.Gen.facts) := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Bwd.pre_facts, Cert.In.half_facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ h => Cert.Kernel5.Gen.frame m ρ (Cert.Kernel5.Half.ok m (Cert.Kernel5.Half.word_of_pre m h)),
  fun m ρ h => Cert.Kernel5Ideal.Gen.frame m ρ (Cert.Kernel5Ideal.Half.ok m (Cert.Kernel5Ideal.Half.word_of_pre m h)),
  reference5_frame,
  fun m ρ _ => reference5_frame m ρ trivial,
  fun m ρ _ => Cert.Kernel6.Gen.frame m ρ (Cert.Kernel6.Table.ok m),
  fun m ρ _ => Cert.Kernel6Ideal.Gen.frame m ρ (Cert.Kernel6Ideal.Table.ok m),
  reference6_frame,
  fun m ρ _ => Cert.Kernel7.Parts.ends m ρ,
  fun m ρ _ => Cert.Kernel7Ideal.Parts.ends m ρ,
  reference7_frame,
  fun m ρ _ => Cert.Kernel8.Parts.ends m ρ,
  fun m ρ _ => Cert.Kernel8Ideal.Parts.ends m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  IdealRules.named_const.statement Cert.KernelIdeal.κ "ln2" .f32 0x3F317218#32 ((Real.log 2 : ℝ) : EReal) rfl,
  Cert.Bwd.algebraic,
  trivial, Cert.Wgrad.algebraic,
  trivial, Cert.Dgrad.algebraic,
  trivial, Cert.OutProj.algebraic,
  trivial, Cert.WgradIn.algebraic,
  trivial, Cert.DgradIn.algebraic,
  trivial, Cert.XyProj.algebraic,
  trivial, Cert.DiagProj.algebraic,
  trivial, Cert.PoolWgrad.algebraic,
  trivial, Cert.PoolMap.algebraic⟩

end Cert.Proof

end
